-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S_ : Shape := ⟨0, ![]⟩
abbrev S1 : Shape := ⟨1, ![1]⟩
abbrev S2 : Shape := ⟨1, ![2]⟩
abbrev S1x1 : Shape := ⟨2, ![1, 1]⟩
abbrev S2x1 : Shape := ⟨2, ![2, 1]⟩
abbrev S2x2 : Shape := ⟨2, ![2, 2]⟩
abbrev S1x2 : Shape := ⟨2, ![1, 2]⟩
abbrev S4x4095 : Shape := ⟨2, ![4, 4095]⟩
abbrev S4095 : Shape := ⟨1, ![4095]⟩
abbrev S1x4095 : Shape := ⟨2, ![1, 4095]⟩
abbrev S4x1 : Shape := ⟨2, ![4, 1]⟩
abbrev S4x4096 : Shape := ⟨2, ![4, 4096]⟩
abbrev S4 : Shape := ⟨1, ![4]⟩
abbrev S16384 : Shape := ⟨1, ![16384]⟩
abbrev S16384x1 : Shape := ⟨2, ![16384, 1]⟩
abbrev S1x4 : Shape := ⟨2, ![1, 4]⟩
abbrev S16384x4 : Shape := ⟨2, ![16384, 4]⟩
abbrev S65536 : Shape := ⟨1, ![65536]⟩
abbrev S32x32x64 : Shape := ⟨3, ![32, 32, 64]⟩
abbrev S131072x2x128 : Shape := ⟨3, ![131072, 2, 128]⟩
abbrev S65536x2x128 : Shape := ⟨3, ![65536, 2, 128]⟩
abbrev S32x64 : Shape := ⟨2, ![32, 64]⟩
abbrev S4x64x2x128 : Shape := ⟨4, ![4, 64, 2, 128]⟩
abbrev S1x32x64 : Shape := ⟨3, ![1, 32, 64]⟩
abbrev S1x64x2x128 : Shape := ⟨4, ![1, 64, 2, 128]⟩
abbrev S64x2x128 : Shape := ⟨3, ![64, 2, 128]⟩
abbrev S1x64 : Shape := ⟨2, ![1, 64]⟩
abbrev S64 : Shape := ⟨1, ![64]⟩
abbrev S4x4096x1024 : Shape := ⟨3, ![4, 4096, 1024]⟩

abbrev nBuf : Table → Nat
  | .hbm => 818
  | .local .scVector .vmem => 2
  | _ => 0

abbrev hbmTy0_0 (i : Nat) : BufTy := match i % 128 with
  | 0 => ⟨S4x8192x1024, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S1x1, .i32⟩
  | 30 => ⟨S1x1, .i32⟩
  | 31 => ⟨S1, .i32⟩
  | 32 => ⟨S_, .i32⟩
  | 33 => ⟨S1, .i32⟩
  | 34 => ⟨S_, .i32⟩
  | 35 => ⟨S2, .i64⟩
  | 36 => ⟨S_, .i64⟩
  | 37 => ⟨S2, .i64⟩
  | 38 => ⟨S2, .i64⟩
  | 39 => ⟨S_, .i64⟩
  | 40 => ⟨S2, .i64⟩
  | 41 => ⟨S2, .i64⟩
  | 42 => ⟨S2, .i32⟩
  | 43 => ⟨S2, .i32⟩
  | 44 => ⟨S_, .i32⟩
  | 45 => ⟨S_, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S4x8192x1024, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S4x8192x1024, .f32⟩

abbrev hbmTy0_2 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S2x1, .i32⟩
  | 11 => ⟨S2x1, .i32⟩
  | 12 => ⟨S2x2, .i32⟩
  | 13 => ⟨S1x2, .i32⟩
  | 14 => ⟨S2, .i32⟩
  | 15 => ⟨S1x2, .i32⟩
  | 16 => ⟨S2, .i32⟩
  | 17 => ⟨S1, .i32⟩
  | 18 => ⟨S_, .i32⟩
  | 19 => ⟨S1, .i32⟩
  | 20 => ⟨S_, .i32⟩
  | 21 => ⟨S4x4095, .i64⟩
  | 22 => ⟨S4x4095, .i64⟩
  | 23 => ⟨S_, .i64⟩
  | 24 => ⟨S4x4095, .i64⟩
  | 25 => ⟨S4x4095, .i64⟩
  | 26 => ⟨S_, .i64⟩
  | 27 => ⟨S4x4095, .i64⟩
  | 28 => ⟨S4x4095, .i64⟩
  | 29 => ⟨S4x4095, .i64⟩
  | 30 => ⟨S_, .i64⟩
  | 31 => ⟨S4x4095, .i64⟩
  | 32 => ⟨S4x4095, .i64⟩
  | 33 => ⟨S4x4095, .i32⟩
  | 34 => ⟨S4x4095, .i32⟩
  | 35 => ⟨S_, .i32⟩
  | 36 => ⟨S_, .i32⟩
  | 37 => ⟨S_, .i32⟩
  | 38 => ⟨S4x4095, .i32⟩
  | 39 => ⟨S4x4095, .i32⟩
  | 40 => ⟨S4x4095, .i32⟩
  | 41 => ⟨S4x4095, .i32⟩
  | 42 => ⟨S4x4095, .i32⟩
  | 43 => ⟨S_, .i32⟩
  | 44 => ⟨S4x4095, .i32⟩
  | 45 => ⟨S4x4095, .i32⟩
  | 46 => ⟨S_, .i32⟩
  | 47 => ⟨S4x4095, .i32⟩
  | 48 => ⟨S4x4095, .i32⟩
  | 49 => ⟨S4x4095, .i32⟩
  | 50 => ⟨S4x4095, .i32⟩
  | 51 => ⟨S4x4095, .i32⟩
  | 52 => ⟨S_, .i32⟩
  | 53 => ⟨S4x4095, .i32⟩
  | 54 => ⟨S4x4095, .i32⟩
  | 55 => ⟨S_, .i32⟩
  | 56 => ⟨S4x4095, .i32⟩
  | 57 => ⟨S4x4095, .i32⟩
  | 58 => ⟨S4x4095, .i32⟩
  | 59 => ⟨S4x4095, .i32⟩
  | 60 => ⟨S4x4095, .i32⟩
  | 61 => ⟨S_, .i32⟩
  | 62 => ⟨S4x4095, .i32⟩
  | 63 => ⟨S4x4095, .i32⟩
  | 64 => ⟨S_, .i32⟩
  | 65 => ⟨S4x4095, .i32⟩
  | 66 => ⟨S4x4095, .i32⟩
  | 67 => ⟨S4x4095, .i32⟩
  | 68 => ⟨S4x4095, .i32⟩
  | 69 => ⟨S4x4095, .i32⟩
  | 70 => ⟨S_, .i32⟩
  | 71 => ⟨S4x4095, .i32⟩
  | 72 => ⟨S4x4095, .i32⟩
  | 73 => ⟨S_, .i32⟩
  | 74 => ⟨S4x4095, .i32⟩
  | 75 => ⟨S4x4095, .i32⟩
  | 76 => ⟨S4x4095, .i32⟩
  | 77 => ⟨S4x4095, .i32⟩
  | 78 => ⟨S4x4095, .i32⟩
  | 79 => ⟨S4x4095, .i32⟩
  | 80 => ⟨S4x4095, .i32⟩
  | 81 => ⟨S4x4095, .i32⟩
  | 82 => ⟨S_, .i32⟩
  | 83 => ⟨S4x4095, .i32⟩
  | 84 => ⟨S4x4095, .i32⟩
  | 85 => ⟨S4x4095, .i32⟩
  | 86 => ⟨S_, .i32⟩
  | 87 => ⟨S4x4095, .i32⟩
  | 88 => ⟨S4x4095, .i32⟩
  | 89 => ⟨S_, .i32⟩
  | 90 => ⟨S4x4095, .i32⟩
  | 91 => ⟨S4x4095, .i32⟩
  | 92 => ⟨S4x4095, .i32⟩
  | 93 => ⟨S4x4095, .i32⟩
  | 94 => ⟨S4x4095, .i32⟩
  | 95 => ⟨S_, .i32⟩
  | 96 => ⟨S4x4095, .i32⟩
  | 97 => ⟨S4x4095, .i32⟩
  | 98 => ⟨S_, .i32⟩
  | 99 => ⟨S4x4095, .i32⟩
  | 100 => ⟨S4x4095, .i32⟩
  | 101 => ⟨S4x4095, .i32⟩
  | 102 => ⟨S4x4095, .i32⟩
  | 103 => ⟨S4x4095, .i32⟩
  | 104 => ⟨S_, .i32⟩
  | 105 => ⟨S4x4095, .i32⟩
  | 106 => ⟨S4x4095, .i32⟩
  | 107 => ⟨S_, .i32⟩
  | 108 => ⟨S4x4095, .i32⟩
  | 109 => ⟨S4x4095, .i32⟩
  | 110 => ⟨S4x4095, .i32⟩
  | 111 => ⟨S4x4095, .i32⟩
  | 112 => ⟨S4x4095, .i32⟩
  | 113 => ⟨S_, .i32⟩
  | 114 => ⟨S4x4095, .i32⟩
  | 115 => ⟨S4x4095, .i32⟩
  | 116 => ⟨S_, .i32⟩
  | 117 => ⟨S4x4095, .i32⟩
  | 118 => ⟨S4x4095, .i32⟩
  | 119 => ⟨S4x4095, .i32⟩
  | 120 => ⟨S4x4095, .i32⟩
  | 121 => ⟨S4x4095, .i32⟩
  | 122 => ⟨S4x4095, .i32⟩
  | 123 => ⟨S4x4095, .i32⟩
  | 124 => ⟨S4x4095, .i32⟩
  | 125 => ⟨S_, .i32⟩
  | 126 => ⟨S4x4095, .i32⟩
  | 127 => ⟨S4x4095, .i32⟩
  | _ => ⟨S4x8192x1024, .f32⟩

abbrev hbmTy0_3 (i : Nat) : BufTy := match i % 128 with
  | 0 => ⟨S4x4095, .i32⟩
  | 1 => ⟨S_, .i32⟩
  | 2 => ⟨S4x4095, .i32⟩
  | 3 => ⟨S4x4095, .i32⟩
  | 4 => ⟨S_, .i32⟩
  | 5 => ⟨S4x4095, .i32⟩
  | 6 => ⟨S4x4095, .i32⟩
  | 7 => ⟨S4x4095, .i32⟩
  | 8 => ⟨S4x4095, .i32⟩
  | 9 => ⟨S4x4095, .i32⟩
  | 10 => ⟨S_, .i32⟩
  | 11 => ⟨S4x4095, .i32⟩
  | 12 => ⟨S4x4095, .i32⟩
  | 13 => ⟨S_, .i32⟩
  | 14 => ⟨S4x4095, .i32⟩
  | 15 => ⟨S4x4095, .i32⟩
  | 16 => ⟨S4x4095, .i32⟩
  | 17 => ⟨S4x4095, .i32⟩
  | 18 => ⟨S4x4095, .i32⟩
  | 19 => ⟨S_, .i32⟩
  | 20 => ⟨S4x4095, .i32⟩
  | 21 => ⟨S4x4095, .i32⟩
  | 22 => ⟨S_, .i32⟩
  | 23 => ⟨S4x4095, .i32⟩
  | 24 => ⟨S4x4095, .i32⟩
  | 25 => ⟨S4x4095, .i32⟩
  | 26 => ⟨S4x4095, .i32⟩
  | 27 => ⟨S4x4095, .i32⟩
  | 28 => ⟨S_, .i32⟩
  | 29 => ⟨S4x4095, .i32⟩
  | 30 => ⟨S4x4095, .i32⟩
  | 31 => ⟨S_, .i32⟩
  | 32 => ⟨S4x4095, .i32⟩
  | 33 => ⟨S4x4095, .i32⟩
  | 34 => ⟨S4x4095, .i32⟩
  | 35 => ⟨S4x4095, .i32⟩
  | 36 => ⟨S4x4095, .i32⟩
  | 37 => ⟨S4x4095, .i32⟩
  | 38 => ⟨S4x4095, .i32⟩
  | 39 => ⟨S4x4095, .i32⟩
  | 40 => ⟨S_, .i32⟩
  | 41 => ⟨S4x4095, .i32⟩
  | 42 => ⟨S4x4095, .i32⟩
  | 43 => ⟨S4x4095, .i32⟩
  | 44 => ⟨S_, .i32⟩
  | 45 => ⟨S4x4095, .i32⟩
  | 46 => ⟨S4x4095, .i32⟩
  | 47 => ⟨S_, .i32⟩
  | 48 => ⟨S4x4095, .i32⟩
  | 49 => ⟨S4x4095, .i32⟩
  | 50 => ⟨S4x4095, .i32⟩
  | 51 => ⟨S4x4095, .i32⟩
  | 52 => ⟨S4x4095, .i32⟩
  | 53 => ⟨S_, .i32⟩
  | 54 => ⟨S4x4095, .i32⟩
  | 55 => ⟨S4x4095, .i32⟩
  | 56 => ⟨S_, .i32⟩
  | 57 => ⟨S4x4095, .i32⟩
  | 58 => ⟨S4x4095, .i32⟩
  | 59 => ⟨S4x4095, .i32⟩
  | 60 => ⟨S4x4095, .i32⟩
  | 61 => ⟨S4x4095, .i32⟩
  | 62 => ⟨S_, .i32⟩
  | 63 => ⟨S4x4095, .i32⟩
  | 64 => ⟨S4x4095, .i32⟩
  | 65 => ⟨S_, .i32⟩
  | 66 => ⟨S4x4095, .i32⟩
  | 67 => ⟨S4x4095, .i32⟩
  | 68 => ⟨S4x4095, .i32⟩
  | 69 => ⟨S4x4095, .i32⟩
  | 70 => ⟨S4x4095, .i32⟩
  | 71 => ⟨S_, .i32⟩
  | 72 => ⟨S4x4095, .i32⟩
  | 73 => ⟨S4x4095, .i32⟩
  | 74 => ⟨S_, .i32⟩
  | 75 => ⟨S4x4095, .i32⟩
  | 76 => ⟨S4x4095, .i32⟩
  | 77 => ⟨S4x4095, .i32⟩
  | 78 => ⟨S4x4095, .i32⟩
  | 79 => ⟨S4x4095, .i32⟩
  | 80 => ⟨S4x4095, .i32⟩
  | 81 => ⟨S4x4095, .i32⟩
  | 82 => ⟨S4x4095, .i32⟩
  | 83 => ⟨S_, .i32⟩
  | 84 => ⟨S4x4095, .i32⟩
  | 85 => ⟨S4x4095, .i32⟩
  | 86 => ⟨S4x4095, .i32⟩
  | 87 => ⟨S_, .i32⟩
  | 88 => ⟨S4x4095, .i32⟩
  | 89 => ⟨S4x4095, .i32⟩
  | 90 => ⟨S_, .i32⟩
  | 91 => ⟨S4x4095, .i32⟩
  | 92 => ⟨S4x4095, .i32⟩
  | 93 => ⟨S4x4095, .i32⟩
  | 94 => ⟨S4x4095, .i32⟩
  | 95 => ⟨S4x4095, .i32⟩
  | 96 => ⟨S_, .i32⟩
  | 97 => ⟨S4x4095, .i32⟩
  | 98 => ⟨S4x4095, .i32⟩
  | 99 => ⟨S_, .i32⟩
  | 100 => ⟨S4x4095, .i32⟩
  | 101 => ⟨S4x4095, .i32⟩
  | 102 => ⟨S4x4095, .i32⟩
  | 103 => ⟨S4x4095, .i32⟩
  | 104 => ⟨S4x4095, .i32⟩
  | 105 => ⟨S_, .i32⟩
  | 106 => ⟨S4x4095, .i32⟩
  | 107 => ⟨S4x4095, .i32⟩
  | 108 => ⟨S_, .i32⟩
  | 109 => ⟨S4x4095, .i32⟩
  | 110 => ⟨S4x4095, .i32⟩
  | 111 => ⟨S4x4095, .i32⟩
  | 112 => ⟨S4x4095, .i32⟩
  | 113 => ⟨S4x4095, .i32⟩
  | 114 => ⟨S_, .i32⟩
  | 115 => ⟨S4x4095, .i32⟩
  | 116 => ⟨S4x4095, .i32⟩
  | 117 => ⟨S_, .i32⟩
  | 118 => ⟨S4x4095, .i32⟩
  | 119 => ⟨S4x4095, .i32⟩
  | 120 => ⟨S4x4095, .i32⟩
  | 121 => ⟨S4x4095, .i32⟩
  | 122 => ⟨S4x4095, .i32⟩
  | 123 => ⟨S4x4095, .i32⟩
  | 124 => ⟨S4x4095, .i32⟩
  | 125 => ⟨S4x4095, .i32⟩
  | 126 => ⟨S_, .i32⟩
  | 127 => ⟨S4x4095, .i32⟩
  | _ => ⟨S4x8192x1024, .f32⟩

abbrev hbmTy0_4 (i : Nat) : BufTy := match i % 128 with
  | 0 => ⟨S4x4095, .i32⟩
  | 1 => ⟨S4x4095, .i32⟩
  | 2 => ⟨S1, .i32⟩
  | 3 => ⟨S_, .i32⟩
  | 4 => ⟨S1, .i32⟩
  | 5 => ⟨S_, .i32⟩
  | 6 => ⟨S4x4095, .i64⟩
  | 7 => ⟨S4x4095, .i64⟩
  | 8 => ⟨S_, .i64⟩
  | 9 => ⟨S4x4095, .i64⟩
  | 10 => ⟨S4x4095, .i64⟩
  | 11 => ⟨S_, .i64⟩
  | 12 => ⟨S4x4095, .i64⟩
  | 13 => ⟨S4x4095, .i64⟩
  | 14 => ⟨S4x4095, .i64⟩
  | 15 => ⟨S_, .i64⟩
  | 16 => ⟨S4x4095, .i64⟩
  | 17 => ⟨S4x4095, .i64⟩
  | 18 => ⟨S4x4095, .i32⟩
  | 19 => ⟨S4x4095, .i32⟩
  | 20 => ⟨S_, .i32⟩
  | 21 => ⟨S_, .i32⟩
  | 22 => ⟨S_, .i32⟩
  | 23 => ⟨S4x4095, .i32⟩
  | 24 => ⟨S4x4095, .i32⟩
  | 25 => ⟨S4x4095, .i32⟩
  | 26 => ⟨S4x4095, .i32⟩
  | 27 => ⟨S4x4095, .i32⟩
  | 28 => ⟨S_, .i32⟩
  | 29 => ⟨S4x4095, .i32⟩
  | 30 => ⟨S4x4095, .i32⟩
  | 31 => ⟨S_, .i32⟩
  | 32 => ⟨S4x4095, .i32⟩
  | 33 => ⟨S4x4095, .i32⟩
  | 34 => ⟨S4x4095, .i32⟩
  | 35 => ⟨S4x4095, .i32⟩
  | 36 => ⟨S4x4095, .i32⟩
  | 37 => ⟨S_, .i32⟩
  | 38 => ⟨S4x4095, .i32⟩
  | 39 => ⟨S4x4095, .i32⟩
  | 40 => ⟨S_, .i32⟩
  | 41 => ⟨S4x4095, .i32⟩
  | 42 => ⟨S4x4095, .i32⟩
  | 43 => ⟨S4x4095, .i32⟩
  | 44 => ⟨S4x4095, .i32⟩
  | 45 => ⟨S4x4095, .i32⟩
  | 46 => ⟨S_, .i32⟩
  | 47 => ⟨S4x4095, .i32⟩
  | 48 => ⟨S4x4095, .i32⟩
  | 49 => ⟨S_, .i32⟩
  | 50 => ⟨S4x4095, .i32⟩
  | 51 => ⟨S4x4095, .i32⟩
  | 52 => ⟨S4x4095, .i32⟩
  | 53 => ⟨S4x4095, .i32⟩
  | 54 => ⟨S4x4095, .i32⟩
  | 55 => ⟨S_, .i32⟩
  | 56 => ⟨S4x4095, .i32⟩
  | 57 => ⟨S4x4095, .i32⟩
  | 58 => ⟨S_, .i32⟩
  | 59 => ⟨S4x4095, .i32⟩
  | 60 => ⟨S4x4095, .i32⟩
  | 61 => ⟨S4x4095, .i32⟩
  | 62 => ⟨S4x4095, .i32⟩
  | 63 => ⟨S4x4095, .i32⟩
  | 64 => ⟨S4x4095, .i32⟩
  | 65 => ⟨S4x4095, .i32⟩
  | 66 => ⟨S4x4095, .i32⟩
  | 67 => ⟨S_, .i32⟩
  | 68 => ⟨S4x4095, .i32⟩
  | 69 => ⟨S4x4095, .i32⟩
  | 70 => ⟨S4x4095, .i32⟩
  | 71 => ⟨S_, .i32⟩
  | 72 => ⟨S4x4095, .i32⟩
  | 73 => ⟨S4x4095, .i32⟩
  | 74 => ⟨S_, .i32⟩
  | 75 => ⟨S4x4095, .i32⟩
  | 76 => ⟨S4x4095, .i32⟩
  | 77 => ⟨S4x4095, .i32⟩
  | 78 => ⟨S4x4095, .i32⟩
  | 79 => ⟨S4x4095, .i32⟩
  | 80 => ⟨S_, .i32⟩
  | 81 => ⟨S4x4095, .i32⟩
  | 82 => ⟨S4x4095, .i32⟩
  | 83 => ⟨S_, .i32⟩
  | 84 => ⟨S4x4095, .i32⟩
  | 85 => ⟨S4x4095, .i32⟩
  | 86 => ⟨S4x4095, .i32⟩
  | 87 => ⟨S4x4095, .i32⟩
  | 88 => ⟨S4x4095, .i32⟩
  | 89 => ⟨S_, .i32⟩
  | 90 => ⟨S4x4095, .i32⟩
  | 91 => ⟨S4x4095, .i32⟩
  | 92 => ⟨S_, .i32⟩
  | 93 => ⟨S4x4095, .i32⟩
  | 94 => ⟨S4x4095, .i32⟩
  | 95 => ⟨S4x4095, .i32⟩
  | 96 => ⟨S4x4095, .i32⟩
  | 97 => ⟨S4x4095, .i32⟩
  | 98 => ⟨S_, .i32⟩
  | 99 => ⟨S4x4095, .i32⟩
  | 100 => ⟨S4x4095, .i32⟩
  | 101 => ⟨S_, .i32⟩
  | 102 => ⟨S4x4095, .i32⟩
  | 103 => ⟨S4x4095, .i32⟩
  | 104 => ⟨S4x4095, .i32⟩
  | 105 => ⟨S4x4095, .i32⟩
  | 106 => ⟨S4x4095, .i32⟩
  | 107 => ⟨S4x4095, .i32⟩
  | 108 => ⟨S4x4095, .i32⟩
  | 109 => ⟨S4x4095, .i32⟩
  | 110 => ⟨S_, .i32⟩
  | 111 => ⟨S4x4095, .i32⟩
  | 112 => ⟨S4x4095, .i32⟩
  | 113 => ⟨S4x4095, .i32⟩
  | 114 => ⟨S_, .i32⟩
  | 115 => ⟨S4x4095, .i32⟩
  | 116 => ⟨S4x4095, .i32⟩
  | 117 => ⟨S_, .i32⟩
  | 118 => ⟨S4x4095, .i32⟩
  | 119 => ⟨S4x4095, .i32⟩
  | 120 => ⟨S4x4095, .i32⟩
  | 121 => ⟨S4x4095, .i32⟩
  | 122 => ⟨S4x4095, .i32⟩
  | 123 => ⟨S_, .i32⟩
  | 124 => ⟨S4x4095, .i32⟩
  | 125 => ⟨S4x4095, .i32⟩
  | 126 => ⟨S_, .i32⟩
  | 127 => ⟨S4x4095, .i32⟩
  | _ => ⟨S4x8192x1024, .f32⟩

abbrev hbmTy0_5 (i : Nat) : BufTy := match i % 128 with
  | 0 => ⟨S4x4095, .i32⟩
  | 1 => ⟨S4x4095, .i32⟩
  | 2 => ⟨S4x4095, .i32⟩
  | 3 => ⟨S4x4095, .i32⟩
  | 4 => ⟨S_, .i32⟩
  | 5 => ⟨S4x4095, .i32⟩
  | 6 => ⟨S4x4095, .i32⟩
  | 7 => ⟨S_, .i32⟩
  | 8 => ⟨S4x4095, .i32⟩
  | 9 => ⟨S4x4095, .i32⟩
  | 10 => ⟨S4x4095, .i32⟩
  | 11 => ⟨S4x4095, .i32⟩
  | 12 => ⟨S4x4095, .i32⟩
  | 13 => ⟨S_, .i32⟩
  | 14 => ⟨S4x4095, .i32⟩
  | 15 => ⟨S4x4095, .i32⟩
  | 16 => ⟨S_, .i32⟩
  | 17 => ⟨S4x4095, .i32⟩
  | 18 => ⟨S4x4095, .i32⟩
  | 19 => ⟨S4x4095, .i32⟩
  | 20 => ⟨S4x4095, .i32⟩
  | 21 => ⟨S4x4095, .i32⟩
  | 22 => ⟨S4x4095, .i32⟩
  | 23 => ⟨S4x4095, .i32⟩
  | 24 => ⟨S4x4095, .i32⟩
  | 25 => ⟨S_, .i32⟩
  | 26 => ⟨S4x4095, .i32⟩
  | 27 => ⟨S4x4095, .i32⟩
  | 28 => ⟨S4x4095, .i32⟩
  | 29 => ⟨S_, .i32⟩
  | 30 => ⟨S4x4095, .i32⟩
  | 31 => ⟨S4x4095, .i32⟩
  | 32 => ⟨S_, .i32⟩
  | 33 => ⟨S4x4095, .i32⟩
  | 34 => ⟨S4x4095, .i32⟩
  | 35 => ⟨S4x4095, .i32⟩
  | 36 => ⟨S4x4095, .i32⟩
  | 37 => ⟨S4x4095, .i32⟩
  | 38 => ⟨S_, .i32⟩
  | 39 => ⟨S4x4095, .i32⟩
  | 40 => ⟨S4x4095, .i32⟩
  | 41 => ⟨S_, .i32⟩
  | 42 => ⟨S4x4095, .i32⟩
  | 43 => ⟨S4x4095, .i32⟩
  | 44 => ⟨S4x4095, .i32⟩
  | 45 => ⟨S4x4095, .i32⟩
  | 46 => ⟨S4x4095, .i32⟩
  | 47 => ⟨S_, .i32⟩
  | 48 => ⟨S4x4095, .i32⟩
  | 49 => ⟨S4x4095, .i32⟩
  | 50 => ⟨S_, .i32⟩
  | 51 => ⟨S4x4095, .i32⟩
  | 52 => ⟨S4x4095, .i32⟩
  | 53 => ⟨S4x4095, .i32⟩
  | 54 => ⟨S4x4095, .i32⟩
  | 55 => ⟨S4x4095, .i32⟩
  | 56 => ⟨S_, .i32⟩
  | 57 => ⟨S4x4095, .i32⟩
  | 58 => ⟨S4x4095, .i32⟩
  | 59 => ⟨S_, .i32⟩
  | 60 => ⟨S4x4095, .i32⟩
  | 61 => ⟨S4x4095, .i32⟩
  | 62 => ⟨S4x4095, .i32⟩
  | 63 => ⟨S4x4095, .i32⟩
  | 64 => ⟨S4x4095, .i32⟩
  | 65 => ⟨S4x4095, .i32⟩
  | 66 => ⟨S4x4095, .i32⟩
  | 67 => ⟨S4x4095, .i32⟩
  | 68 => ⟨S_, .i32⟩
  | 69 => ⟨S4x4095, .i32⟩
  | 70 => ⟨S4x4095, .i32⟩
  | 71 => ⟨S4x4095, .i32⟩
  | 72 => ⟨S_, .i32⟩
  | 73 => ⟨S4x4095, .i32⟩
  | 74 => ⟨S4x4095, .i32⟩
  | 75 => ⟨S_, .i32⟩
  | 76 => ⟨S4x4095, .i32⟩
  | 77 => ⟨S4x4095, .i32⟩
  | 78 => ⟨S4x4095, .i32⟩
  | 79 => ⟨S4x4095, .i32⟩
  | 80 => ⟨S4x4095, .i32⟩
  | 81 => ⟨S_, .i32⟩
  | 82 => ⟨S4x4095, .i32⟩
  | 83 => ⟨S4x4095, .i32⟩
  | 84 => ⟨S_, .i32⟩
  | 85 => ⟨S4x4095, .i32⟩
  | 86 => ⟨S4x4095, .i32⟩
  | 87 => ⟨S4x4095, .i32⟩
  | 88 => ⟨S4x4095, .i32⟩
  | 89 => ⟨S4x4095, .i32⟩
  | 90 => ⟨S_, .i32⟩
  | 91 => ⟨S4x4095, .i32⟩
  | 92 => ⟨S4x4095, .i32⟩
  | 93 => ⟨S_, .i32⟩
  | 94 => ⟨S4x4095, .i32⟩
  | 95 => ⟨S4x4095, .i32⟩
  | 96 => ⟨S4x4095, .i32⟩
  | 97 => ⟨S4x4095, .i32⟩
  | 98 => ⟨S4x4095, .i32⟩
  | 99 => ⟨S_, .i32⟩
  | 100 => ⟨S4x4095, .i32⟩
  | 101 => ⟨S4x4095, .i32⟩
  | 102 => ⟨S_, .i32⟩
  | 103 => ⟨S4x4095, .i32⟩
  | 104 => ⟨S4x4095, .i32⟩
  | 105 => ⟨S4x4095, .i32⟩
  | 106 => ⟨S4x4095, .i32⟩
  | 107 => ⟨S4x4095, .i32⟩
  | 108 => ⟨S4x4095, .i32⟩
  | 109 => ⟨S4x4095, .i32⟩
  | 110 => ⟨S4x4095, .i32⟩
  | 111 => ⟨S_, .i32⟩
  | 112 => ⟨S4x4095, .i32⟩
  | 113 => ⟨S4x4095, .i32⟩
  | 114 => ⟨S4x4095, .i32⟩
  | 115 => ⟨S1x1, .i32⟩
  | 116 => ⟨S1x1, .i32⟩
  | 117 => ⟨S1x1, .i1⟩
  | 118 => ⟨S_, .i32⟩
  | 119 => ⟨S1x1, .i32⟩
  | 120 => ⟨S1x1, .i32⟩
  | 121 => ⟨S1x1, .i1⟩
  | 122 => ⟨S1x1, .i1⟩
  | 123 => ⟨S1x1, .i1⟩
  | 124 => ⟨S_, .i32⟩
  | 125 => ⟨S1x1, .i32⟩
  | 126 => ⟨S1x1, .i32⟩
  | 127 => ⟨S1x1, .i32⟩
  | _ => ⟨S4x8192x1024, .f32⟩

abbrev hbmTy0_6 (i : Nat) : BufTy := match i % 128 with
  | 0 => ⟨S_, .i32⟩
  | 1 => ⟨S1x1, .i32⟩
  | 2 => ⟨S1x1, .i32⟩
  | 3 => ⟨S1x1, .i32⟩
  | 4 => ⟨S1x1, .i32⟩
  | 5 => ⟨S4x4095, .i32⟩
  | 6 => ⟨S4x4095, .i32⟩
  | 7 => ⟨S4x4095, .i32⟩
  | 8 => ⟨S4x4095, .i32⟩
  | 9 => ⟨S4x4095, .i32⟩
  | 10 => ⟨S4x4095, .i32⟩
  | 11 => ⟨S4x4095, .i32⟩
  | 12 => ⟨S4x4095, .i32⟩
  | 13 => ⟨S4x4095, .i32⟩
  | 14 => ⟨S4x4095, .i32⟩
  | 15 => ⟨S4x4095, .i32⟩
  | 16 => ⟨S4x4095, .i32⟩
  | 17 => ⟨S4x4095, .i32⟩
  | 18 => ⟨S4095, .i32⟩
  | 19 => ⟨S1x4095, .i32⟩
  | 20 => ⟨S4x4095, .i32⟩
  | 21 => ⟨S4x4095, .i32⟩
  | 22 => ⟨S_, .i32⟩
  | 23 => ⟨S4x4095, .i32⟩
  | 24 => ⟨S4x4095, .i32⟩
  | 25 => ⟨S_, .i32⟩
  | 26 => ⟨S4x1, .i32⟩
  | 27 => ⟨S4x4096, .i32⟩
  | 28 => ⟨S4, .i32⟩
  | 29 => ⟨S_, .i32⟩
  | 30 => ⟨S4, .i32⟩
  | 31 => ⟨S4, .i32⟩
  | 32 => ⟨S4x1, .i32⟩
  | 33 => ⟨S4x4096, .i32⟩
  | 34 => ⟨S4x4096, .i32⟩
  | 35 => ⟨S16384, .i32⟩
  | 36 => ⟨S16384x1, .i32⟩
  | 37 => ⟨S_, .i32⟩
  | 38 => ⟨S16384x1, .i32⟩
  | 39 => ⟨S16384x1, .i32⟩
  | 40 => ⟨S4, .i32⟩
  | 41 => ⟨S1x4, .i32⟩
  | 42 => ⟨S16384x4, .i32⟩
  | 43 => ⟨S16384x4, .i32⟩
  | 44 => ⟨S16384x4, .i32⟩
  | 45 => ⟨S65536, .i32⟩
  | 46 => ⟨S32x32x64, .i32⟩
  | 47 => ⟨S131072x2x128, .f32⟩
  | 48 => ⟨S65536x2x128, .f32⟩
  | 49 => ⟨S4x4096x1024, .f32⟩
  | _ => ⟨S4x8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x8192x1024, .f32⟩

abbrev bufTy : (tb : Table) → Fin (nBuf tb) → BufTy
  | .hbm, ⟨i, _⟩ => hbmTy i
  | .local .scVector .vmem, ⟨0, _⟩ => ⟨S32x64, .i32⟩
  | .local .scVector .vmem, ⟨1, _⟩ => ⟨S4x64x2x128, .f32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_c_3 : Ref sig .tc := ⟨.hbm, 12, rfl⟩
abbrev main_call0_c : Ref sig .tc := ⟨.hbm, 13, rfl⟩
abbrev main_call0_c_0 : Ref sig .tc := ⟨.hbm, 14, rfl⟩
abbrev main_call0_c_1 : Ref sig .tc := ⟨.hbm, 15, rfl⟩
abbrev main_call0_call0_v0 : Ref sig .tc := ⟨.hbm, 16, rfl⟩
abbrev main_call0_v0 : Ref sig .tc := ⟨.hbm, 17, rfl⟩
abbrev main_call0_v1 : Ref sig .tc := ⟨.hbm, 18, rfl⟩
abbrev main_call0_c_2 : Ref sig .tc := ⟨.hbm, 19, rfl⟩
abbrev main_call0_c_3 : Ref sig .tc := ⟨.hbm, 20, rfl⟩
abbrev main_call0_call1_v0 : Ref sig .tc := ⟨.hbm, 21, rfl⟩
abbrev main_call0_v2 : Ref sig .tc := ⟨.hbm, 22, rfl⟩
abbrev main_call0_v3 : Ref sig .tc := ⟨.hbm, 23, rfl⟩
abbrev main_call0_c_4 : Ref sig .tc := ⟨.hbm, 24, rfl⟩
abbrev main_call0_c_5 : Ref sig .tc := ⟨.hbm, 25, rfl⟩
abbrev main_call0_call2_v0 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_call3_v0 : Ref sig .tc := ⟨.hbm, 31, rfl⟩
abbrev main_call0_call3_v1 : Ref sig .tc := ⟨.hbm, 32, rfl⟩
abbrev main_call0_call3_v2 : Ref sig .tc := ⟨.hbm, 33, rfl⟩
abbrev main_call0_call3_v3 : Ref sig .tc := ⟨.hbm, 34, rfl⟩
abbrev main_call0_call3_v4 : Ref sig .tc := ⟨.hbm, 35, rfl⟩
abbrev main_call0_call3_c : Ref sig .tc := ⟨.hbm, 36, rfl⟩
abbrev main_call0_call3_v5 : Ref sig .tc := ⟨.hbm, 37, rfl⟩
abbrev main_call0_call3_v6 : Ref sig .tc := ⟨.hbm, 38, rfl⟩
abbrev main_call0_call3_c_0 : Ref sig .tc := ⟨.hbm, 39, rfl⟩
abbrev main_call0_call3_v7 : Ref sig .tc := ⟨.hbm, 40, rfl⟩
abbrev main_call0_call3_v8 : Ref sig .tc := ⟨.hbm, 41, rfl⟩
abbrev main_call0_call3_v9 : Ref sig .tc := ⟨.hbm, 42, rfl⟩
abbrev main_call0_call3_v10 : Ref sig .tc := ⟨.hbm, 43, rfl⟩
abbrev main_call0_call3_call0_v0 : Ref sig .tc := ⟨.hbm, 44, rfl⟩
abbrev main_call0_call3_call0_c : Ref sig .tc := ⟨.hbm, 45, rfl⟩
abbrev main_call0_call3_call0_v1 : Ref sig .tc := ⟨.hbm, 46, rfl⟩
abbrev main_call0_call3_call0_v2 : Ref sig .tc := ⟨.hbm, 47, rfl⟩
abbrev main_call0_call3_call0_v3 : Ref sig .tc := ⟨.hbm, 48, rfl⟩
abbrev main_call0_call3_call0_v4 : Ref sig .tc := ⟨.hbm, 49, rfl⟩
abbrev main_call0_call3_call0_v5 : Ref sig .tc := ⟨.hbm, 50, rfl⟩
abbrev main_call0_call3_call0_v6 : Ref sig .tc := ⟨.hbm, 51, rfl⟩
abbrev main_call0_call3_call0_c_0 : Ref sig .tc := ⟨.hbm, 52, rfl⟩
abbrev main_call0_call3_call0_v7 : Ref sig .tc := ⟨.hbm, 53, rfl⟩
abbrev main_call0_call3_call0_v8 : Ref sig .tc := ⟨.hbm, 54, rfl⟩
abbrev main_call0_call3_call0_c_1 : Ref sig .tc := ⟨.hbm, 55, rfl⟩
abbrev main_call0_call3_call0_v9 : Ref sig .tc := ⟨.hbm, 56, rfl⟩
abbrev main_call0_call3_call0_v10 : Ref sig .tc := ⟨.hbm, 57, rfl⟩
abbrev main_call0_call3_call0_v11 : Ref sig .tc := ⟨.hbm, 58, rfl⟩
abbrev main_call0_call3_call0_v12 : Ref sig .tc := ⟨.hbm, 59, rfl⟩
abbrev main_call0_call3_call0_v13 : Ref sig .tc := ⟨.hbm, 60, rfl⟩
abbrev main_call0_call3_call0_c_2 : Ref sig .tc := ⟨.hbm, 61, rfl⟩
abbrev main_call0_call3_call0_v14 : Ref sig .tc := ⟨.hbm, 62, rfl⟩
abbrev main_call0_call3_call0_v15 : Ref sig .tc := ⟨.hbm, 63, rfl⟩
abbrev main_call0_call3_call0_c_3 : Ref sig .tc := ⟨.hbm, 64, rfl⟩
abbrev main_call0_call3_call0_v16 : Ref sig .tc := ⟨.hbm, 65, rfl⟩
abbrev main_call0_call3_call0_v17 : Ref sig .tc := ⟨.hbm, 66, rfl⟩
abbrev main_call0_call3_call0_v18 : Ref sig .tc := ⟨.hbm, 67, rfl⟩
abbrev main_call0_call3_call0_v19 : Ref sig .tc := ⟨.hbm, 68, rfl⟩
abbrev main_call0_call3_call0_v20 : Ref sig .tc := ⟨.hbm, 69, rfl⟩
abbrev main_call0_call3_call0_c_4 : Ref sig .tc := ⟨.hbm, 70, rfl⟩
abbrev main_call0_call3_call0_v21 : Ref sig .tc := ⟨.hbm, 71, rfl⟩
abbrev main_call0_call3_call0_v22 : Ref sig .tc := ⟨.hbm, 72, rfl⟩
abbrev main_call0_call3_call0_c_5 : Ref sig .tc := ⟨.hbm, 73, rfl⟩
abbrev main_call0_call3_call0_v23 : Ref sig .tc := ⟨.hbm, 74, rfl⟩
abbrev main_call0_call3_call0_v24 : Ref sig .tc := ⟨.hbm, 75, rfl⟩
abbrev main_call0_call3_call0_v25 : Ref sig .tc := ⟨.hbm, 76, rfl⟩
abbrev main_call0_call3_call0_v26 : Ref sig .tc := ⟨.hbm, 77, rfl⟩
abbrev main_call0_call3_call0_v27 : Ref sig .tc := ⟨.hbm, 78, rfl⟩
abbrev main_call0_call3_call0_c_6 : Ref sig .tc := ⟨.hbm, 79, rfl⟩
abbrev main_call0_call3_call0_v28 : Ref sig .tc := ⟨.hbm, 80, rfl⟩
abbrev main_call0_call3_call0_v29 : Ref sig .tc := ⟨.hbm, 81, rfl⟩
abbrev main_call0_call3_call0_c_7 : Ref sig .tc := ⟨.hbm, 82, rfl⟩
abbrev main_call0_call3_call0_v30 : Ref sig .tc := ⟨.hbm, 83, rfl⟩
abbrev main_call0_call3_call0_v31 : Ref sig .tc := ⟨.hbm, 84, rfl⟩
abbrev main_call0_call3_call0_v32 : Ref sig .tc := ⟨.hbm, 85, rfl⟩
abbrev main_call0_call3_call0_v33 : Ref sig .tc := ⟨.hbm, 86, rfl⟩
abbrev main_call0_call3_call0_v34 : Ref sig .tc := ⟨.hbm, 87, rfl⟩
abbrev main_call0_call3_call0_v35 : Ref sig .tc := ⟨.hbm, 88, rfl⟩
abbrev main_call0_call3_call0_v36 : Ref sig .tc := ⟨.hbm, 89, rfl⟩
abbrev main_call0_call3_call0_v37 : Ref sig .tc := ⟨.hbm, 90, rfl⟩
abbrev main_call0_call3_call0_c_8 : Ref sig .tc := ⟨.hbm, 91, rfl⟩
abbrev main_call0_call3_call0_v38 : Ref sig .tc := ⟨.hbm, 92, rfl⟩
abbrev main_call0_call3_call0_v39 : Ref sig .tc := ⟨.hbm, 93, rfl⟩
abbrev main_call0_call3_call0_v40 : Ref sig .tc := ⟨.hbm, 94, rfl⟩
abbrev main_call0_call3_call0_c_9 : Ref sig .tc := ⟨.hbm, 95, rfl⟩
abbrev main_call0_call3_call0_v41 : Ref sig .tc := ⟨.hbm, 96, rfl⟩
abbrev main_call0_call3_call0_v42 : Ref sig .tc := ⟨.hbm, 97, rfl⟩
abbrev main_call0_call3_call0_c_10 : Ref sig .tc := ⟨.hbm, 98, rfl⟩
abbrev main_call0_call3_call0_v43 : Ref sig .tc := ⟨.hbm, 99, rfl⟩
abbrev main_call0_call3_call0_v44 : Ref sig .tc := ⟨.hbm, 100, rfl⟩
abbrev main_call0_call3_call0_v45 : Ref sig .tc := ⟨.hbm, 101, rfl⟩
abbrev main_call0_call3_call0_v46 : Ref sig .tc := ⟨.hbm, 102, rfl⟩
abbrev main_call0_call3_call0_v47 : Ref sig .tc := ⟨.hbm, 103, rfl⟩
abbrev main_call0_call3_call0_c_11 : Ref sig .tc := ⟨.hbm, 104, rfl⟩
abbrev main_call0_call3_call0_v48 : Ref sig .tc := ⟨.hbm, 105, rfl⟩
abbrev main_call0_call3_call0_v49 : Ref sig .tc := ⟨.hbm, 106, rfl⟩
abbrev main_call0_call3_call0_c_12 : Ref sig .tc := ⟨.hbm, 107, rfl⟩
abbrev main_call0_call3_call0_v50 : Ref sig .tc := ⟨.hbm, 108, rfl⟩
abbrev main_call0_call3_call0_v51 : Ref sig .tc := ⟨.hbm, 109, rfl⟩
abbrev main_call0_call3_call0_v52 : Ref sig .tc := ⟨.hbm, 110, rfl⟩
abbrev main_call0_call3_call0_v53 : Ref sig .tc := ⟨.hbm, 111, rfl⟩
abbrev main_call0_call3_call0_v54 : Ref sig .tc := ⟨.hbm, 112, rfl⟩
abbrev main_call0_call3_call0_c_13 : Ref sig .tc := ⟨.hbm, 113, rfl⟩
abbrev main_call0_call3_call0_v55 : Ref sig .tc := ⟨.hbm, 114, rfl⟩
abbrev main_call0_call3_call0_v56 : Ref sig .tc := ⟨.hbm, 115, rfl⟩
abbrev main_call0_call3_call0_c_14 : Ref sig .tc := ⟨.hbm, 116, rfl⟩
abbrev main_call0_call3_call0_v57 : Ref sig .tc := ⟨.hbm, 117, rfl⟩
abbrev main_call0_call3_call0_v58 : Ref sig .tc := ⟨.hbm, 118, rfl⟩
abbrev main_call0_call3_call0_v59 : Ref sig .tc := ⟨.hbm, 119, rfl⟩
abbrev main_call0_call3_call0_v60 : Ref sig .tc := ⟨.hbm, 120, rfl⟩
abbrev main_call0_call3_call0_v61 : Ref sig .tc := ⟨.hbm, 121, rfl⟩
abbrev main_call0_call3_call0_c_15 : Ref sig .tc := ⟨.hbm, 122, rfl⟩
abbrev main_call0_call3_call0_v62 : Ref sig .tc := ⟨.hbm, 123, rfl⟩
abbrev main_call0_call3_call0_v63 : Ref sig .tc := ⟨.hbm, 124, rfl⟩
abbrev main_call0_call3_call0_c_16 : Ref sig .tc := ⟨.hbm, 125, rfl⟩
abbrev main_call0_call3_call0_v64 : Ref sig .tc := ⟨.hbm, 126, rfl⟩
abbrev main_call0_call3_call0_v65 : Ref sig .tc := ⟨.hbm, 127, rfl⟩
abbrev main_call0_call3_call0_v66 : Ref sig .tc := ⟨.hbm, 128, rfl⟩
abbrev main_call0_call3_call0_v67 : Ref sig .tc := ⟨.hbm, 129, rfl⟩
abbrev main_call0_call3_call0_v68 : Ref sig .tc := ⟨.hbm, 130, rfl⟩
abbrev main_call0_call3_call0_v69 : Ref sig .tc := ⟨.hbm, 131, rfl⟩
abbrev main_call0_call3_call0_v70 : Ref sig .tc := ⟨.hbm, 132, rfl⟩
abbrev main_call0_call3_call0_v71 : Ref sig .tc := ⟨.hbm, 133, rfl⟩
abbrev main_call0_call3_call0_c_17 : Ref sig .tc := ⟨.hbm, 134, rfl⟩
abbrev main_call0_call3_call0_v72 : Ref sig .tc := ⟨.hbm, 135, rfl⟩
abbrev main_call0_call3_call0_v73 : Ref sig .tc := ⟨.hbm, 136, rfl⟩
abbrev main_call0_call3_call0_v74 : Ref sig .tc := ⟨.hbm, 137, rfl⟩
abbrev main_call0_call3_call0_c_18 : Ref sig .tc := ⟨.hbm, 138, rfl⟩
abbrev main_call0_call3_call0_v75 : Ref sig .tc := ⟨.hbm, 139, rfl⟩
abbrev main_call0_call3_call0_v76 : Ref sig .tc := ⟨.hbm, 140, rfl⟩
abbrev main_call0_call3_call0_c_19 : Ref sig .tc := ⟨.hbm, 141, rfl⟩
abbrev main_call0_call3_call0_v77 : Ref sig .tc := ⟨.hbm, 142, rfl⟩
abbrev main_call0_call3_call0_v78 : Ref sig .tc := ⟨.hbm, 143, rfl⟩
abbrev main_call0_call3_call0_v79 : Ref sig .tc := ⟨.hbm, 144, rfl⟩
abbrev main_call0_call3_call0_v80 : Ref sig .tc := ⟨.hbm, 145, rfl⟩
abbrev main_call0_call3_call0_v81 : Ref sig .tc := ⟨.hbm, 146, rfl⟩
abbrev main_call0_call3_call0_c_20 : Ref sig .tc := ⟨.hbm, 147, rfl⟩
abbrev main_call0_call3_call0_v82 : Ref sig .tc := ⟨.hbm, 148, rfl⟩
abbrev main_call0_call3_call0_v83 : Ref sig .tc := ⟨.hbm, 149, rfl⟩
abbrev main_call0_call3_call0_c_21 : Ref sig .tc := ⟨.hbm, 150, rfl⟩
abbrev main_call0_call3_call0_v84 : Ref sig .tc := ⟨.hbm, 151, rfl⟩
abbrev main_call0_call3_call0_v85 : Ref sig .tc := ⟨.hbm, 152, rfl⟩
abbrev main_call0_call3_call0_v86 : Ref sig .tc := ⟨.hbm, 153, rfl⟩
abbrev main_call0_call3_call0_v87 : Ref sig .tc := ⟨.hbm, 154, rfl⟩
abbrev main_call0_call3_call0_v88 : Ref sig .tc := ⟨.hbm, 155, rfl⟩
abbrev main_call0_call3_call0_c_22 : Ref sig .tc := ⟨.hbm, 156, rfl⟩
abbrev main_call0_call3_call0_v89 : Ref sig .tc := ⟨.hbm, 157, rfl⟩
abbrev main_call0_call3_call0_v90 : Ref sig .tc := ⟨.hbm, 158, rfl⟩
abbrev main_call0_call3_call0_c_23 : Ref sig .tc := ⟨.hbm, 159, rfl⟩
abbrev main_call0_call3_call0_v91 : Ref sig .tc := ⟨.hbm, 160, rfl⟩
abbrev main_call0_call3_call0_v92 : Ref sig .tc := ⟨.hbm, 161, rfl⟩
abbrev main_call0_call3_call0_v93 : Ref sig .tc := ⟨.hbm, 162, rfl⟩
abbrev main_call0_call3_call0_v94 : Ref sig .tc := ⟨.hbm, 163, rfl⟩
abbrev main_call0_call3_call0_v95 : Ref sig .tc := ⟨.hbm, 164, rfl⟩
abbrev main_call0_call3_call0_c_24 : Ref sig .tc := ⟨.hbm, 165, rfl⟩
abbrev main_call0_call3_call0_v96 : Ref sig .tc := ⟨.hbm, 166, rfl⟩
abbrev main_call0_call3_call0_v97 : Ref sig .tc := ⟨.hbm, 167, rfl⟩
abbrev main_call0_call3_call0_c_25 : Ref sig .tc := ⟨.hbm, 168, rfl⟩
abbrev main_call0_call3_call0_v98 : Ref sig .tc := ⟨.hbm, 169, rfl⟩
abbrev main_call0_call3_call0_v99 : Ref sig .tc := ⟨.hbm, 170, rfl⟩
abbrev main_call0_call3_call0_v100 : Ref sig .tc := ⟨.hbm, 171, rfl⟩
abbrev main_call0_call3_call0_v101 : Ref sig .tc := ⟨.hbm, 172, rfl⟩
abbrev main_call0_call3_call0_v102 : Ref sig .tc := ⟨.hbm, 173, rfl⟩
abbrev main_call0_call3_call0_v103 : Ref sig .tc := ⟨.hbm, 174, rfl⟩
abbrev main_call0_call3_call0_v104 : Ref sig .tc := ⟨.hbm, 175, rfl⟩
abbrev main_call0_call3_call0_v105 : Ref sig .tc := ⟨.hbm, 176, rfl⟩
abbrev main_call0_call3_call0_c_26 : Ref sig .tc := ⟨.hbm, 177, rfl⟩
abbrev main_call0_call3_call0_v106 : Ref sig .tc := ⟨.hbm, 178, rfl⟩
abbrev main_call0_call3_call0_v107 : Ref sig .tc := ⟨.hbm, 179, rfl⟩
abbrev main_call0_call3_call0_v108 : Ref sig .tc := ⟨.hbm, 180, rfl⟩
abbrev main_call0_call3_call0_c_27 : Ref sig .tc := ⟨.hbm, 181, rfl⟩
abbrev main_call0_call3_call0_v109 : Ref sig .tc := ⟨.hbm, 182, rfl⟩
abbrev main_call0_call3_call0_v110 : Ref sig .tc := ⟨.hbm, 183, rfl⟩
abbrev main_call0_call3_call0_c_28 : Ref sig .tc := ⟨.hbm, 184, rfl⟩
abbrev main_call0_call3_call0_v111 : Ref sig .tc := ⟨.hbm, 185, rfl⟩
abbrev main_call0_call3_call0_v112 : Ref sig .tc := ⟨.hbm, 186, rfl⟩
abbrev main_call0_call3_call0_v113 : Ref sig .tc := ⟨.hbm, 187, rfl⟩
abbrev main_call0_call3_call0_v114 : Ref sig .tc := ⟨.hbm, 188, rfl⟩
abbrev main_call0_call3_call0_v115 : Ref sig .tc := ⟨.hbm, 189, rfl⟩
abbrev main_call0_call3_call0_c_29 : Ref sig .tc := ⟨.hbm, 190, rfl⟩
abbrev main_call0_call3_call0_v116 : Ref sig .tc := ⟨.hbm, 191, rfl⟩
abbrev main_call0_call3_call0_v117 : Ref sig .tc := ⟨.hbm, 192, rfl⟩
abbrev main_call0_call3_call0_c_30 : Ref sig .tc := ⟨.hbm, 193, rfl⟩
abbrev main_call0_call3_call0_v118 : Ref sig .tc := ⟨.hbm, 194, rfl⟩
abbrev main_call0_call3_call0_v119 : Ref sig .tc := ⟨.hbm, 195, rfl⟩
abbrev main_call0_call3_call0_v120 : Ref sig .tc := ⟨.hbm, 196, rfl⟩
abbrev main_call0_call3_call0_v121 : Ref sig .tc := ⟨.hbm, 197, rfl⟩
abbrev main_call0_call3_call0_v122 : Ref sig .tc := ⟨.hbm, 198, rfl⟩
abbrev main_call0_call3_call0_c_31 : Ref sig .tc := ⟨.hbm, 199, rfl⟩
abbrev main_call0_call3_call0_v123 : Ref sig .tc := ⟨.hbm, 200, rfl⟩
abbrev main_call0_call3_call0_v124 : Ref sig .tc := ⟨.hbm, 201, rfl⟩
abbrev main_call0_call3_call0_c_32 : Ref sig .tc := ⟨.hbm, 202, rfl⟩
abbrev main_call0_call3_call0_v125 : Ref sig .tc := ⟨.hbm, 203, rfl⟩
abbrev main_call0_call3_call0_v126 : Ref sig .tc := ⟨.hbm, 204, rfl⟩
abbrev main_call0_call3_call0_v127 : Ref sig .tc := ⟨.hbm, 205, rfl⟩
abbrev main_call0_call3_call0_v128 : Ref sig .tc := ⟨.hbm, 206, rfl⟩
abbrev main_call0_call3_call0_v129 : Ref sig .tc := ⟨.hbm, 207, rfl⟩
abbrev main_call0_call3_call0_c_33 : Ref sig .tc := ⟨.hbm, 208, rfl⟩
abbrev main_call0_call3_call0_v130 : Ref sig .tc := ⟨.hbm, 209, rfl⟩
abbrev main_call0_call3_call0_v131 : Ref sig .tc := ⟨.hbm, 210, rfl⟩
abbrev main_call0_call3_call0_c_34 : Ref sig .tc := ⟨.hbm, 211, rfl⟩
abbrev main_call0_call3_call0_v132 : Ref sig .tc := ⟨.hbm, 212, rfl⟩
abbrev main_call0_call3_call0_v133 : Ref sig .tc := ⟨.hbm, 213, rfl⟩
abbrev main_call0_call3_call0_v134 : Ref sig .tc := ⟨.hbm, 214, rfl⟩
abbrev main_call0_call3_call0_v135 : Ref sig .tc := ⟨.hbm, 215, rfl⟩
abbrev main_call0_call3_call0_v136 : Ref sig .tc := ⟨.hbm, 216, rfl⟩
abbrev main_call0_call3_call0_v137 : Ref sig .tc := ⟨.hbm, 217, rfl⟩
abbrev main_call0_call3_call0_v138 : Ref sig .tc := ⟨.hbm, 218, rfl⟩
abbrev main_call0_call3_call0_v139 : Ref sig .tc := ⟨.hbm, 219, rfl⟩
abbrev main_call0_call3_call0_c_35 : Ref sig .tc := ⟨.hbm, 220, rfl⟩
abbrev main_call0_call3_call0_v140 : Ref sig .tc := ⟨.hbm, 221, rfl⟩
abbrev main_call0_call3_call0_v141 : Ref sig .tc := ⟨.hbm, 222, rfl⟩
abbrev main_call0_call3_call0_v142 : Ref sig .tc := ⟨.hbm, 223, rfl⟩
abbrev main_call0_call3_call0_c_36 : Ref sig .tc := ⟨.hbm, 224, rfl⟩
abbrev main_call0_call3_call0_v143 : Ref sig .tc := ⟨.hbm, 225, rfl⟩
abbrev main_call0_call3_call0_v144 : Ref sig .tc := ⟨.hbm, 226, rfl⟩
abbrev main_call0_call3_call0_c_37 : Ref sig .tc := ⟨.hbm, 227, rfl⟩
abbrev main_call0_call3_call0_v145 : Ref sig .tc := ⟨.hbm, 228, rfl⟩
abbrev main_call0_call3_call0_v146 : Ref sig .tc := ⟨.hbm, 229, rfl⟩
abbrev main_call0_call3_call0_v147 : Ref sig .tc := ⟨.hbm, 230, rfl⟩
abbrev main_call0_call3_call0_v148 : Ref sig .tc := ⟨.hbm, 231, rfl⟩
abbrev main_call0_call3_call0_v149 : Ref sig .tc := ⟨.hbm, 232, rfl⟩
abbrev main_call0_call3_call0_c_38 : Ref sig .tc := ⟨.hbm, 233, rfl⟩
abbrev main_call0_call3_call0_v150 : Ref sig .tc := ⟨.hbm, 234, rfl⟩
abbrev main_call0_call3_call0_v151 : Ref sig .tc := ⟨.hbm, 235, rfl⟩
abbrev main_call0_call3_call0_c_39 : Ref sig .tc := ⟨.hbm, 236, rfl⟩
abbrev main_call0_call3_call0_v152 : Ref sig .tc := ⟨.hbm, 237, rfl⟩
abbrev main_call0_call3_call0_v153 : Ref sig .tc := ⟨.hbm, 238, rfl⟩
abbrev main_call0_call3_call0_v154 : Ref sig .tc := ⟨.hbm, 239, rfl⟩
abbrev main_call0_call3_call0_v155 : Ref sig .tc := ⟨.hbm, 240, rfl⟩
abbrev main_call0_call3_call0_v156 : Ref sig .tc := ⟨.hbm, 241, rfl⟩
abbrev main_call0_call3_call0_c_40 : Ref sig .tc := ⟨.hbm, 242, rfl⟩
abbrev main_call0_call3_call0_v157 : Ref sig .tc := ⟨.hbm, 243, rfl⟩
abbrev main_call0_call3_call0_v158 : Ref sig .tc := ⟨.hbm, 244, rfl⟩
abbrev main_call0_call3_call0_c_41 : Ref sig .tc := ⟨.hbm, 245, rfl⟩
abbrev main_call0_call3_call0_v159 : Ref sig .tc := ⟨.hbm, 246, rfl⟩
abbrev main_call0_call3_call0_v160 : Ref sig .tc := ⟨.hbm, 247, rfl⟩
abbrev main_call0_call3_call0_v161 : Ref sig .tc := ⟨.hbm, 248, rfl⟩
abbrev main_call0_call3_call0_v162 : Ref sig .tc := ⟨.hbm, 249, rfl⟩
abbrev main_call0_call3_call0_v163 : Ref sig .tc := ⟨.hbm, 250, rfl⟩
abbrev main_call0_call3_call0_c_42 : Ref sig .tc := ⟨.hbm, 251, rfl⟩
abbrev main_call0_call3_call0_v164 : Ref sig .tc := ⟨.hbm, 252, rfl⟩
abbrev main_call0_call3_call0_v165 : Ref sig .tc := ⟨.hbm, 253, rfl⟩
abbrev main_call0_call3_call0_c_43 : Ref sig .tc := ⟨.hbm, 254, rfl⟩
abbrev main_call0_call3_call0_v166 : Ref sig .tc := ⟨.hbm, 255, rfl⟩
abbrev main_call0_call3_call0_v167 : Ref sig .tc := ⟨.hbm, 256, rfl⟩
abbrev main_call0_call3_call0_v168 : Ref sig .tc := ⟨.hbm, 257, rfl⟩
abbrev main_call0_call3_call0_v169 : Ref sig .tc := ⟨.hbm, 258, rfl⟩
abbrev main_call0_call3_call0_v170 : Ref sig .tc := ⟨.hbm, 259, rfl⟩
abbrev main_call0_call3_v11_0 : Ref sig .tc := ⟨.hbm, 260, rfl⟩
abbrev main_call0_call3_call0_v172 : Ref sig .tc := ⟨.hbm, 261, rfl⟩
abbrev main_call0_call3_call0_v173 : Ref sig .tc := ⟨.hbm, 262, rfl⟩
abbrev main_call0_call3_call0_c_44 : Ref sig .tc := ⟨.hbm, 263, rfl⟩
abbrev main_call0_call3_call0_v174 : Ref sig .tc := ⟨.hbm, 264, rfl⟩
abbrev main_call0_call3_v11_1 : Ref sig .tc := ⟨.hbm, 265, rfl⟩
abbrev main_call0_call3_v12 : Ref sig .tc := ⟨.hbm, 266, rfl⟩
abbrev main_call0_call3_v13 : Ref sig .tc := ⟨.hbm, 267, rfl⟩
abbrev main_call0_v8 : Ref sig .tc := ⟨.hbm, 268, rfl⟩
abbrev main_call0_v9 : Ref sig .tc := ⟨.hbm, 269, rfl⟩
abbrev main_call0_v10 : Ref sig .tc := ⟨.hbm, 270, rfl⟩
abbrev main_call0_v11 : Ref sig .tc := ⟨.hbm, 271, rfl⟩
abbrev main_call0_v12 : Ref sig .tc := ⟨.hbm, 272, rfl⟩
abbrev main_call0_v13 : Ref sig .tc := ⟨.hbm, 273, rfl⟩
abbrev main_call0_v14 : Ref sig .tc := ⟨.hbm, 274, rfl⟩
abbrev main_call0_v15 : Ref sig .tc := ⟨.hbm, 275, rfl⟩
abbrev main_call0_v16 : Ref sig .tc := ⟨.hbm, 276, rfl⟩
abbrev main_call0_v17 : Ref sig .tc := ⟨.hbm, 277, rfl⟩
abbrev main_call0_v18 : Ref sig .tc := ⟨.hbm, 278, rfl⟩
abbrev main_call0_c_6 : Ref sig .tc := ⟨.hbm, 279, rfl⟩
abbrev main_call0_v19 : Ref sig .tc := ⟨.hbm, 280, rfl⟩
abbrev main_call0_v20 : Ref sig .tc := ⟨.hbm, 281, rfl⟩
abbrev main_call0_c_7 : Ref sig .tc := ⟨.hbm, 282, rfl⟩
abbrev main_call0_v21 : Ref sig .tc := ⟨.hbm, 283, rfl⟩
abbrev main_call0_v22 : Ref sig .tc := ⟨.hbm, 284, rfl⟩
abbrev main_call0_v23 : Ref sig .tc := ⟨.hbm, 285, rfl⟩
abbrev main_call0_c_8 : Ref sig .tc := ⟨.hbm, 286, rfl⟩
abbrev main_call0_v24 : Ref sig .tc := ⟨.hbm, 287, rfl⟩
abbrev main_call0_v25 : Ref sig .tc := ⟨.hbm, 288, rfl⟩
abbrev main_call0_v26 : Ref sig .tc := ⟨.hbm, 289, rfl⟩
abbrev main_call0_v27 : Ref sig .tc := ⟨.hbm, 290, rfl⟩
abbrev main_call0_call4_v0 : Ref sig .tc := ⟨.hbm, 291, rfl⟩
abbrev main_call0_call4_c : Ref sig .tc := ⟨.hbm, 292, rfl⟩
abbrev main_call0_call4_v1 : Ref sig .tc := ⟨.hbm, 293, rfl⟩
abbrev main_call0_call4_v2 : Ref sig .tc := ⟨.hbm, 294, rfl⟩
abbrev main_call0_call4_v3 : Ref sig .tc := ⟨.hbm, 295, rfl⟩
abbrev main_call0_call4_v4 : Ref sig .tc := ⟨.hbm, 296, rfl⟩
abbrev main_call0_call4_v5 : Ref sig .tc := ⟨.hbm, 297, rfl⟩
abbrev main_call0_call4_v6 : Ref sig .tc := ⟨.hbm, 298, rfl⟩
abbrev main_call0_call4_c_0 : Ref sig .tc := ⟨.hbm, 299, rfl⟩
abbrev main_call0_call4_v7 : Ref sig .tc := ⟨.hbm, 300, rfl⟩
abbrev main_call0_call4_v8 : Ref sig .tc := ⟨.hbm, 301, rfl⟩
abbrev main_call0_call4_c_1 : Ref sig .tc := ⟨.hbm, 302, rfl⟩
abbrev main_call0_call4_v9 : Ref sig .tc := ⟨.hbm, 303, rfl⟩
abbrev main_call0_call4_v10 : Ref sig .tc := ⟨.hbm, 304, rfl⟩
abbrev main_call0_call4_v11 : Ref sig .tc := ⟨.hbm, 305, rfl⟩
abbrev main_call0_call4_v12 : Ref sig .tc := ⟨.hbm, 306, rfl⟩
abbrev main_call0_call4_v13 : Ref sig .tc := ⟨.hbm, 307, rfl⟩
abbrev main_call0_call4_c_2 : Ref sig .tc := ⟨.hbm, 308, rfl⟩
abbrev main_call0_call4_v14 : Ref sig .tc := ⟨.hbm, 309, rfl⟩
abbrev main_call0_call4_v15 : Ref sig .tc := ⟨.hbm, 310, rfl⟩
abbrev main_call0_call4_c_3 : Ref sig .tc := ⟨.hbm, 311, rfl⟩
abbrev main_call0_call4_v16 : Ref sig .tc := ⟨.hbm, 312, rfl⟩
abbrev main_call0_call4_v17 : Ref sig .tc := ⟨.hbm, 313, rfl⟩
abbrev main_call0_call4_v18 : Ref sig .tc := ⟨.hbm, 314, rfl⟩
abbrev main_call0_call4_v19 : Ref sig .tc := ⟨.hbm, 315, rfl⟩
abbrev main_call0_call4_v20 : Ref sig .tc := ⟨.hbm, 316, rfl⟩
abbrev main_call0_call4_c_4 : Ref sig .tc := ⟨.hbm, 317, rfl⟩
abbrev main_call0_call4_v21 : Ref sig .tc := ⟨.hbm, 318, rfl⟩
abbrev main_call0_call4_v22 : Ref sig .tc := ⟨.hbm, 319, rfl⟩
abbrev main_call0_call4_c_5 : Ref sig .tc := ⟨.hbm, 320, rfl⟩
abbrev main_call0_call4_v23 : Ref sig .tc := ⟨.hbm, 321, rfl⟩
abbrev main_call0_call4_v24 : Ref sig .tc := ⟨.hbm, 322, rfl⟩
abbrev main_call0_call4_v25 : Ref sig .tc := ⟨.hbm, 323, rfl⟩
abbrev main_call0_call4_v26 : Ref sig .tc := ⟨.hbm, 324, rfl⟩
abbrev main_call0_call4_v27 : Ref sig .tc := ⟨.hbm, 325, rfl⟩
abbrev main_call0_call4_c_6 : Ref sig .tc := ⟨.hbm, 326, rfl⟩
abbrev main_call0_call4_v28 : Ref sig .tc := ⟨.hbm, 327, rfl⟩
abbrev main_call0_call4_v29 : Ref sig .tc := ⟨.hbm, 328, rfl⟩
abbrev main_call0_call4_c_7 : Ref sig .tc := ⟨.hbm, 329, rfl⟩
abbrev main_call0_call4_v30 : Ref sig .tc := ⟨.hbm, 330, rfl⟩
abbrev main_call0_call4_v31 : Ref sig .tc := ⟨.hbm, 331, rfl⟩
abbrev main_call0_call4_v32 : Ref sig .tc := ⟨.hbm, 332, rfl⟩
abbrev main_call0_call4_v33 : Ref sig .tc := ⟨.hbm, 333, rfl⟩
abbrev main_call0_call4_v34 : Ref sig .tc := ⟨.hbm, 334, rfl⟩
abbrev main_call0_call4_v35 : Ref sig .tc := ⟨.hbm, 335, rfl⟩
abbrev main_call0_call4_v36 : Ref sig .tc := ⟨.hbm, 336, rfl⟩
abbrev main_call0_call4_v37 : Ref sig .tc := ⟨.hbm, 337, rfl⟩
abbrev main_call0_call4_c_8 : Ref sig .tc := ⟨.hbm, 338, rfl⟩
abbrev main_call0_call4_v38 : Ref sig .tc := ⟨.hbm, 339, rfl⟩
abbrev main_call0_call4_v39 : Ref sig .tc := ⟨.hbm, 340, rfl⟩
abbrev main_call0_call4_v40 : Ref sig .tc := ⟨.hbm, 341, rfl⟩
abbrev main_call0_call4_c_9 : Ref sig .tc := ⟨.hbm, 342, rfl⟩
abbrev main_call0_call4_v41 : Ref sig .tc := ⟨.hbm, 343, rfl⟩
abbrev main_call0_call4_v42 : Ref sig .tc := ⟨.hbm, 344, rfl⟩
abbrev main_call0_call4_c_10 : Ref sig .tc := ⟨.hbm, 345, rfl⟩
abbrev main_call0_call4_v43 : Ref sig .tc := ⟨.hbm, 346, rfl⟩
abbrev main_call0_call4_v44 : Ref sig .tc := ⟨.hbm, 347, rfl⟩
abbrev main_call0_call4_v45 : Ref sig .tc := ⟨.hbm, 348, rfl⟩
abbrev main_call0_call4_v46 : Ref sig .tc := ⟨.hbm, 349, rfl⟩
abbrev main_call0_call4_v47 : Ref sig .tc := ⟨.hbm, 350, rfl⟩
abbrev main_call0_call4_c_11 : Ref sig .tc := ⟨.hbm, 351, rfl⟩
abbrev main_call0_call4_v48 : Ref sig .tc := ⟨.hbm, 352, rfl⟩
abbrev main_call0_call4_v49 : Ref sig .tc := ⟨.hbm, 353, rfl⟩
abbrev main_call0_call4_c_12 : Ref sig .tc := ⟨.hbm, 354, rfl⟩
abbrev main_call0_call4_v50 : Ref sig .tc := ⟨.hbm, 355, rfl⟩
abbrev main_call0_call4_v51 : Ref sig .tc := ⟨.hbm, 356, rfl⟩
abbrev main_call0_call4_v52 : Ref sig .tc := ⟨.hbm, 357, rfl⟩
abbrev main_call0_call4_v53 : Ref sig .tc := ⟨.hbm, 358, rfl⟩
abbrev main_call0_call4_v54 : Ref sig .tc := ⟨.hbm, 359, rfl⟩
abbrev main_call0_call4_c_13 : Ref sig .tc := ⟨.hbm, 360, rfl⟩
abbrev main_call0_call4_v55 : Ref sig .tc := ⟨.hbm, 361, rfl⟩
abbrev main_call0_call4_v56 : Ref sig .tc := ⟨.hbm, 362, rfl⟩
abbrev main_call0_call4_c_14 : Ref sig .tc := ⟨.hbm, 363, rfl⟩
abbrev main_call0_call4_v57 : Ref sig .tc := ⟨.hbm, 364, rfl⟩
abbrev main_call0_call4_v58 : Ref sig .tc := ⟨.hbm, 365, rfl⟩
abbrev main_call0_call4_v59 : Ref sig .tc := ⟨.hbm, 366, rfl⟩
abbrev main_call0_call4_v60 : Ref sig .tc := ⟨.hbm, 367, rfl⟩
abbrev main_call0_call4_v61 : Ref sig .tc := ⟨.hbm, 368, rfl⟩
abbrev main_call0_call4_c_15 : Ref sig .tc := ⟨.hbm, 369, rfl⟩
abbrev main_call0_call4_v62 : Ref sig .tc := ⟨.hbm, 370, rfl⟩
abbrev main_call0_call4_v63 : Ref sig .tc := ⟨.hbm, 371, rfl⟩
abbrev main_call0_call4_c_16 : Ref sig .tc := ⟨.hbm, 372, rfl⟩
abbrev main_call0_call4_v64 : Ref sig .tc := ⟨.hbm, 373, rfl⟩
abbrev main_call0_call4_v65 : Ref sig .tc := ⟨.hbm, 374, rfl⟩
abbrev main_call0_call4_v66 : Ref sig .tc := ⟨.hbm, 375, rfl⟩
abbrev main_call0_call4_v67 : Ref sig .tc := ⟨.hbm, 376, rfl⟩
abbrev main_call0_call4_v68 : Ref sig .tc := ⟨.hbm, 377, rfl⟩
abbrev main_call0_call4_v69 : Ref sig .tc := ⟨.hbm, 378, rfl⟩
abbrev main_call0_call4_v70 : Ref sig .tc := ⟨.hbm, 379, rfl⟩
abbrev main_call0_call4_v71 : Ref sig .tc := ⟨.hbm, 380, rfl⟩
abbrev main_call0_call4_c_17 : Ref sig .tc := ⟨.hbm, 381, rfl⟩
abbrev main_call0_call4_v72 : Ref sig .tc := ⟨.hbm, 382, rfl⟩
abbrev main_call0_call4_v73 : Ref sig .tc := ⟨.hbm, 383, rfl⟩
abbrev main_call0_call4_v74 : Ref sig .tc := ⟨.hbm, 384, rfl⟩
abbrev main_call0_call4_c_18 : Ref sig .tc := ⟨.hbm, 385, rfl⟩
abbrev main_call0_call4_v75 : Ref sig .tc := ⟨.hbm, 386, rfl⟩
abbrev main_call0_call4_v76 : Ref sig .tc := ⟨.hbm, 387, rfl⟩
abbrev main_call0_call4_c_19 : Ref sig .tc := ⟨.hbm, 388, rfl⟩
abbrev main_call0_call4_v77 : Ref sig .tc := ⟨.hbm, 389, rfl⟩
abbrev main_call0_call4_v78 : Ref sig .tc := ⟨.hbm, 390, rfl⟩
abbrev main_call0_call4_v79 : Ref sig .tc := ⟨.hbm, 391, rfl⟩
abbrev main_call0_call4_v80 : Ref sig .tc := ⟨.hbm, 392, rfl⟩
abbrev main_call0_call4_v81 : Ref sig .tc := ⟨.hbm, 393, rfl⟩
abbrev main_call0_call4_c_20 : Ref sig .tc := ⟨.hbm, 394, rfl⟩
abbrev main_call0_call4_v82 : Ref sig .tc := ⟨.hbm, 395, rfl⟩
abbrev main_call0_call4_v83 : Ref sig .tc := ⟨.hbm, 396, rfl⟩
abbrev main_call0_call4_c_21 : Ref sig .tc := ⟨.hbm, 397, rfl⟩
abbrev main_call0_call4_v84 : Ref sig .tc := ⟨.hbm, 398, rfl⟩
abbrev main_call0_call4_v85 : Ref sig .tc := ⟨.hbm, 399, rfl⟩
abbrev main_call0_call4_v86 : Ref sig .tc := ⟨.hbm, 400, rfl⟩
abbrev main_call0_call4_v87 : Ref sig .tc := ⟨.hbm, 401, rfl⟩
abbrev main_call0_call4_v88 : Ref sig .tc := ⟨.hbm, 402, rfl⟩
abbrev main_call0_call4_c_22 : Ref sig .tc := ⟨.hbm, 403, rfl⟩
abbrev main_call0_call4_v89 : Ref sig .tc := ⟨.hbm, 404, rfl⟩
abbrev main_call0_call4_v90 : Ref sig .tc := ⟨.hbm, 405, rfl⟩
abbrev main_call0_call4_c_23 : Ref sig .tc := ⟨.hbm, 406, rfl⟩
abbrev main_call0_call4_v91 : Ref sig .tc := ⟨.hbm, 407, rfl⟩
abbrev main_call0_call4_v92 : Ref sig .tc := ⟨.hbm, 408, rfl⟩
abbrev main_call0_call4_v93 : Ref sig .tc := ⟨.hbm, 409, rfl⟩
abbrev main_call0_call4_v94 : Ref sig .tc := ⟨.hbm, 410, rfl⟩
abbrev main_call0_call4_v95 : Ref sig .tc := ⟨.hbm, 411, rfl⟩
abbrev main_call0_call4_c_24 : Ref sig .tc := ⟨.hbm, 412, rfl⟩
abbrev main_call0_call4_v96 : Ref sig .tc := ⟨.hbm, 413, rfl⟩
abbrev main_call0_call4_v97 : Ref sig .tc := ⟨.hbm, 414, rfl⟩
abbrev main_call0_call4_c_25 : Ref sig .tc := ⟨.hbm, 415, rfl⟩
abbrev main_call0_call4_v98 : Ref sig .tc := ⟨.hbm, 416, rfl⟩
abbrev main_call0_call4_v99 : Ref sig .tc := ⟨.hbm, 417, rfl⟩
abbrev main_call0_call4_v100 : Ref sig .tc := ⟨.hbm, 418, rfl⟩
abbrev main_call0_call4_v101 : Ref sig .tc := ⟨.hbm, 419, rfl⟩
abbrev main_call0_call4_v102 : Ref sig .tc := ⟨.hbm, 420, rfl⟩
abbrev main_call0_call4_v103 : Ref sig .tc := ⟨.hbm, 421, rfl⟩
abbrev main_call0_call4_v104 : Ref sig .tc := ⟨.hbm, 422, rfl⟩
abbrev main_call0_call4_v105 : Ref sig .tc := ⟨.hbm, 423, rfl⟩
abbrev main_call0_call4_c_26 : Ref sig .tc := ⟨.hbm, 424, rfl⟩
abbrev main_call0_call4_v106 : Ref sig .tc := ⟨.hbm, 425, rfl⟩
abbrev main_call0_call4_v107 : Ref sig .tc := ⟨.hbm, 426, rfl⟩
abbrev main_call0_call4_v108 : Ref sig .tc := ⟨.hbm, 427, rfl⟩
abbrev main_call0_call4_c_27 : Ref sig .tc := ⟨.hbm, 428, rfl⟩
abbrev main_call0_call4_v109 : Ref sig .tc := ⟨.hbm, 429, rfl⟩
abbrev main_call0_call4_v110 : Ref sig .tc := ⟨.hbm, 430, rfl⟩
abbrev main_call0_call4_c_28 : Ref sig .tc := ⟨.hbm, 431, rfl⟩
abbrev main_call0_call4_v111 : Ref sig .tc := ⟨.hbm, 432, rfl⟩
abbrev main_call0_call4_v112 : Ref sig .tc := ⟨.hbm, 433, rfl⟩
abbrev main_call0_call4_v113 : Ref sig .tc := ⟨.hbm, 434, rfl⟩
abbrev main_call0_call4_v114 : Ref sig .tc := ⟨.hbm, 435, rfl⟩
abbrev main_call0_call4_v115 : Ref sig .tc := ⟨.hbm, 436, rfl⟩
abbrev main_call0_call4_c_29 : Ref sig .tc := ⟨.hbm, 437, rfl⟩
abbrev main_call0_call4_v116 : Ref sig .tc := ⟨.hbm, 438, rfl⟩
abbrev main_call0_call4_v117 : Ref sig .tc := ⟨.hbm, 439, rfl⟩
abbrev main_call0_call4_c_30 : Ref sig .tc := ⟨.hbm, 440, rfl⟩
abbrev main_call0_call4_v118 : Ref sig .tc := ⟨.hbm, 441, rfl⟩
abbrev main_call0_call4_v119 : Ref sig .tc := ⟨.hbm, 442, rfl⟩
abbrev main_call0_call4_v120 : Ref sig .tc := ⟨.hbm, 443, rfl⟩
abbrev main_call0_call4_v121 : Ref sig .tc := ⟨.hbm, 444, rfl⟩
abbrev main_call0_call4_v122 : Ref sig .tc := ⟨.hbm, 445, rfl⟩
abbrev main_call0_call4_c_31 : Ref sig .tc := ⟨.hbm, 446, rfl⟩
abbrev main_call0_call4_v123 : Ref sig .tc := ⟨.hbm, 447, rfl⟩
abbrev main_call0_call4_v124 : Ref sig .tc := ⟨.hbm, 448, rfl⟩
abbrev main_call0_call4_c_32 : Ref sig .tc := ⟨.hbm, 449, rfl⟩
abbrev main_call0_call4_v125 : Ref sig .tc := ⟨.hbm, 450, rfl⟩
abbrev main_call0_call4_v126 : Ref sig .tc := ⟨.hbm, 451, rfl⟩
abbrev main_call0_call4_v127 : Ref sig .tc := ⟨.hbm, 452, rfl⟩
abbrev main_call0_call4_v128 : Ref sig .tc := ⟨.hbm, 453, rfl⟩
abbrev main_call0_call4_v129 : Ref sig .tc := ⟨.hbm, 454, rfl⟩
abbrev main_call0_call4_c_33 : Ref sig .tc := ⟨.hbm, 455, rfl⟩
abbrev main_call0_call4_v130 : Ref sig .tc := ⟨.hbm, 456, rfl⟩
abbrev main_call0_call4_v131 : Ref sig .tc := ⟨.hbm, 457, rfl⟩
abbrev main_call0_call4_c_34 : Ref sig .tc := ⟨.hbm, 458, rfl⟩
abbrev main_call0_call4_v132 : Ref sig .tc := ⟨.hbm, 459, rfl⟩
abbrev main_call0_call4_v133 : Ref sig .tc := ⟨.hbm, 460, rfl⟩
abbrev main_call0_call4_v134 : Ref sig .tc := ⟨.hbm, 461, rfl⟩
abbrev main_call0_call4_v135 : Ref sig .tc := ⟨.hbm, 462, rfl⟩
abbrev main_call0_call4_v136 : Ref sig .tc := ⟨.hbm, 463, rfl⟩
abbrev main_call0_call4_v137 : Ref sig .tc := ⟨.hbm, 464, rfl⟩
abbrev main_call0_call4_v138 : Ref sig .tc := ⟨.hbm, 465, rfl⟩
abbrev main_call0_call4_v139 : Ref sig .tc := ⟨.hbm, 466, rfl⟩
abbrev main_call0_call4_c_35 : Ref sig .tc := ⟨.hbm, 467, rfl⟩
abbrev main_call0_call4_v140 : Ref sig .tc := ⟨.hbm, 468, rfl⟩
abbrev main_call0_call4_v141 : Ref sig .tc := ⟨.hbm, 469, rfl⟩
abbrev main_call0_call4_v142 : Ref sig .tc := ⟨.hbm, 470, rfl⟩
abbrev main_call0_call4_c_36 : Ref sig .tc := ⟨.hbm, 471, rfl⟩
abbrev main_call0_call4_v143 : Ref sig .tc := ⟨.hbm, 472, rfl⟩
abbrev main_call0_call4_v144 : Ref sig .tc := ⟨.hbm, 473, rfl⟩
abbrev main_call0_call4_c_37 : Ref sig .tc := ⟨.hbm, 474, rfl⟩
abbrev main_call0_call4_v145 : Ref sig .tc := ⟨.hbm, 475, rfl⟩
abbrev main_call0_call4_v146 : Ref sig .tc := ⟨.hbm, 476, rfl⟩
abbrev main_call0_call4_v147 : Ref sig .tc := ⟨.hbm, 477, rfl⟩
abbrev main_call0_call4_v148 : Ref sig .tc := ⟨.hbm, 478, rfl⟩
abbrev main_call0_call4_v149 : Ref sig .tc := ⟨.hbm, 479, rfl⟩
abbrev main_call0_call4_c_38 : Ref sig .tc := ⟨.hbm, 480, rfl⟩
abbrev main_call0_call4_v150 : Ref sig .tc := ⟨.hbm, 481, rfl⟩
abbrev main_call0_call4_v151 : Ref sig .tc := ⟨.hbm, 482, rfl⟩
abbrev main_call0_call4_c_39 : Ref sig .tc := ⟨.hbm, 483, rfl⟩
abbrev main_call0_call4_v152 : Ref sig .tc := ⟨.hbm, 484, rfl⟩
abbrev main_call0_call4_v153 : Ref sig .tc := ⟨.hbm, 485, rfl⟩
abbrev main_call0_call4_v154 : Ref sig .tc := ⟨.hbm, 486, rfl⟩
abbrev main_call0_call4_v155 : Ref sig .tc := ⟨.hbm, 487, rfl⟩
abbrev main_call0_call4_v156 : Ref sig .tc := ⟨.hbm, 488, rfl⟩
abbrev main_call0_call4_c_40 : Ref sig .tc := ⟨.hbm, 489, rfl⟩
abbrev main_call0_call4_v157 : Ref sig .tc := ⟨.hbm, 490, rfl⟩
abbrev main_call0_call4_v158 : Ref sig .tc := ⟨.hbm, 491, rfl⟩
abbrev main_call0_call4_c_41 : Ref sig .tc := ⟨.hbm, 492, rfl⟩
abbrev main_call0_call4_v159 : Ref sig .tc := ⟨.hbm, 493, rfl⟩
abbrev main_call0_call4_v160 : Ref sig .tc := ⟨.hbm, 494, rfl⟩
abbrev main_call0_call4_v161 : Ref sig .tc := ⟨.hbm, 495, rfl⟩
abbrev main_call0_call4_v162 : Ref sig .tc := ⟨.hbm, 496, rfl⟩
abbrev main_call0_call4_v163 : Ref sig .tc := ⟨.hbm, 497, rfl⟩
abbrev main_call0_call4_c_42 : Ref sig .tc := ⟨.hbm, 498, rfl⟩
abbrev main_call0_call4_v164 : Ref sig .tc := ⟨.hbm, 499, rfl⟩
abbrev main_call0_call4_v165 : Ref sig .tc := ⟨.hbm, 500, rfl⟩
abbrev main_call0_call4_c_43 : Ref sig .tc := ⟨.hbm, 501, rfl⟩
abbrev main_call0_call4_v166 : Ref sig .tc := ⟨.hbm, 502, rfl⟩
abbrev main_call0_call4_v167 : Ref sig .tc := ⟨.hbm, 503, rfl⟩
abbrev main_call0_call4_v168 : Ref sig .tc := ⟨.hbm, 504, rfl⟩
abbrev main_call0_call4_v169 : Ref sig .tc := ⟨.hbm, 505, rfl⟩
abbrev main_call0_call4_v170 : Ref sig .tc := ⟨.hbm, 506, rfl⟩
abbrev main_call0_v28_0 : Ref sig .tc := ⟨.hbm, 507, rfl⟩
abbrev main_call0_call4_v172 : Ref sig .tc := ⟨.hbm, 508, rfl⟩
abbrev main_call0_call4_v173 : Ref sig .tc := ⟨.hbm, 509, rfl⟩
abbrev main_call0_call4_c_44 : Ref sig .tc := ⟨.hbm, 510, rfl⟩
abbrev main_call0_call4_v174 : Ref sig .tc := ⟨.hbm, 511, rfl⟩
abbrev main_call0_v28_1 : Ref sig .tc := ⟨.hbm, 512, rfl⟩
abbrev main_call0_v29 : Ref sig .tc := ⟨.hbm, 513, rfl⟩
abbrev main_call0_v30 : Ref sig .tc := ⟨.hbm, 514, rfl⟩
abbrev main_call0_v31 : Ref sig .tc := ⟨.hbm, 515, rfl⟩
abbrev main_call0_v32 : Ref sig .tc := ⟨.hbm, 516, rfl⟩
abbrev main_call0_v33 : Ref sig .tc := ⟨.hbm, 517, rfl⟩
abbrev main_call0_v34 : Ref sig .tc := ⟨.hbm, 518, rfl⟩
abbrev main_call0_v35 : Ref sig .tc := ⟨.hbm, 519, rfl⟩
abbrev main_call0_c_9 : Ref sig .tc := ⟨.hbm, 520, rfl⟩
abbrev main_call0_v36 : Ref sig .tc := ⟨.hbm, 521, rfl⟩
abbrev main_call0_v37 : Ref sig .tc := ⟨.hbm, 522, rfl⟩
abbrev main_call0_c_10 : Ref sig .tc := ⟨.hbm, 523, rfl⟩
abbrev main_call0_v38 : Ref sig .tc := ⟨.hbm, 524, rfl⟩
abbrev main_call0_v39 : Ref sig .tc := ⟨.hbm, 525, rfl⟩
abbrev main_call0_v40 : Ref sig .tc := ⟨.hbm, 526, rfl⟩
abbrev main_call0_c_11 : Ref sig .tc := ⟨.hbm, 527, rfl⟩
abbrev main_call0_v41 : Ref sig .tc := ⟨.hbm, 528, rfl⟩
abbrev main_call0_v42 : Ref sig .tc := ⟨.hbm, 529, rfl⟩
abbrev main_call0_v43 : Ref sig .tc := ⟨.hbm, 530, rfl⟩
abbrev main_call0_v44 : Ref sig .tc := ⟨.hbm, 531, rfl⟩
abbrev main_call0_call5_v0 : Ref sig .tc := ⟨.hbm, 532, rfl⟩
abbrev main_call0_call5_c : Ref sig .tc := ⟨.hbm, 533, rfl⟩
abbrev main_call0_call5_v1 : Ref sig .tc := ⟨.hbm, 534, rfl⟩
abbrev main_call0_call5_v2 : Ref sig .tc := ⟨.hbm, 535, rfl⟩
abbrev main_call0_call5_v3 : Ref sig .tc := ⟨.hbm, 536, rfl⟩
abbrev main_call0_call5_v4 : Ref sig .tc := ⟨.hbm, 537, rfl⟩
abbrev main_call0_call5_v5 : Ref sig .tc := ⟨.hbm, 538, rfl⟩
abbrev main_call0_call5_v6 : Ref sig .tc := ⟨.hbm, 539, rfl⟩
abbrev main_call0_call5_c_0 : Ref sig .tc := ⟨.hbm, 540, rfl⟩
abbrev main_call0_call5_v7 : Ref sig .tc := ⟨.hbm, 541, rfl⟩
abbrev main_call0_call5_v8 : Ref sig .tc := ⟨.hbm, 542, rfl⟩
abbrev main_call0_call5_c_1 : Ref sig .tc := ⟨.hbm, 543, rfl⟩
abbrev main_call0_call5_v9 : Ref sig .tc := ⟨.hbm, 544, rfl⟩
abbrev main_call0_call5_v10 : Ref sig .tc := ⟨.hbm, 545, rfl⟩
abbrev main_call0_call5_v11 : Ref sig .tc := ⟨.hbm, 546, rfl⟩
abbrev main_call0_call5_v12 : Ref sig .tc := ⟨.hbm, 547, rfl⟩
abbrev main_call0_call5_v13 : Ref sig .tc := ⟨.hbm, 548, rfl⟩
abbrev main_call0_call5_c_2 : Ref sig .tc := ⟨.hbm, 549, rfl⟩
abbrev main_call0_call5_v14 : Ref sig .tc := ⟨.hbm, 550, rfl⟩
abbrev main_call0_call5_v15 : Ref sig .tc := ⟨.hbm, 551, rfl⟩
abbrev main_call0_call5_c_3 : Ref sig .tc := ⟨.hbm, 552, rfl⟩
abbrev main_call0_call5_v16 : Ref sig .tc := ⟨.hbm, 553, rfl⟩
abbrev main_call0_call5_v17 : Ref sig .tc := ⟨.hbm, 554, rfl⟩
abbrev main_call0_call5_v18 : Ref sig .tc := ⟨.hbm, 555, rfl⟩
abbrev main_call0_call5_v19 : Ref sig .tc := ⟨.hbm, 556, rfl⟩
abbrev main_call0_call5_v20 : Ref sig .tc := ⟨.hbm, 557, rfl⟩
abbrev main_call0_call5_c_4 : Ref sig .tc := ⟨.hbm, 558, rfl⟩
abbrev main_call0_call5_v21 : Ref sig .tc := ⟨.hbm, 559, rfl⟩
abbrev main_call0_call5_v22 : Ref sig .tc := ⟨.hbm, 560, rfl⟩
abbrev main_call0_call5_c_5 : Ref sig .tc := ⟨.hbm, 561, rfl⟩
abbrev main_call0_call5_v23 : Ref sig .tc := ⟨.hbm, 562, rfl⟩
abbrev main_call0_call5_v24 : Ref sig .tc := ⟨.hbm, 563, rfl⟩
abbrev main_call0_call5_v25 : Ref sig .tc := ⟨.hbm, 564, rfl⟩
abbrev main_call0_call5_v26 : Ref sig .tc := ⟨.hbm, 565, rfl⟩
abbrev main_call0_call5_v27 : Ref sig .tc := ⟨.hbm, 566, rfl⟩
abbrev main_call0_call5_c_6 : Ref sig .tc := ⟨.hbm, 567, rfl⟩
abbrev main_call0_call5_v28 : Ref sig .tc := ⟨.hbm, 568, rfl⟩
abbrev main_call0_call5_v29 : Ref sig .tc := ⟨.hbm, 569, rfl⟩
abbrev main_call0_call5_c_7 : Ref sig .tc := ⟨.hbm, 570, rfl⟩
abbrev main_call0_call5_v30 : Ref sig .tc := ⟨.hbm, 571, rfl⟩
abbrev main_call0_call5_v31 : Ref sig .tc := ⟨.hbm, 572, rfl⟩
abbrev main_call0_call5_v32 : Ref sig .tc := ⟨.hbm, 573, rfl⟩
abbrev main_call0_call5_v33 : Ref sig .tc := ⟨.hbm, 574, rfl⟩
abbrev main_call0_call5_v34 : Ref sig .tc := ⟨.hbm, 575, rfl⟩
abbrev main_call0_call5_v35 : Ref sig .tc := ⟨.hbm, 576, rfl⟩
abbrev main_call0_call5_v36 : Ref sig .tc := ⟨.hbm, 577, rfl⟩
abbrev main_call0_call5_v37 : Ref sig .tc := ⟨.hbm, 578, rfl⟩
abbrev main_call0_call5_c_8 : Ref sig .tc := ⟨.hbm, 579, rfl⟩
abbrev main_call0_call5_v38 : Ref sig .tc := ⟨.hbm, 580, rfl⟩
abbrev main_call0_call5_v39 : Ref sig .tc := ⟨.hbm, 581, rfl⟩
abbrev main_call0_call5_v40 : Ref sig .tc := ⟨.hbm, 582, rfl⟩
abbrev main_call0_call5_c_9 : Ref sig .tc := ⟨.hbm, 583, rfl⟩
abbrev main_call0_call5_v41 : Ref sig .tc := ⟨.hbm, 584, rfl⟩
abbrev main_call0_call5_v42 : Ref sig .tc := ⟨.hbm, 585, rfl⟩
abbrev main_call0_call5_c_10 : Ref sig .tc := ⟨.hbm, 586, rfl⟩
abbrev main_call0_call5_v43 : Ref sig .tc := ⟨.hbm, 587, rfl⟩
abbrev main_call0_call5_v44 : Ref sig .tc := ⟨.hbm, 588, rfl⟩
abbrev main_call0_call5_v45 : Ref sig .tc := ⟨.hbm, 589, rfl⟩
abbrev main_call0_call5_v46 : Ref sig .tc := ⟨.hbm, 590, rfl⟩
abbrev main_call0_call5_v47 : Ref sig .tc := ⟨.hbm, 591, rfl⟩
abbrev main_call0_call5_c_11 : Ref sig .tc := ⟨.hbm, 592, rfl⟩
abbrev main_call0_call5_v48 : Ref sig .tc := ⟨.hbm, 593, rfl⟩
abbrev main_call0_call5_v49 : Ref sig .tc := ⟨.hbm, 594, rfl⟩
abbrev main_call0_call5_c_12 : Ref sig .tc := ⟨.hbm, 595, rfl⟩
abbrev main_call0_call5_v50 : Ref sig .tc := ⟨.hbm, 596, rfl⟩
abbrev main_call0_call5_v51 : Ref sig .tc := ⟨.hbm, 597, rfl⟩
abbrev main_call0_call5_v52 : Ref sig .tc := ⟨.hbm, 598, rfl⟩
abbrev main_call0_call5_v53 : Ref sig .tc := ⟨.hbm, 599, rfl⟩
abbrev main_call0_call5_v54 : Ref sig .tc := ⟨.hbm, 600, rfl⟩
abbrev main_call0_call5_c_13 : Ref sig .tc := ⟨.hbm, 601, rfl⟩
abbrev main_call0_call5_v55 : Ref sig .tc := ⟨.hbm, 602, rfl⟩
abbrev main_call0_call5_v56 : Ref sig .tc := ⟨.hbm, 603, rfl⟩
abbrev main_call0_call5_c_14 : Ref sig .tc := ⟨.hbm, 604, rfl⟩
abbrev main_call0_call5_v57 : Ref sig .tc := ⟨.hbm, 605, rfl⟩
abbrev main_call0_call5_v58 : Ref sig .tc := ⟨.hbm, 606, rfl⟩
abbrev main_call0_call5_v59 : Ref sig .tc := ⟨.hbm, 607, rfl⟩
abbrev main_call0_call5_v60 : Ref sig .tc := ⟨.hbm, 608, rfl⟩
abbrev main_call0_call5_v61 : Ref sig .tc := ⟨.hbm, 609, rfl⟩
abbrev main_call0_call5_c_15 : Ref sig .tc := ⟨.hbm, 610, rfl⟩
abbrev main_call0_call5_v62 : Ref sig .tc := ⟨.hbm, 611, rfl⟩
abbrev main_call0_call5_v63 : Ref sig .tc := ⟨.hbm, 612, rfl⟩
abbrev main_call0_call5_c_16 : Ref sig .tc := ⟨.hbm, 613, rfl⟩
abbrev main_call0_call5_v64 : Ref sig .tc := ⟨.hbm, 614, rfl⟩
abbrev main_call0_call5_v65 : Ref sig .tc := ⟨.hbm, 615, rfl⟩
abbrev main_call0_call5_v66 : Ref sig .tc := ⟨.hbm, 616, rfl⟩
abbrev main_call0_call5_v67 : Ref sig .tc := ⟨.hbm, 617, rfl⟩
abbrev main_call0_call5_v68 : Ref sig .tc := ⟨.hbm, 618, rfl⟩
abbrev main_call0_call5_v69 : Ref sig .tc := ⟨.hbm, 619, rfl⟩
abbrev main_call0_call5_v70 : Ref sig .tc := ⟨.hbm, 620, rfl⟩
abbrev main_call0_call5_v71 : Ref sig .tc := ⟨.hbm, 621, rfl⟩
abbrev main_call0_call5_c_17 : Ref sig .tc := ⟨.hbm, 622, rfl⟩
abbrev main_call0_call5_v72 : Ref sig .tc := ⟨.hbm, 623, rfl⟩
abbrev main_call0_call5_v73 : Ref sig .tc := ⟨.hbm, 624, rfl⟩
abbrev main_call0_call5_v74 : Ref sig .tc := ⟨.hbm, 625, rfl⟩
abbrev main_call0_call5_c_18 : Ref sig .tc := ⟨.hbm, 626, rfl⟩
abbrev main_call0_call5_v75 : Ref sig .tc := ⟨.hbm, 627, rfl⟩
abbrev main_call0_call5_v76 : Ref sig .tc := ⟨.hbm, 628, rfl⟩
abbrev main_call0_call5_c_19 : Ref sig .tc := ⟨.hbm, 629, rfl⟩
abbrev main_call0_call5_v77 : Ref sig .tc := ⟨.hbm, 630, rfl⟩
abbrev main_call0_call5_v78 : Ref sig .tc := ⟨.hbm, 631, rfl⟩
abbrev main_call0_call5_v79 : Ref sig .tc := ⟨.hbm, 632, rfl⟩
abbrev main_call0_call5_v80 : Ref sig .tc := ⟨.hbm, 633, rfl⟩
abbrev main_call0_call5_v81 : Ref sig .tc := ⟨.hbm, 634, rfl⟩
abbrev main_call0_call5_c_20 : Ref sig .tc := ⟨.hbm, 635, rfl⟩
abbrev main_call0_call5_v82 : Ref sig .tc := ⟨.hbm, 636, rfl⟩
abbrev main_call0_call5_v83 : Ref sig .tc := ⟨.hbm, 637, rfl⟩
abbrev main_call0_call5_c_21 : Ref sig .tc := ⟨.hbm, 638, rfl⟩
abbrev main_call0_call5_v84 : Ref sig .tc := ⟨.hbm, 639, rfl⟩
abbrev main_call0_call5_v85 : Ref sig .tc := ⟨.hbm, 640, rfl⟩
abbrev main_call0_call5_v86 : Ref sig .tc := ⟨.hbm, 641, rfl⟩
abbrev main_call0_call5_v87 : Ref sig .tc := ⟨.hbm, 642, rfl⟩
abbrev main_call0_call5_v88 : Ref sig .tc := ⟨.hbm, 643, rfl⟩
abbrev main_call0_call5_c_22 : Ref sig .tc := ⟨.hbm, 644, rfl⟩
abbrev main_call0_call5_v89 : Ref sig .tc := ⟨.hbm, 645, rfl⟩
abbrev main_call0_call5_v90 : Ref sig .tc := ⟨.hbm, 646, rfl⟩
abbrev main_call0_call5_c_23 : Ref sig .tc := ⟨.hbm, 647, rfl⟩
abbrev main_call0_call5_v91 : Ref sig .tc := ⟨.hbm, 648, rfl⟩
abbrev main_call0_call5_v92 : Ref sig .tc := ⟨.hbm, 649, rfl⟩
abbrev main_call0_call5_v93 : Ref sig .tc := ⟨.hbm, 650, rfl⟩
abbrev main_call0_call5_v94 : Ref sig .tc := ⟨.hbm, 651, rfl⟩
abbrev main_call0_call5_v95 : Ref sig .tc := ⟨.hbm, 652, rfl⟩
abbrev main_call0_call5_c_24 : Ref sig .tc := ⟨.hbm, 653, rfl⟩
abbrev main_call0_call5_v96 : Ref sig .tc := ⟨.hbm, 654, rfl⟩
abbrev main_call0_call5_v97 : Ref sig .tc := ⟨.hbm, 655, rfl⟩
abbrev main_call0_call5_c_25 : Ref sig .tc := ⟨.hbm, 656, rfl⟩
abbrev main_call0_call5_v98 : Ref sig .tc := ⟨.hbm, 657, rfl⟩
abbrev main_call0_call5_v99 : Ref sig .tc := ⟨.hbm, 658, rfl⟩
abbrev main_call0_call5_v100 : Ref sig .tc := ⟨.hbm, 659, rfl⟩
abbrev main_call0_call5_v101 : Ref sig .tc := ⟨.hbm, 660, rfl⟩
abbrev main_call0_call5_v102 : Ref sig .tc := ⟨.hbm, 661, rfl⟩
abbrev main_call0_call5_v103 : Ref sig .tc := ⟨.hbm, 662, rfl⟩
abbrev main_call0_call5_v104 : Ref sig .tc := ⟨.hbm, 663, rfl⟩
abbrev main_call0_call5_v105 : Ref sig .tc := ⟨.hbm, 664, rfl⟩
abbrev main_call0_call5_c_26 : Ref sig .tc := ⟨.hbm, 665, rfl⟩
abbrev main_call0_call5_v106 : Ref sig .tc := ⟨.hbm, 666, rfl⟩
abbrev main_call0_call5_v107 : Ref sig .tc := ⟨.hbm, 667, rfl⟩
abbrev main_call0_call5_v108 : Ref sig .tc := ⟨.hbm, 668, rfl⟩
abbrev main_call0_call5_c_27 : Ref sig .tc := ⟨.hbm, 669, rfl⟩
abbrev main_call0_call5_v109 : Ref sig .tc := ⟨.hbm, 670, rfl⟩
abbrev main_call0_call5_v110 : Ref sig .tc := ⟨.hbm, 671, rfl⟩
abbrev main_call0_call5_c_28 : Ref sig .tc := ⟨.hbm, 672, rfl⟩
abbrev main_call0_call5_v111 : Ref sig .tc := ⟨.hbm, 673, rfl⟩
abbrev main_call0_call5_v112 : Ref sig .tc := ⟨.hbm, 674, rfl⟩
abbrev main_call0_call5_v113 : Ref sig .tc := ⟨.hbm, 675, rfl⟩
abbrev main_call0_call5_v114 : Ref sig .tc := ⟨.hbm, 676, rfl⟩
abbrev main_call0_call5_v115 : Ref sig .tc := ⟨.hbm, 677, rfl⟩
abbrev main_call0_call5_c_29 : Ref sig .tc := ⟨.hbm, 678, rfl⟩
abbrev main_call0_call5_v116 : Ref sig .tc := ⟨.hbm, 679, rfl⟩
abbrev main_call0_call5_v117 : Ref sig .tc := ⟨.hbm, 680, rfl⟩
abbrev main_call0_call5_c_30 : Ref sig .tc := ⟨.hbm, 681, rfl⟩
abbrev main_call0_call5_v118 : Ref sig .tc := ⟨.hbm, 682, rfl⟩
abbrev main_call0_call5_v119 : Ref sig .tc := ⟨.hbm, 683, rfl⟩
abbrev main_call0_call5_v120 : Ref sig .tc := ⟨.hbm, 684, rfl⟩
abbrev main_call0_call5_v121 : Ref sig .tc := ⟨.hbm, 685, rfl⟩
abbrev main_call0_call5_v122 : Ref sig .tc := ⟨.hbm, 686, rfl⟩
abbrev main_call0_call5_c_31 : Ref sig .tc := ⟨.hbm, 687, rfl⟩
abbrev main_call0_call5_v123 : Ref sig .tc := ⟨.hbm, 688, rfl⟩
abbrev main_call0_call5_v124 : Ref sig .tc := ⟨.hbm, 689, rfl⟩
abbrev main_call0_call5_c_32 : Ref sig .tc := ⟨.hbm, 690, rfl⟩
abbrev main_call0_call5_v125 : Ref sig .tc := ⟨.hbm, 691, rfl⟩
abbrev main_call0_call5_v126 : Ref sig .tc := ⟨.hbm, 692, rfl⟩
abbrev main_call0_call5_v127 : Ref sig .tc := ⟨.hbm, 693, rfl⟩
abbrev main_call0_call5_v128 : Ref sig .tc := ⟨.hbm, 694, rfl⟩
abbrev main_call0_call5_v129 : Ref sig .tc := ⟨.hbm, 695, rfl⟩
abbrev main_call0_call5_c_33 : Ref sig .tc := ⟨.hbm, 696, rfl⟩
abbrev main_call0_call5_v130 : Ref sig .tc := ⟨.hbm, 697, rfl⟩
abbrev main_call0_call5_v131 : Ref sig .tc := ⟨.hbm, 698, rfl⟩
abbrev main_call0_call5_c_34 : Ref sig .tc := ⟨.hbm, 699, rfl⟩
abbrev main_call0_call5_v132 : Ref sig .tc := ⟨.hbm, 700, rfl⟩
abbrev main_call0_call5_v133 : Ref sig .tc := ⟨.hbm, 701, rfl⟩
abbrev main_call0_call5_v134 : Ref sig .tc := ⟨.hbm, 702, rfl⟩
abbrev main_call0_call5_v135 : Ref sig .tc := ⟨.hbm, 703, rfl⟩
abbrev main_call0_call5_v136 : Ref sig .tc := ⟨.hbm, 704, rfl⟩
abbrev main_call0_call5_v137 : Ref sig .tc := ⟨.hbm, 705, rfl⟩
abbrev main_call0_call5_v138 : Ref sig .tc := ⟨.hbm, 706, rfl⟩
abbrev main_call0_call5_v139 : Ref sig .tc := ⟨.hbm, 707, rfl⟩
abbrev main_call0_call5_c_35 : Ref sig .tc := ⟨.hbm, 708, rfl⟩
abbrev main_call0_call5_v140 : Ref sig .tc := ⟨.hbm, 709, rfl⟩
abbrev main_call0_call5_v141 : Ref sig .tc := ⟨.hbm, 710, rfl⟩
abbrev main_call0_call5_v142 : Ref sig .tc := ⟨.hbm, 711, rfl⟩
abbrev main_call0_call5_c_36 : Ref sig .tc := ⟨.hbm, 712, rfl⟩
abbrev main_call0_call5_v143 : Ref sig .tc := ⟨.hbm, 713, rfl⟩
abbrev main_call0_call5_v144 : Ref sig .tc := ⟨.hbm, 714, rfl⟩
abbrev main_call0_call5_c_37 : Ref sig .tc := ⟨.hbm, 715, rfl⟩
abbrev main_call0_call5_v145 : Ref sig .tc := ⟨.hbm, 716, rfl⟩
abbrev main_call0_call5_v146 : Ref sig .tc := ⟨.hbm, 717, rfl⟩
abbrev main_call0_call5_v147 : Ref sig .tc := ⟨.hbm, 718, rfl⟩
abbrev main_call0_call5_v148 : Ref sig .tc := ⟨.hbm, 719, rfl⟩
abbrev main_call0_call5_v149 : Ref sig .tc := ⟨.hbm, 720, rfl⟩
abbrev main_call0_call5_c_38 : Ref sig .tc := ⟨.hbm, 721, rfl⟩
abbrev main_call0_call5_v150 : Ref sig .tc := ⟨.hbm, 722, rfl⟩
abbrev main_call0_call5_v151 : Ref sig .tc := ⟨.hbm, 723, rfl⟩
abbrev main_call0_call5_c_39 : Ref sig .tc := ⟨.hbm, 724, rfl⟩
abbrev main_call0_call5_v152 : Ref sig .tc := ⟨.hbm, 725, rfl⟩
abbrev main_call0_call5_v153 : Ref sig .tc := ⟨.hbm, 726, rfl⟩
abbrev main_call0_call5_v154 : Ref sig .tc := ⟨.hbm, 727, rfl⟩
abbrev main_call0_call5_v155 : Ref sig .tc := ⟨.hbm, 728, rfl⟩
abbrev main_call0_call5_v156 : Ref sig .tc := ⟨.hbm, 729, rfl⟩
abbrev main_call0_call5_c_40 : Ref sig .tc := ⟨.hbm, 730, rfl⟩
abbrev main_call0_call5_v157 : Ref sig .tc := ⟨.hbm, 731, rfl⟩
abbrev main_call0_call5_v158 : Ref sig .tc := ⟨.hbm, 732, rfl⟩
abbrev main_call0_call5_c_41 : Ref sig .tc := ⟨.hbm, 733, rfl⟩
abbrev main_call0_call5_v159 : Ref sig .tc := ⟨.hbm, 734, rfl⟩
abbrev main_call0_call5_v160 : Ref sig .tc := ⟨.hbm, 735, rfl⟩
abbrev main_call0_call5_v161 : Ref sig .tc := ⟨.hbm, 736, rfl⟩
abbrev main_call0_call5_v162 : Ref sig .tc := ⟨.hbm, 737, rfl⟩
abbrev main_call0_call5_v163 : Ref sig .tc := ⟨.hbm, 738, rfl⟩
abbrev main_call0_call5_c_42 : Ref sig .tc := ⟨.hbm, 739, rfl⟩
abbrev main_call0_call5_v164 : Ref sig .tc := ⟨.hbm, 740, rfl⟩
abbrev main_call0_call5_v165 : Ref sig .tc := ⟨.hbm, 741, rfl⟩
abbrev main_call0_call5_c_43 : Ref sig .tc := ⟨.hbm, 742, rfl⟩
abbrev main_call0_call5_v166 : Ref sig .tc := ⟨.hbm, 743, rfl⟩
abbrev main_call0_call5_v167 : Ref sig .tc := ⟨.hbm, 744, rfl⟩
abbrev main_call0_call5_v168 : Ref sig .tc := ⟨.hbm, 745, rfl⟩
abbrev main_call0_call5_v169 : Ref sig .tc := ⟨.hbm, 746, rfl⟩
abbrev main_call0_call5_v170 : Ref sig .tc := ⟨.hbm, 747, rfl⟩
abbrev main_call0_v45_0 : Ref sig .tc := ⟨.hbm, 748, rfl⟩
abbrev main_call0_call5_v172 : Ref sig .tc := ⟨.hbm, 749, rfl⟩
abbrev main_call0_call5_v173 : Ref sig .tc := ⟨.hbm, 750, rfl⟩
abbrev main_call0_call5_c_44 : Ref sig .tc := ⟨.hbm, 751, rfl⟩
abbrev main_call0_call5_v174 : Ref sig .tc := ⟨.hbm, 752, rfl⟩
abbrev main_call0_v45_1 : Ref sig .tc := ⟨.hbm, 753, rfl⟩
abbrev main_call0_v46 : Ref sig .tc := ⟨.hbm, 754, rfl⟩
abbrev main_call0_v47 : Ref sig .tc := ⟨.hbm, 755, rfl⟩
abbrev main_call0_v48 : Ref sig .tc := ⟨.hbm, 756, rfl⟩
abbrev main_call0_v49 : Ref sig .tc := ⟨.hbm, 757, rfl⟩
abbrev main_call0_c_12 : Ref sig .tc := ⟨.hbm, 758, rfl⟩
abbrev main_call0_v50 : Ref sig .tc := ⟨.hbm, 759, rfl⟩
abbrev main_call0_v51 : Ref sig .tc := ⟨.hbm, 760, rfl⟩
abbrev main_call0_v52 : Ref sig .tc := ⟨.hbm, 761, rfl⟩
abbrev main_call0_v53 : Ref sig .tc := ⟨.hbm, 762, rfl⟩
abbrev main_call0_v54 : Ref sig .tc := ⟨.hbm, 763, rfl⟩
abbrev main_call0_c_13 : Ref sig .tc := ⟨.hbm, 764, rfl⟩
abbrev main_call0_v55 : Ref sig .tc := ⟨.hbm, 765, rfl⟩
abbrev main_call0_v56 : Ref sig .tc := ⟨.hbm, 766, rfl⟩
abbrev main_call0_v57 : Ref sig .tc := ⟨.hbm, 767, rfl⟩
abbrev main_call0_c_14 : Ref sig .tc := ⟨.hbm, 768, rfl⟩
abbrev main_call0_v58 : Ref sig .tc := ⟨.hbm, 769, rfl⟩
abbrev main_call0_v59 : Ref sig .tc := ⟨.hbm, 770, rfl⟩
abbrev main_call0_v60 : Ref sig .tc := ⟨.hbm, 771, rfl⟩
abbrev main_call0_v61 : Ref sig .tc := ⟨.hbm, 772, rfl⟩
abbrev main_call0_v62 : Ref sig .tc := ⟨.hbm, 773, rfl⟩
abbrev main_call0_v63 : Ref sig .tc := ⟨.hbm, 774, rfl⟩
abbrev main_call0_v64 : Ref sig .tc := ⟨.hbm, 775, rfl⟩
abbrev main_call0_v65 : Ref sig .tc := ⟨.hbm, 776, rfl⟩
abbrev main_call0_v66 : Ref sig .tc := ⟨.hbm, 777, rfl⟩
abbrev main_call0_v67 : Ref sig .tc := ⟨.hbm, 778, rfl⟩
abbrev main_call0_v68 : Ref sig .tc := ⟨.hbm, 779, rfl⟩
abbrev main_call0_v69 : Ref sig .tc := ⟨.hbm, 780, rfl⟩
abbrev main_call0_v70 : Ref sig .tc := ⟨.hbm, 781, rfl⟩
abbrev main_call0_v71 : Ref sig .tc := ⟨.hbm, 782, rfl⟩
abbrev main_call0_v72 : Ref sig .tc := ⟨.hbm, 783, rfl⟩
abbrev main_v7 : Ref sig .tc := ⟨.hbm, 784, rfl⟩
abbrev main_v8 : Ref sig .tc := ⟨.hbm, 785, rfl⟩
abbrev main_v9 : Ref sig .tc := ⟨.hbm, 786, rfl⟩
abbrev main_v10 : Ref sig .tc := ⟨.hbm, 787, rfl⟩
abbrev main_v11 : Ref sig .tc := ⟨.hbm, 788, rfl⟩
abbrev main_v12 : Ref sig .tc := ⟨.hbm, 789, rfl⟩
abbrev main_c_4 : Ref sig .tc := ⟨.hbm, 790, rfl⟩
abbrev main_v13 : Ref sig .tc := ⟨.hbm, 791, rfl⟩
abbrev main_v14 : Ref sig .tc := ⟨.hbm, 792, rfl⟩
abbrev main_c_5 : Ref sig .tc := ⟨.hbm, 793, rfl⟩
abbrev main_v15 : Ref sig .tc := ⟨.hbm, 794, rfl⟩
abbrev main_v16 : Ref sig .tc := ⟨.hbm, 795, rfl⟩
abbrev main_v17 : Ref sig .tc := ⟨.hbm, 796, rfl⟩
abbrev main_c_6 : Ref sig .tc := ⟨.hbm, 797, rfl⟩
abbrev main_v18 : Ref sig .tc := ⟨.hbm, 798, rfl⟩
abbrev main_v19 : Ref sig .tc := ⟨.hbm, 799, rfl⟩
abbrev main_v20 : Ref sig .tc := ⟨.hbm, 800, rfl⟩
abbrev main_v21 : Ref sig .tc := ⟨.hbm, 801, rfl⟩
abbrev main_v22 : Ref sig .tc := ⟨.hbm, 802, rfl⟩
abbrev main_v23 : Ref sig .tc := ⟨.hbm, 803, rfl⟩
abbrev main_v24 : Ref sig .tc := ⟨.hbm, 804, rfl⟩
abbrev main_c_7 : Ref sig .tc := ⟨.hbm, 805, rfl⟩
abbrev main_v25 : Ref sig .tc := ⟨.hbm, 806, rfl⟩
abbrev main_v26 : Ref sig .tc := ⟨.hbm, 807, rfl⟩
abbrev main_v27 : Ref sig .tc := ⟨.hbm, 808, rfl⟩
abbrev main_v28 : Ref sig .tc := ⟨.hbm, 809, rfl⟩
abbrev main_v29 : Ref sig .tc := ⟨.hbm, 810, rfl⟩
abbrev main_v30 : Ref sig .tc := ⟨.hbm, 811, rfl⟩
abbrev main_v31 : Ref sig .tc := ⟨.hbm, 812, rfl⟩
abbrev main_v32 : Ref sig .tc := ⟨.hbm, 813, rfl⟩
abbrev main_v33 : Ref sig .tc := ⟨.hbm, 814, rfl⟩
abbrev main_v34 : Ref sig .tc := ⟨.hbm, 815, rfl⟩
abbrev main_v35 : Ref sig .tc := ⟨.hbm, 816, rfl⟩
abbrev main_v36 : Ref sig .tc := ⟨.hbm, 817, rfl⟩
abbrev main_v34_scv : Ref sig .scVector := ⟨.hbm, 815, rfl⟩
abbrev main_v33_scv : Ref sig .scVector := ⟨.hbm, 814, rfl⟩
abbrev main_v35_scv : Ref sig .scVector := ⟨.hbm, 816, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_169_r0 : BitVec 32 := 0#32
  let c0_i32_170_r0 : BitVec 32 := 0#32
  ![v1.toNat, 0, 0]
def k0_off2 (i : grid0.Coords) (c0_i32_25 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v18 : BitVec 32 := Scalar.addi v2 c0_i32_25
  let c4_i32 : BitVec 32 := 4#32
  let v19 : BitVec 32 := Scalar.muli v18 c4_i32
  let c0_i32_30 : BitVec 32 := 0#32
  let c0_i32_31 : BitVec 32 := 0#32
  ![v19.toNat, 0, 0]
def k0_off2_at (r : Fin 6) : BitVec 32 :=
  if r.val < 3 then
    if r.val < 1 then
      0#32
    else
      if r.val < 2 then
        16#32
      else
        480#32
  else
    if r.val < 4 then
      448#32
    else
      if r.val < 5 then
        496#32
      else
        464#32
@[reducible] def k0_t1_loop : Scf.Loop 32 :=
  let c0_i32_76 : BitVec 32 := 0#32
  let c7_i32 : BitVec 32 := 7#32
  let v49 : BitVec 32 := Scalar.addi c0_i32_76 c7_i32
  let c1_i32_77 : BitVec 32 := 1#32
  ⟨c0_i32_76, v49, c1_i32_77⟩
def k0_off3 (k0_t1 : Fin k0_t1_loop.trips) (c0_i32_171 : BitVec 32) : Fin 2 → Nat :=
  let c4_i32_169 : BitVec 32 := 4#32
  let c0_i32_76 : BitVec 32 := 0#32
  let c1_i32_77 : BitVec 32 := 1#32
  let arg15 : BitVec 32 := Scf.iv c0_i32_76 c1_i32_77 k0_t1
  let v108 : BitVec 32 := Scalar.muli c4_i32_169 arg15
  let c2_i32_170 : BitVec 32 := 2#32
  let v109 : BitVec 32 := Scalar.addi v108 c2_i32_170
  let v110 : BitVec 32 := Scalar.addi v109 c0_i32_171
  let c0_i32_176 : BitVec 32 := 0#32
  ![v110.toNat, 0]
def k0_off4 (i : grid0.Coords) (k0_t1 : Fin k0_t1_loop.trips) (c0_i32_171 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c4_i32_169 : BitVec 32 := 4#32
  let c0_i32_76 : BitVec 32 := 0#32
  let c1_i32_77 : BitVec 32 := 1#32
  let arg15 : BitVec 32 := Scf.iv c0_i32_76 c1_i32_77 k0_t1
  let v108 : BitVec 32 := Scalar.muli c4_i32_169 arg15
  let c2_i32_170 : BitVec 32 := 2#32
  let v109 : BitVec 32 := Scalar.addi v108 c2_i32_170
  let v110 : BitVec 32 := Scalar.addi v109 c0_i32_171
  let c16_i32_180 : BitVec 32 := 16#32
  let v116 : BitVec 32 := Scalar.muli v110 c16_i32_180
  let v117 : BitVec 32 := Scalar.addi v2 v116
  let c4_i32_181 : BitVec 32 := 4#32
  let v118 : BitVec 32 := Scalar.muli v117 c4_i32_181
  let c0_i32_186 : BitVec 32 := 0#32
  let c0_i32_187 : BitVec 32 := 0#32
  ![v118.toNat, 0, 0]
def k0_off5 (i : grid0.Coords) (k0_t1 : Fin k0_t1_loop.trips) (c0_i32_171 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c4_i32_169 : BitVec 32 := 4#32
  let c0_i32_76 : BitVec 32 := 0#32
  let c1_i32_77 : BitVec 32 := 1#32
  let arg15 : BitVec 32 := Scf.iv c0_i32_76 c1_i32_77 k0_t1
  let v108 : BitVec 32 := Scalar.muli c4_i32_169 arg15
  let c2_i32_170 : BitVec 32 := 2#32
  let v109 : BitVec 32 := Scalar.addi v108 c2_i32_170
  let v110 : BitVec 32 := Scalar.addi v109 c0_i32_171
  let c2_i32_193 : BitVec 32 := 2#32
  let v125 : BitVec 32 := Scalar.subi v110 c2_i32_193
  let c16_i32_194 : BitVec 32 := 16#32
  let v126 : BitVec 32 := Scalar.muli v125 c16_i32_194
  let v127 : BitVec 32 := Scalar.addi v2 v126
  let c4_i32_195 : BitVec 32 := 4#32
  let v128 : BitVec 32 := Scalar.muli v127 c4_i32_195
  let c0_i32_200 : BitVec 32 := 0#32
  let c0_i32_201 : BitVec 32 := 0#32
  ![v128.toNat, 0, 0]
def k0_off6 (k0_t1 : Fin k0_t1_loop.trips) (c0_i32_171 : BitVec 32) : Fin 2 → Nat :=
  let c4_i32_169 : BitVec 32 := 4#32
  let c0_i32_76 : BitVec 32 := 0#32
  let c1_i32_77 : BitVec 32 := 1#32
  let arg15 : BitVec 32 := Scf.iv c0_i32_76 c1_i32_77 k0_t1
  let v108 : BitVec 32 := Scalar.muli c4_i32_169 arg15
  let c2_i32_170 : BitVec 32 := 2#32
  let v109 : BitVec 32 := Scalar.addi v108 c2_i32_170
  let v110 : BitVec 32 := Scalar.addi v109 c0_i32_171
  let c2_i32_207 : BitVec 32 := 2#32
  let v135 : BitVec 32 := Scalar.addi v110 c2_i32_207
  let c0_i32_212 : BitVec 32 := 0#32
  ![v135.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x1024 : Shape := ⟨3, ![4, 8192, 1024]⟩
abbrev S_ : Shape := ⟨0, ![]⟩
abbrev S1 : Shape := ⟨1, ![1]⟩
abbrev S2 : Shape := ⟨1, ![2]⟩
abbrev S1x1 : Shape := ⟨2, ![1, 1]⟩
abbrev S2x1 : Shape := ⟨2, ![2, 1]⟩
abbrev S2x2 : Shape := ⟨2, ![2, 2]⟩
abbrev S1x2 : Shape := ⟨2, ![1, 2]⟩
abbrev S4x4095 : Shape := ⟨2, ![4, 4095]⟩
abbrev S4095 : Shape := ⟨1, ![4095]⟩
abbrev S1x4095 : Shape := ⟨2, ![1, 4095]⟩
abbrev S4x1 : Shape := ⟨2, ![4, 1]⟩
abbrev S4x4096 : Shape := ⟨2, ![4, 4096]⟩
abbrev S4x4096x1 : Shape := ⟨3, ![4, 4096, 1]⟩
abbrev S1x1x1 : Shape := ⟨3, ![1, 1, 1]⟩
abbrev S4x4096x1024 : Shape := ⟨3, ![4, 4096, 1024]⟩

abbrev nBuf : Space → Nat
  | .hbm => 819
  | .vmem => 0
  | .smem => 0
  | _ => 0

abbrev hbmTy0_0 (i : Nat) : BufTy := match i % 128 with
  | 0 => ⟨S4x8192x1024, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S1x1, .i32⟩
  | 30 => ⟨S1x1, .i32⟩
  | 31 => ⟨S1, .i32⟩
  | 32 => ⟨S_, .i32⟩
  | 33 => ⟨S1, .i32⟩
  | 34 => ⟨S_, .i32⟩
  | 35 => ⟨S2, .i64⟩
  | 36 => ⟨S_, .i64⟩
  | 37 => ⟨S2, .i64⟩
  | 38 => ⟨S2, .i64⟩
  | 39 => ⟨S_, .i64⟩
  | 40 => ⟨S2, .i64⟩
  | 41 => ⟨S2, .i64⟩
  | 42 => ⟨S2, .i32⟩
  | 43 => ⟨S2, .i32⟩
  | 44 => ⟨S_, .i32⟩
  | 45 => ⟨S_, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S4x8192x1024, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S4x8192x1024, .f32⟩

abbrev hbmTy0_2 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S2x1, .i32⟩
  | 11 => ⟨S2x1, .i32⟩
  | 12 => ⟨S2x2, .i32⟩
  | 13 => ⟨S1x2, .i32⟩
  | 14 => ⟨S2, .i32⟩
  | 15 => ⟨S1x2, .i32⟩
  | 16 => ⟨S2, .i32⟩
  | 17 => ⟨S1, .i32⟩
  | 18 => ⟨S_, .i32⟩
  | 19 => ⟨S1, .i32⟩
  | 20 => ⟨S_, .i32⟩
  | 21 => ⟨S4x4095, .i64⟩
  | 22 => ⟨S4x4095, .i64⟩
  | 23 => ⟨S_, .i64⟩
  | 24 => ⟨S4x4095, .i64⟩
  | 25 => ⟨S4x4095, .i64⟩
  | 26 => ⟨S_, .i64⟩
  | 27 => ⟨S4x4095, .i64⟩
  | 28 => ⟨S4x4095, .i64⟩
  | 29 => ⟨S4x4095, .i64⟩
  | 30 => ⟨S_, .i64⟩
  | 31 => ⟨S4x4095, .i64⟩
  | 32 => ⟨S4x4095, .i64⟩
  | 33 => ⟨S4x4095, .i32⟩
  | 34 => ⟨S4x4095, .i32⟩
  | 35 => ⟨S_, .i32⟩
  | 36 => ⟨S_, .i32⟩
  | 37 => ⟨S_, .i32⟩
  | 38 => ⟨S4x4095, .i32⟩
  | 39 => ⟨S4x4095, .i32⟩
  | 40 => ⟨S4x4095, .i32⟩
  | 41 => ⟨S4x4095, .i32⟩
  | 42 => ⟨S4x4095, .i32⟩
  | 43 => ⟨S_, .i32⟩
  | 44 => ⟨S4x4095, .i32⟩
  | 45 => ⟨S4x4095, .i32⟩
  | 46 => ⟨S_, .i32⟩
  | 47 => ⟨S4x4095, .i32⟩
  | 48 => ⟨S4x4095, .i32⟩
  | 49 => ⟨S4x4095, .i32⟩
  | 50 => ⟨S4x4095, .i32⟩
  | 51 => ⟨S4x4095, .i32⟩
  | 52 => ⟨S_, .i32⟩
  | 53 => ⟨S4x4095, .i32⟩
  | 54 => ⟨S4x4095, .i32⟩
  | 55 => ⟨S_, .i32⟩
  | 56 => ⟨S4x4095, .i32⟩
  | 57 => ⟨S4x4095, .i32⟩
  | 58 => ⟨S4x4095, .i32⟩
  | 59 => ⟨S4x4095, .i32⟩
  | 60 => ⟨S4x4095, .i32⟩
  | 61 => ⟨S_, .i32⟩
  | 62 => ⟨S4x4095, .i32⟩
  | 63 => ⟨S4x4095, .i32⟩
  | 64 => ⟨S_, .i32⟩
  | 65 => ⟨S4x4095, .i32⟩
  | 66 => ⟨S4x4095, .i32⟩
  | 67 => ⟨S4x4095, .i32⟩
  | 68 => ⟨S4x4095, .i32⟩
  | 69 => ⟨S4x4095, .i32⟩
  | 70 => ⟨S_, .i32⟩
  | 71 => ⟨S4x4095, .i32⟩
  | 72 => ⟨S4x4095, .i32⟩
  | 73 => ⟨S_, .i32⟩
  | 74 => ⟨S4x4095, .i32⟩
  | 75 => ⟨S4x4095, .i32⟩
  | 76 => ⟨S4x4095, .i32⟩
  | 77 => ⟨S4x4095, .i32⟩
  | 78 => ⟨S4x4095, .i32⟩
  | 79 => ⟨S4x4095, .i32⟩
  | 80 => ⟨S4x4095, .i32⟩
  | 81 => ⟨S4x4095, .i32⟩
  | 82 => ⟨S_, .i32⟩
  | 83 => ⟨S4x4095, .i32⟩
  | 84 => ⟨S4x4095, .i32⟩
  | 85 => ⟨S4x4095, .i32⟩
  | 86 => ⟨S_, .i32⟩
  | 87 => ⟨S4x4095, .i32⟩
  | 88 => ⟨S4x4095, .i32⟩
  | 89 => ⟨S_, .i32⟩
  | 90 => ⟨S4x4095, .i32⟩
  | 91 => ⟨S4x4095, .i32⟩
  | 92 => ⟨S4x4095, .i32⟩
  | 93 => ⟨S4x4095, .i32⟩
  | 94 => ⟨S4x4095, .i32⟩
  | 95 => ⟨S_, .i32⟩
  | 96 => ⟨S4x4095, .i32⟩
  | 97 => ⟨S4x4095, .i32⟩
  | 98 => ⟨S_, .i32⟩
  | 99 => ⟨S4x4095, .i32⟩
  | 100 => ⟨S4x4095, .i32⟩
  | 101 => ⟨S4x4095, .i32⟩
  | 102 => ⟨S4x4095, .i32⟩
  | 103 => ⟨S4x4095, .i32⟩
  | 104 => ⟨S_, .i32⟩
  | 105 => ⟨S4x4095, .i32⟩
  | 106 => ⟨S4x4095, .i32⟩
  | 107 => ⟨S_, .i32⟩
  | 108 => ⟨S4x4095, .i32⟩
  | 109 => ⟨S4x4095, .i32⟩
  | 110 => ⟨S4x4095, .i32⟩
  | 111 => ⟨S4x4095, .i32⟩
  | 112 => ⟨S4x4095, .i32⟩
  | 113 => ⟨S_, .i32⟩
  | 114 => ⟨S4x4095, .i32⟩
  | 115 => ⟨S4x4095, .i32⟩
  | 116 => ⟨S_, .i32⟩
  | 117 => ⟨S4x4095, .i32⟩
  | 118 => ⟨S4x4095, .i32⟩
  | 119 => ⟨S4x4095, .i32⟩
  | 120 => ⟨S4x4095, .i32⟩
  | 121 => ⟨S4x4095, .i32⟩
  | 122 => ⟨S4x4095, .i32⟩
  | 123 => ⟨S4x4095, .i32⟩
  | 124 => ⟨S4x4095, .i32⟩
  | 125 => ⟨S_, .i32⟩
  | 126 => ⟨S4x4095, .i32⟩
  | 127 => ⟨S4x4095, .i32⟩
  | _ => ⟨S4x8192x1024, .f32⟩

abbrev hbmTy0_3 (i : Nat) : BufTy := match i % 128 with
  | 0 => ⟨S4x4095, .i32⟩
  | 1 => ⟨S_, .i32⟩
  | 2 => ⟨S4x4095, .i32⟩
  | 3 => ⟨S4x4095, .i32⟩
  | 4 => ⟨S_, .i32⟩
  | 5 => ⟨S4x4095, .i32⟩
  | 6 => ⟨S4x4095, .i32⟩
  | 7 => ⟨S4x4095, .i32⟩
  | 8 => ⟨S4x4095, .i32⟩
  | 9 => ⟨S4x4095, .i32⟩
  | 10 => ⟨S_, .i32⟩
  | 11 => ⟨S4x4095, .i32⟩
  | 12 => ⟨S4x4095, .i32⟩
  | 13 => ⟨S_, .i32⟩
  | 14 => ⟨S4x4095, .i32⟩
  | 15 => ⟨S4x4095, .i32⟩
  | 16 => ⟨S4x4095, .i32⟩
  | 17 => ⟨S4x4095, .i32⟩
  | 18 => ⟨S4x4095, .i32⟩
  | 19 => ⟨S_, .i32⟩
  | 20 => ⟨S4x4095, .i32⟩
  | 21 => ⟨S4x4095, .i32⟩
  | 22 => ⟨S_, .i32⟩
  | 23 => ⟨S4x4095, .i32⟩
  | 24 => ⟨S4x4095, .i32⟩
  | 25 => ⟨S4x4095, .i32⟩
  | 26 => ⟨S4x4095, .i32⟩
  | 27 => ⟨S4x4095, .i32⟩
  | 28 => ⟨S_, .i32⟩
  | 29 => ⟨S4x4095, .i32⟩
  | 30 => ⟨S4x4095, .i32⟩
  | 31 => ⟨S_, .i32⟩
  | 32 => ⟨S4x4095, .i32⟩
  | 33 => ⟨S4x4095, .i32⟩
  | 34 => ⟨S4x4095, .i32⟩
  | 35 => ⟨S4x4095, .i32⟩
  | 36 => ⟨S4x4095, .i32⟩
  | 37 => ⟨S4x4095, .i32⟩
  | 38 => ⟨S4x4095, .i32⟩
  | 39 => ⟨S4x4095, .i32⟩
  | 40 => ⟨S_, .i32⟩
  | 41 => ⟨S4x4095, .i32⟩
  | 42 => ⟨S4x4095, .i32⟩
  | 43 => ⟨S4x4095, .i32⟩
  | 44 => ⟨S_, .i32⟩
  | 45 => ⟨S4x4095, .i32⟩
  | 46 => ⟨S4x4095, .i32⟩
  | 47 => ⟨S_, .i32⟩
  | 48 => ⟨S4x4095, .i32⟩
  | 49 => ⟨S4x4095, .i32⟩
  | 50 => ⟨S4x4095, .i32⟩
  | 51 => ⟨S4x4095, .i32⟩
  | 52 => ⟨S4x4095, .i32⟩
  | 53 => ⟨S_, .i32⟩
  | 54 => ⟨S4x4095, .i32⟩
  | 55 => ⟨S4x4095, .i32⟩
  | 56 => ⟨S_, .i32⟩
  | 57 => ⟨S4x4095, .i32⟩
  | 58 => ⟨S4x4095, .i32⟩
  | 59 => ⟨S4x4095, .i32⟩
  | 60 => ⟨S4x4095, .i32⟩
  | 61 => ⟨S4x4095, .i32⟩
  | 62 => ⟨S_, .i32⟩
  | 63 => ⟨S4x4095, .i32⟩
  | 64 => ⟨S4x4095, .i32⟩
  | 65 => ⟨S_, .i32⟩
  | 66 => ⟨S4x4095, .i32⟩
  | 67 => ⟨S4x4095, .i32⟩
  | 68 => ⟨S4x4095, .i32⟩
  | 69 => ⟨S4x4095, .i32⟩
  | 70 => ⟨S4x4095, .i32⟩
  | 71 => ⟨S_, .i32⟩
  | 72 => ⟨S4x4095, .i32⟩
  | 73 => ⟨S4x4095, .i32⟩
  | 74 => ⟨S_, .i32⟩
  | 75 => ⟨S4x4095, .i32⟩
  | 76 => ⟨S4x4095, .i32⟩
  | 77 => ⟨S4x4095, .i32⟩
  | 78 => ⟨S4x4095, .i32⟩
  | 79 => ⟨S4x4095, .i32⟩
  | 80 => ⟨S4x4095, .i32⟩
  | 81 => ⟨S4x4095, .i32⟩
  | 82 => ⟨S4x4095, .i32⟩
  | 83 => ⟨S_, .i32⟩
  | 84 => ⟨S4x4095, .i32⟩
  | 85 => ⟨S4x4095, .i32⟩
  | 86 => ⟨S4x4095, .i32⟩
  | 87 => ⟨S_, .i32⟩
  | 88 => ⟨S4x4095, .i32⟩
  | 89 => ⟨S4x4095, .i32⟩
  | 90 => ⟨S_, .i32⟩
  | 91 => ⟨S4x4095, .i32⟩
  | 92 => ⟨S4x4095, .i32⟩
  | 93 => ⟨S4x4095, .i32⟩
  | 94 => ⟨S4x4095, .i32⟩
  | 95 => ⟨S4x4095, .i32⟩
  | 96 => ⟨S_, .i32⟩
  | 97 => ⟨S4x4095, .i32⟩
  | 98 => ⟨S4x4095, .i32⟩
  | 99 => ⟨S_, .i32⟩
  | 100 => ⟨S4x4095, .i32⟩
  | 101 => ⟨S4x4095, .i32⟩
  | 102 => ⟨S4x4095, .i32⟩
  | 103 => ⟨S4x4095, .i32⟩
  | 104 => ⟨S4x4095, .i32⟩
  | 105 => ⟨S_, .i32⟩
  | 106 => ⟨S4x4095, .i32⟩
  | 107 => ⟨S4x4095, .i32⟩
  | 108 => ⟨S_, .i32⟩
  | 109 => ⟨S4x4095, .i32⟩
  | 110 => ⟨S4x4095, .i32⟩
  | 111 => ⟨S4x4095, .i32⟩
  | 112 => ⟨S4x4095, .i32⟩
  | 113 => ⟨S4x4095, .i32⟩
  | 114 => ⟨S_, .i32⟩
  | 115 => ⟨S4x4095, .i32⟩
  | 116 => ⟨S4x4095, .i32⟩
  | 117 => ⟨S_, .i32⟩
  | 118 => ⟨S4x4095, .i32⟩
  | 119 => ⟨S4x4095, .i32⟩
  | 120 => ⟨S4x4095, .i32⟩
  | 121 => ⟨S4x4095, .i32⟩
  | 122 => ⟨S4x4095, .i32⟩
  | 123 => ⟨S4x4095, .i32⟩
  | 124 => ⟨S4x4095, .i32⟩
  | 125 => ⟨S4x4095, .i32⟩
  | 126 => ⟨S_, .i32⟩
  | 127 => ⟨S4x4095, .i32⟩
  | _ => ⟨S4x8192x1024, .f32⟩

abbrev hbmTy0_4 (i : Nat) : BufTy := match i % 128 with
  | 0 => ⟨S4x4095, .i32⟩
  | 1 => ⟨S4x4095, .i32⟩
  | 2 => ⟨S1, .i32⟩
  | 3 => ⟨S_, .i32⟩
  | 4 => ⟨S1, .i32⟩
  | 5 => ⟨S_, .i32⟩
  | 6 => ⟨S4x4095, .i64⟩
  | 7 => ⟨S4x4095, .i64⟩
  | 8 => ⟨S_, .i64⟩
  | 9 => ⟨S4x4095, .i64⟩
  | 10 => ⟨S4x4095, .i64⟩
  | 11 => ⟨S_, .i64⟩
  | 12 => ⟨S4x4095, .i64⟩
  | 13 => ⟨S4x4095, .i64⟩
  | 14 => ⟨S4x4095, .i64⟩
  | 15 => ⟨S_, .i64⟩
  | 16 => ⟨S4x4095, .i64⟩
  | 17 => ⟨S4x4095, .i64⟩
  | 18 => ⟨S4x4095, .i32⟩
  | 19 => ⟨S4x4095, .i32⟩
  | 20 => ⟨S_, .i32⟩
  | 21 => ⟨S_, .i32⟩
  | 22 => ⟨S_, .i32⟩
  | 23 => ⟨S4x4095, .i32⟩
  | 24 => ⟨S4x4095, .i32⟩
  | 25 => ⟨S4x4095, .i32⟩
  | 26 => ⟨S4x4095, .i32⟩
  | 27 => ⟨S4x4095, .i32⟩
  | 28 => ⟨S_, .i32⟩
  | 29 => ⟨S4x4095, .i32⟩
  | 30 => ⟨S4x4095, .i32⟩
  | 31 => ⟨S_, .i32⟩
  | 32 => ⟨S4x4095, .i32⟩
  | 33 => ⟨S4x4095, .i32⟩
  | 34 => ⟨S4x4095, .i32⟩
  | 35 => ⟨S4x4095, .i32⟩
  | 36 => ⟨S4x4095, .i32⟩
  | 37 => ⟨S_, .i32⟩
  | 38 => ⟨S4x4095, .i32⟩
  | 39 => ⟨S4x4095, .i32⟩
  | 40 => ⟨S_, .i32⟩
  | 41 => ⟨S4x4095, .i32⟩
  | 42 => ⟨S4x4095, .i32⟩
  | 43 => ⟨S4x4095, .i32⟩
  | 44 => ⟨S4x4095, .i32⟩
  | 45 => ⟨S4x4095, .i32⟩
  | 46 => ⟨S_, .i32⟩
  | 47 => ⟨S4x4095, .i32⟩
  | 48 => ⟨S4x4095, .i32⟩
  | 49 => ⟨S_, .i32⟩
  | 50 => ⟨S4x4095, .i32⟩
  | 51 => ⟨S4x4095, .i32⟩
  | 52 => ⟨S4x4095, .i32⟩
  | 53 => ⟨S4x4095, .i32⟩
  | 54 => ⟨S4x4095, .i32⟩
  | 55 => ⟨S_, .i32⟩
  | 56 => ⟨S4x4095, .i32⟩
  | 57 => ⟨S4x4095, .i32⟩
  | 58 => ⟨S_, .i32⟩
  | 59 => ⟨S4x4095, .i32⟩
  | 60 => ⟨S4x4095, .i32⟩
  | 61 => ⟨S4x4095, .i32⟩
  | 62 => ⟨S4x4095, .i32⟩
  | 63 => ⟨S4x4095, .i32⟩
  | 64 => ⟨S4x4095, .i32⟩
  | 65 => ⟨S4x4095, .i32⟩
  | 66 => ⟨S4x4095, .i32⟩
  | 67 => ⟨S_, .i32⟩
  | 68 => ⟨S4x4095, .i32⟩
  | 69 => ⟨S4x4095, .i32⟩
  | 70 => ⟨S4x4095, .i32⟩
  | 71 => ⟨S_, .i32⟩
  | 72 => ⟨S4x4095, .i32⟩
  | 73 => ⟨S4x4095, .i32⟩
  | 74 => ⟨S_, .i32⟩
  | 75 => ⟨S4x4095, .i32⟩
  | 76 => ⟨S4x4095, .i32⟩
  | 77 => ⟨S4x4095, .i32⟩
  | 78 => ⟨S4x4095, .i32⟩
  | 79 => ⟨S4x4095, .i32⟩
  | 80 => ⟨S_, .i32⟩
  | 81 => ⟨S4x4095, .i32⟩
  | 82 => ⟨S4x4095, .i32⟩
  | 83 => ⟨S_, .i32⟩
  | 84 => ⟨S4x4095, .i32⟩
  | 85 => ⟨S4x4095, .i32⟩
  | 86 => ⟨S4x4095, .i32⟩
  | 87 => ⟨S4x4095, .i32⟩
  | 88 => ⟨S4x4095, .i32⟩
  | 89 => ⟨S_, .i32⟩
  | 90 => ⟨S4x4095, .i32⟩
  | 91 => ⟨S4x4095, .i32⟩
  | 92 => ⟨S_, .i32⟩
  | 93 => ⟨S4x4095, .i32⟩
  | 94 => ⟨S4x4095, .i32⟩
  | 95 => ⟨S4x4095, .i32⟩
  | 96 => ⟨S4x4095, .i32⟩
  | 97 => ⟨S4x4095, .i32⟩
  | 98 => ⟨S_, .i32⟩
  | 99 => ⟨S4x4095, .i32⟩
  | 100 => ⟨S4x4095, .i32⟩
  | 101 => ⟨S_, .i32⟩
  | 102 => ⟨S4x4095, .i32⟩
  | 103 => ⟨S4x4095, .i32⟩
  | 104 => ⟨S4x4095, .i32⟩
  | 105 => ⟨S4x4095, .i32⟩
  | 106 => ⟨S4x4095, .i32⟩
  | 107 => ⟨S4x4095, .i32⟩
  | 108 => ⟨S4x4095, .i32⟩
  | 109 => ⟨S4x4095, .i32⟩
  | 110 => ⟨S_, .i32⟩
  | 111 => ⟨S4x4095, .i32⟩
  | 112 => ⟨S4x4095, .i32⟩
  | 113 => ⟨S4x4095, .i32⟩
  | 114 => ⟨S_, .i32⟩
  | 115 => ⟨S4x4095, .i32⟩
  | 116 => ⟨S4x4095, .i32⟩
  | 117 => ⟨S_, .i32⟩
  | 118 => ⟨S4x4095, .i32⟩
  | 119 => ⟨S4x4095, .i32⟩
  | 120 => ⟨S4x4095, .i32⟩
  | 121 => ⟨S4x4095, .i32⟩
  | 122 => ⟨S4x4095, .i32⟩
  | 123 => ⟨S_, .i32⟩
  | 124 => ⟨S4x4095, .i32⟩
  | 125 => ⟨S4x4095, .i32⟩
  | 126 => ⟨S_, .i32⟩
  | 127 => ⟨S4x4095, .i32⟩
  | _ => ⟨S4x8192x1024, .f32⟩

abbrev hbmTy0_5 (i : Nat) : BufTy := match i % 128 with
  | 0 => ⟨S4x4095, .i32⟩
  | 1 => ⟨S4x4095, .i32⟩
  | 2 => ⟨S4x4095, .i32⟩
  | 3 => ⟨S4x4095, .i32⟩
  | 4 => ⟨S_, .i32⟩
  | 5 => ⟨S4x4095, .i32⟩
  | 6 => ⟨S4x4095, .i32⟩
  | 7 => ⟨S_, .i32⟩
  | 8 => ⟨S4x4095, .i32⟩
  | 9 => ⟨S4x4095, .i32⟩
  | 10 => ⟨S4x4095, .i32⟩
  | 11 => ⟨S4x4095, .i32⟩
  | 12 => ⟨S4x4095, .i32⟩
  | 13 => ⟨S_, .i32⟩
  | 14 => ⟨S4x4095, .i32⟩
  | 15 => ⟨S4x4095, .i32⟩
  | 16 => ⟨S_, .i32⟩
  | 17 => ⟨S4x4095, .i32⟩
  | 18 => ⟨S4x4095, .i32⟩
  | 19 => ⟨S4x4095, .i32⟩
  | 20 => ⟨S4x4095, .i32⟩
  | 21 => ⟨S4x4095, .i32⟩
  | 22 => ⟨S4x4095, .i32⟩
  | 23 => ⟨S4x4095, .i32⟩
  | 24 => ⟨S4x4095, .i32⟩
  | 25 => ⟨S_, .i32⟩
  | 26 => ⟨S4x4095, .i32⟩
  | 27 => ⟨S4x4095, .i32⟩
  | 28 => ⟨S4x4095, .i32⟩
  | 29 => ⟨S_, .i32⟩
  | 30 => ⟨S4x4095, .i32⟩
  | 31 => ⟨S4x4095, .i32⟩
  | 32 => ⟨S_, .i32⟩
  | 33 => ⟨S4x4095, .i32⟩
  | 34 => ⟨S4x4095, .i32⟩
  | 35 => ⟨S4x4095, .i32⟩
  | 36 => ⟨S4x4095, .i32⟩
  | 37 => ⟨S4x4095, .i32⟩
  | 38 => ⟨S_, .i32⟩
  | 39 => ⟨S4x4095, .i32⟩
  | 40 => ⟨S4x4095, .i32⟩
  | 41 => ⟨S_, .i32⟩
  | 42 => ⟨S4x4095, .i32⟩
  | 43 => ⟨S4x4095, .i32⟩
  | 44 => ⟨S4x4095, .i32⟩
  | 45 => ⟨S4x4095, .i32⟩
  | 46 => ⟨S4x4095, .i32⟩
  | 47 => ⟨S_, .i32⟩
  | 48 => ⟨S4x4095, .i32⟩
  | 49 => ⟨S4x4095, .i32⟩
  | 50 => ⟨S_, .i32⟩
  | 51 => ⟨S4x4095, .i32⟩
  | 52 => ⟨S4x4095, .i32⟩
  | 53 => ⟨S4x4095, .i32⟩
  | 54 => ⟨S4x4095, .i32⟩
  | 55 => ⟨S4x4095, .i32⟩
  | 56 => ⟨S_, .i32⟩
  | 57 => ⟨S4x4095, .i32⟩
  | 58 => ⟨S4x4095, .i32⟩
  | 59 => ⟨S_, .i32⟩
  | 60 => ⟨S4x4095, .i32⟩
  | 61 => ⟨S4x4095, .i32⟩
  | 62 => ⟨S4x4095, .i32⟩
  | 63 => ⟨S4x4095, .i32⟩
  | 64 => ⟨S4x4095, .i32⟩
  | 65 => ⟨S4x4095, .i32⟩
  | 66 => ⟨S4x4095, .i32⟩
  | 67 => ⟨S4x4095, .i32⟩
  | 68 => ⟨S_, .i32⟩
  | 69 => ⟨S4x4095, .i32⟩
  | 70 => ⟨S4x4095, .i32⟩
  | 71 => ⟨S4x4095, .i32⟩
  | 72 => ⟨S_, .i32⟩
  | 73 => ⟨S4x4095, .i32⟩
  | 74 => ⟨S4x4095, .i32⟩
  | 75 => ⟨S_, .i32⟩
  | 76 => ⟨S4x4095, .i32⟩
  | 77 => ⟨S4x4095, .i32⟩
  | 78 => ⟨S4x4095, .i32⟩
  | 79 => ⟨S4x4095, .i32⟩
  | 80 => ⟨S4x4095, .i32⟩
  | 81 => ⟨S_, .i32⟩
  | 82 => ⟨S4x4095, .i32⟩
  | 83 => ⟨S4x4095, .i32⟩
  | 84 => ⟨S_, .i32⟩
  | 85 => ⟨S4x4095, .i32⟩
  | 86 => ⟨S4x4095, .i32⟩
  | 87 => ⟨S4x4095, .i32⟩
  | 88 => ⟨S4x4095, .i32⟩
  | 89 => ⟨S4x4095, .i32⟩
  | 90 => ⟨S_, .i32⟩
  | 91 => ⟨S4x4095, .i32⟩
  | 92 => ⟨S4x4095, .i32⟩
  | 93 => ⟨S_, .i32⟩
  | 94 => ⟨S4x4095, .i32⟩
  | 95 => ⟨S4x4095, .i32⟩
  | 96 => ⟨S4x4095, .i32⟩
  | 97 => ⟨S4x4095, .i32⟩
  | 98 => ⟨S4x4095, .i32⟩
  | 99 => ⟨S_, .i32⟩
  | 100 => ⟨S4x4095, .i32⟩
  | 101 => ⟨S4x4095, .i32⟩
  | 102 => ⟨S_, .i32⟩
  | 103 => ⟨S4x4095, .i32⟩
  | 104 => ⟨S4x4095, .i32⟩
  | 105 => ⟨S4x4095, .i32⟩
  | 106 => ⟨S4x4095, .i32⟩
  | 107 => ⟨S4x4095, .i32⟩
  | 108 => ⟨S4x4095, .i32⟩
  | 109 => ⟨S4x4095, .i32⟩
  | 110 => ⟨S4x4095, .i32⟩
  | 111 => ⟨S_, .i32⟩
  | 112 => ⟨S4x4095, .i32⟩
  | 113 => ⟨S4x4095, .i32⟩
  | 114 => ⟨S4x4095, .i32⟩
  | 115 => ⟨S1x1, .i32⟩
  | 116 => ⟨S1x1, .i32⟩
  | 117 => ⟨S1x1, .i1⟩
  | 118 => ⟨S_, .i32⟩
  | 119 => ⟨S1x1, .i32⟩
  | 120 => ⟨S1x1, .i32⟩
  | 121 => ⟨S1x1, .i1⟩
  | 122 => ⟨S1x1, .i1⟩
  | 123 => ⟨S1x1, .i1⟩
  | 124 => ⟨S_, .i32⟩
  | 125 => ⟨S1x1, .i32⟩
  | 126 => ⟨S1x1, .i32⟩
  | 127 => ⟨S1x1, .i32⟩
  | _ => ⟨S4x8192x1024, .f32⟩

abbrev hbmTy0_6 (i : Nat) : BufTy := match i % 128 with
  | 0 => ⟨S_, .i32⟩
  | 1 => ⟨S1x1, .i32⟩
  | 2 => ⟨S1x1, .i32⟩
  | 3 => ⟨S1x1, .i32⟩
  | 4 => ⟨S1x1, .i32⟩
  | 5 => ⟨S4x4095, .i32⟩
  | 6 => ⟨S4x4095, .i32⟩
  | 7 => ⟨S4x4095, .i32⟩
  | 8 => ⟨S4x4095, .i32⟩
  | 9 => ⟨S4x4095, .i32⟩
  | 10 => ⟨S4x4095, .i32⟩
  | 11 => ⟨S4x4095, .i32⟩
  | 12 => ⟨S4x4095, .i32⟩
  | 13 => ⟨S4x4095, .i32⟩
  | 14 => ⟨S4x4095, .i32⟩
  | 15 => ⟨S4x4095, .i32⟩
  | 16 => ⟨S4x4095, .i32⟩
  | 17 => ⟨S4x4095, .i32⟩
  | 18 => ⟨S4095, .i32⟩
  | 19 => ⟨S1x4095, .i32⟩
  | 20 => ⟨S4x4095, .i32⟩
  | 21 => ⟨S4x4095, .i32⟩
  | 22 => ⟨S_, .i32⟩
  | 23 => ⟨S4x4095, .i32⟩
  | 24 => ⟨S4x4095, .i32⟩
  | 25 => ⟨S_, .i32⟩
  | 26 => ⟨S4x1, .i32⟩
  | 27 => ⟨S4x4096, .i32⟩
  | 28 => ⟨S4x4096x1, .i32⟩
  | 29 => ⟨S_, .i32⟩
  | 30 => ⟨S4x4096x1, .i32⟩
  | 31 => ⟨S4x4096x1, .i1⟩
  | 32 => ⟨S_, .i32⟩
  | 33 => ⟨S4x4096x1, .i32⟩
  | 34 => ⟨S4x4096x1, .i32⟩
  | 35 => ⟨S4x4096x1, .i32⟩
  | 36 => ⟨S1, .i32⟩
  | 37 => ⟨S_, .i32⟩
  | 38 => ⟨S4x4096x1, .i32⟩
  | 39 => ⟨S4x4096x1, .i1⟩
  | 40 => ⟨S1x1x1, .i32⟩
  | 41 => ⟨S4x4096x1, .i32⟩
  | 42 => ⟨S4x4096x1, .i1⟩
  | 43 => ⟨S4x4096x1, .i1⟩
  | 44 => ⟨S_, .i1⟩
  | 45 => ⟨S4x4096, .i1⟩
  | 46 => ⟨S4x4096x1024, .f32⟩
  | 47 => ⟨S4x4096x1024, .i1⟩
  | 48 => ⟨S_, .f32⟩
  | 49 => ⟨S4x4096x1024, .f32⟩
  | 50 => ⟨S4x4096x1024, .f32⟩
  | _ => ⟨S4x8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_c_3 : Ref sig .tc := ⟨.hbm, 12, rfl⟩
abbrev main_call0_c : Ref sig .tc := ⟨.hbm, 13, rfl⟩
abbrev main_call0_c_0 : Ref sig .tc := ⟨.hbm, 14, rfl⟩
abbrev main_call0_c_1 : Ref sig .tc := ⟨.hbm, 15, rfl⟩
abbrev main_call0_call0_v0 : Ref sig .tc := ⟨.hbm, 16, rfl⟩
abbrev main_call0_v0 : Ref sig .tc := ⟨.hbm, 17, rfl⟩
abbrev main_call0_v1 : Ref sig .tc := ⟨.hbm, 18, rfl⟩
abbrev main_call0_c_2 : Ref sig .tc := ⟨.hbm, 19, rfl⟩
abbrev main_call0_c_3 : Ref sig .tc := ⟨.hbm, 20, rfl⟩
abbrev main_call0_call1_v0 : Ref sig .tc := ⟨.hbm, 21, rfl⟩
abbrev main_call0_v2 : Ref sig .tc := ⟨.hbm, 22, rfl⟩
abbrev main_call0_v3 : Ref sig .tc := ⟨.hbm, 23, rfl⟩
abbrev main_call0_c_4 : Ref sig .tc := ⟨.hbm, 24, rfl⟩
abbrev main_call0_c_5 : Ref sig .tc := ⟨.hbm, 25, rfl⟩
abbrev main_call0_call2_v0 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_call3_v0 : Ref sig .tc := ⟨.hbm, 31, rfl⟩
abbrev main_call0_call3_v1 : Ref sig .tc := ⟨.hbm, 32, rfl⟩
abbrev main_call0_call3_v2 : Ref sig .tc := ⟨.hbm, 33, rfl⟩
abbrev main_call0_call3_v3 : Ref sig .tc := ⟨.hbm, 34, rfl⟩
abbrev main_call0_call3_v4 : Ref sig .tc := ⟨.hbm, 35, rfl⟩
abbrev main_call0_call3_c : Ref sig .tc := ⟨.hbm, 36, rfl⟩
abbrev main_call0_call3_v5 : Ref sig .tc := ⟨.hbm, 37, rfl⟩
abbrev main_call0_call3_v6 : Ref sig .tc := ⟨.hbm, 38, rfl⟩
abbrev main_call0_call3_c_0 : Ref sig .tc := ⟨.hbm, 39, rfl⟩
abbrev main_call0_call3_v7 : Ref sig .tc := ⟨.hbm, 40, rfl⟩
abbrev main_call0_call3_v8 : Ref sig .tc := ⟨.hbm, 41, rfl⟩
abbrev main_call0_call3_v9 : Ref sig .tc := ⟨.hbm, 42, rfl⟩
abbrev main_call0_call3_v10 : Ref sig .tc := ⟨.hbm, 43, rfl⟩
abbrev main_call0_call3_call0_v0 : Ref sig .tc := ⟨.hbm, 44, rfl⟩
abbrev main_call0_call3_call0_c : Ref sig .tc := ⟨.hbm, 45, rfl⟩
abbrev main_call0_call3_call0_v1 : Ref sig .tc := ⟨.hbm, 46, rfl⟩
abbrev main_call0_call3_call0_v2 : Ref sig .tc := ⟨.hbm, 47, rfl⟩
abbrev main_call0_call3_call0_v3 : Ref sig .tc := ⟨.hbm, 48, rfl⟩
abbrev main_call0_call3_call0_v4 : Ref sig .tc := ⟨.hbm, 49, rfl⟩
abbrev main_call0_call3_call0_v5 : Ref sig .tc := ⟨.hbm, 50, rfl⟩
abbrev main_call0_call3_call0_v6 : Ref sig .tc := ⟨.hbm, 51, rfl⟩
abbrev main_call0_call3_call0_c_0 : Ref sig .tc := ⟨.hbm, 52, rfl⟩
abbrev main_call0_call3_call0_v7 : Ref sig .tc := ⟨.hbm, 53, rfl⟩
abbrev main_call0_call3_call0_v8 : Ref sig .tc := ⟨.hbm, 54, rfl⟩
abbrev main_call0_call3_call0_c_1 : Ref sig .tc := ⟨.hbm, 55, rfl⟩
abbrev main_call0_call3_call0_v9 : Ref sig .tc := ⟨.hbm, 56, rfl⟩
abbrev main_call0_call3_call0_v10 : Ref sig .tc := ⟨.hbm, 57, rfl⟩
abbrev main_call0_call3_call0_v11 : Ref sig .tc := ⟨.hbm, 58, rfl⟩
abbrev main_call0_call3_call0_v12 : Ref sig .tc := ⟨.hbm, 59, rfl⟩
abbrev main_call0_call3_call0_v13 : Ref sig .tc := ⟨.hbm, 60, rfl⟩
abbrev main_call0_call3_call0_c_2 : Ref sig .tc := ⟨.hbm, 61, rfl⟩
abbrev main_call0_call3_call0_v14 : Ref sig .tc := ⟨.hbm, 62, rfl⟩
abbrev main_call0_call3_call0_v15 : Ref sig .tc := ⟨.hbm, 63, rfl⟩
abbrev main_call0_call3_call0_c_3 : Ref sig .tc := ⟨.hbm, 64, rfl⟩
abbrev main_call0_call3_call0_v16 : Ref sig .tc := ⟨.hbm, 65, rfl⟩
abbrev main_call0_call3_call0_v17 : Ref sig .tc := ⟨.hbm, 66, rfl⟩
abbrev main_call0_call3_call0_v18 : Ref sig .tc := ⟨.hbm, 67, rfl⟩
abbrev main_call0_call3_call0_v19 : Ref sig .tc := ⟨.hbm, 68, rfl⟩
abbrev main_call0_call3_call0_v20 : Ref sig .tc := ⟨.hbm, 69, rfl⟩
abbrev main_call0_call3_call0_c_4 : Ref sig .tc := ⟨.hbm, 70, rfl⟩
abbrev main_call0_call3_call0_v21 : Ref sig .tc := ⟨.hbm, 71, rfl⟩
abbrev main_call0_call3_call0_v22 : Ref sig .tc := ⟨.hbm, 72, rfl⟩
abbrev main_call0_call3_call0_c_5 : Ref sig .tc := ⟨.hbm, 73, rfl⟩
abbrev main_call0_call3_call0_v23 : Ref sig .tc := ⟨.hbm, 74, rfl⟩
abbrev main_call0_call3_call0_v24 : Ref sig .tc := ⟨.hbm, 75, rfl⟩
abbrev main_call0_call3_call0_v25 : Ref sig .tc := ⟨.hbm, 76, rfl⟩
abbrev main_call0_call3_call0_v26 : Ref sig .tc := ⟨.hbm, 77, rfl⟩
abbrev main_call0_call3_call0_v27 : Ref sig .tc := ⟨.hbm, 78, rfl⟩
abbrev main_call0_call3_call0_c_6 : Ref sig .tc := ⟨.hbm, 79, rfl⟩
abbrev main_call0_call3_call0_v28 : Ref sig .tc := ⟨.hbm, 80, rfl⟩
abbrev main_call0_call3_call0_v29 : Ref sig .tc := ⟨.hbm, 81, rfl⟩
abbrev main_call0_call3_call0_c_7 : Ref sig .tc := ⟨.hbm, 82, rfl⟩
abbrev main_call0_call3_call0_v30 : Ref sig .tc := ⟨.hbm, 83, rfl⟩
abbrev main_call0_call3_call0_v31 : Ref sig .tc := ⟨.hbm, 84, rfl⟩
abbrev main_call0_call3_call0_v32 : Ref sig .tc := ⟨.hbm, 85, rfl⟩
abbrev main_call0_call3_call0_v33 : Ref sig .tc := ⟨.hbm, 86, rfl⟩
abbrev main_call0_call3_call0_v34 : Ref sig .tc := ⟨.hbm, 87, rfl⟩
abbrev main_call0_call3_call0_v35 : Ref sig .tc := ⟨.hbm, 88, rfl⟩
abbrev main_call0_call3_call0_v36 : Ref sig .tc := ⟨.hbm, 89, rfl⟩
abbrev main_call0_call3_call0_v37 : Ref sig .tc := ⟨.hbm, 90, rfl⟩
abbrev main_call0_call3_call0_c_8 : Ref sig .tc := ⟨.hbm, 91, rfl⟩
abbrev main_call0_call3_call0_v38 : Ref sig .tc := ⟨.hbm, 92, rfl⟩
abbrev main_call0_call3_call0_v39 : Ref sig .tc := ⟨.hbm, 93, rfl⟩
abbrev main_call0_call3_call0_v40 : Ref sig .tc := ⟨.hbm, 94, rfl⟩
abbrev main_call0_call3_call0_c_9 : Ref sig .tc := ⟨.hbm, 95, rfl⟩
abbrev main_call0_call3_call0_v41 : Ref sig .tc := ⟨.hbm, 96, rfl⟩
abbrev main_call0_call3_call0_v42 : Ref sig .tc := ⟨.hbm, 97, rfl⟩
abbrev main_call0_call3_call0_c_10 : Ref sig .tc := ⟨.hbm, 98, rfl⟩
abbrev main_call0_call3_call0_v43 : Ref sig .tc := ⟨.hbm, 99, rfl⟩
abbrev main_call0_call3_call0_v44 : Ref sig .tc := ⟨.hbm, 100, rfl⟩
abbrev main_call0_call3_call0_v45 : Ref sig .tc := ⟨.hbm, 101, rfl⟩
abbrev main_call0_call3_call0_v46 : Ref sig .tc := ⟨.hbm, 102, rfl⟩
abbrev main_call0_call3_call0_v47 : Ref sig .tc := ⟨.hbm, 103, rfl⟩
abbrev main_call0_call3_call0_c_11 : Ref sig .tc := ⟨.hbm, 104, rfl⟩
abbrev main_call0_call3_call0_v48 : Ref sig .tc := ⟨.hbm, 105, rfl⟩
abbrev main_call0_call3_call0_v49 : Ref sig .tc := ⟨.hbm, 106, rfl⟩
abbrev main_call0_call3_call0_c_12 : Ref sig .tc := ⟨.hbm, 107, rfl⟩
abbrev main_call0_call3_call0_v50 : Ref sig .tc := ⟨.hbm, 108, rfl⟩
abbrev main_call0_call3_call0_v51 : Ref sig .tc := ⟨.hbm, 109, rfl⟩
abbrev main_call0_call3_call0_v52 : Ref sig .tc := ⟨.hbm, 110, rfl⟩
abbrev main_call0_call3_call0_v53 : Ref sig .tc := ⟨.hbm, 111, rfl⟩
abbrev main_call0_call3_call0_v54 : Ref sig .tc := ⟨.hbm, 112, rfl⟩
abbrev main_call0_call3_call0_c_13 : Ref sig .tc := ⟨.hbm, 113, rfl⟩
abbrev main_call0_call3_call0_v55 : Ref sig .tc := ⟨.hbm, 114, rfl⟩
abbrev main_call0_call3_call0_v56 : Ref sig .tc := ⟨.hbm, 115, rfl⟩
abbrev main_call0_call3_call0_c_14 : Ref sig .tc := ⟨.hbm, 116, rfl⟩
abbrev main_call0_call3_call0_v57 : Ref sig .tc := ⟨.hbm, 117, rfl⟩
abbrev main_call0_call3_call0_v58 : Ref sig .tc := ⟨.hbm, 118, rfl⟩
abbrev main_call0_call3_call0_v59 : Ref sig .tc := ⟨.hbm, 119, rfl⟩
abbrev main_call0_call3_call0_v60 : Ref sig .tc := ⟨.hbm, 120, rfl⟩
abbrev main_call0_call3_call0_v61 : Ref sig .tc := ⟨.hbm, 121, rfl⟩
abbrev main_call0_call3_call0_c_15 : Ref sig .tc := ⟨.hbm, 122, rfl⟩
abbrev main_call0_call3_call0_v62 : Ref sig .tc := ⟨.hbm, 123, rfl⟩
abbrev main_call0_call3_call0_v63 : Ref sig .tc := ⟨.hbm, 124, rfl⟩
abbrev main_call0_call3_call0_c_16 : Ref sig .tc := ⟨.hbm, 125, rfl⟩
abbrev main_call0_call3_call0_v64 : Ref sig .tc := ⟨.hbm, 126, rfl⟩
abbrev main_call0_call3_call0_v65 : Ref sig .tc := ⟨.hbm, 127, rfl⟩
abbrev main_call0_call3_call0_v66 : Ref sig .tc := ⟨.hbm, 128, rfl⟩
abbrev main_call0_call3_call0_v67 : Ref sig .tc := ⟨.hbm, 129, rfl⟩
abbrev main_call0_call3_call0_v68 : Ref sig .tc := ⟨.hbm, 130, rfl⟩
abbrev main_call0_call3_call0_v69 : Ref sig .tc := ⟨.hbm, 131, rfl⟩
abbrev main_call0_call3_call0_v70 : Ref sig .tc := ⟨.hbm, 132, rfl⟩
abbrev main_call0_call3_call0_v71 : Ref sig .tc := ⟨.hbm, 133, rfl⟩
abbrev main_call0_call3_call0_c_17 : Ref sig .tc := ⟨.hbm, 134, rfl⟩
abbrev main_call0_call3_call0_v72 : Ref sig .tc := ⟨.hbm, 135, rfl⟩
abbrev main_call0_call3_call0_v73 : Ref sig .tc := ⟨.hbm, 136, rfl⟩
abbrev main_call0_call3_call0_v74 : Ref sig .tc := ⟨.hbm, 137, rfl⟩
abbrev main_call0_call3_call0_c_18 : Ref sig .tc := ⟨.hbm, 138, rfl⟩
abbrev main_call0_call3_call0_v75 : Ref sig .tc := ⟨.hbm, 139, rfl⟩
abbrev main_call0_call3_call0_v76 : Ref sig .tc := ⟨.hbm, 140, rfl⟩
abbrev main_call0_call3_call0_c_19 : Ref sig .tc := ⟨.hbm, 141, rfl⟩
abbrev main_call0_call3_call0_v77 : Ref sig .tc := ⟨.hbm, 142, rfl⟩
abbrev main_call0_call3_call0_v78 : Ref sig .tc := ⟨.hbm, 143, rfl⟩
abbrev main_call0_call3_call0_v79 : Ref sig .tc := ⟨.hbm, 144, rfl⟩
abbrev main_call0_call3_call0_v80 : Ref sig .tc := ⟨.hbm, 145, rfl⟩
abbrev main_call0_call3_call0_v81 : Ref sig .tc := ⟨.hbm, 146, rfl⟩
abbrev main_call0_call3_call0_c_20 : Ref sig .tc := ⟨.hbm, 147, rfl⟩
abbrev main_call0_call3_call0_v82 : Ref sig .tc := ⟨.hbm, 148, rfl⟩
abbrev main_call0_call3_call0_v83 : Ref sig .tc := ⟨.hbm, 149, rfl⟩
abbrev main_call0_call3_call0_c_21 : Ref sig .tc := ⟨.hbm, 150, rfl⟩
abbrev main_call0_call3_call0_v84 : Ref sig .tc := ⟨.hbm, 151, rfl⟩
abbrev main_call0_call3_call0_v85 : Ref sig .tc := ⟨.hbm, 152, rfl⟩
abbrev main_call0_call3_call0_v86 : Ref sig .tc := ⟨.hbm, 153, rfl⟩
abbrev main_call0_call3_call0_v87 : Ref sig .tc := ⟨.hbm, 154, rfl⟩
abbrev main_call0_call3_call0_v88 : Ref sig .tc := ⟨.hbm, 155, rfl⟩
abbrev main_call0_call3_call0_c_22 : Ref sig .tc := ⟨.hbm, 156, rfl⟩
abbrev main_call0_call3_call0_v89 : Ref sig .tc := ⟨.hbm, 157, rfl⟩
abbrev main_call0_call3_call0_v90 : Ref sig .tc := ⟨.hbm, 158, rfl⟩
abbrev main_call0_call3_call0_c_23 : Ref sig .tc := ⟨.hbm, 159, rfl⟩
abbrev main_call0_call3_call0_v91 : Ref sig .tc := ⟨.hbm, 160, rfl⟩
abbrev main_call0_call3_call0_v92 : Ref sig .tc := ⟨.hbm, 161, rfl⟩
abbrev main_call0_call3_call0_v93 : Ref sig .tc := ⟨.hbm, 162, rfl⟩
abbrev main_call0_call3_call0_v94 : Ref sig .tc := ⟨.hbm, 163, rfl⟩
abbrev main_call0_call3_call0_v95 : Ref sig .tc := ⟨.hbm, 164, rfl⟩
abbrev main_call0_call3_call0_c_24 : Ref sig .tc := ⟨.hbm, 165, rfl⟩
abbrev main_call0_call3_call0_v96 : Ref sig .tc := ⟨.hbm, 166, rfl⟩
abbrev main_call0_call3_call0_v97 : Ref sig .tc := ⟨.hbm, 167, rfl⟩
abbrev main_call0_call3_call0_c_25 : Ref sig .tc := ⟨.hbm, 168, rfl⟩
abbrev main_call0_call3_call0_v98 : Ref sig .tc := ⟨.hbm, 169, rfl⟩
abbrev main_call0_call3_call0_v99 : Ref sig .tc := ⟨.hbm, 170, rfl⟩
abbrev main_call0_call3_call0_v100 : Ref sig .tc := ⟨.hbm, 171, rfl⟩
abbrev main_call0_call3_call0_v101 : Ref sig .tc := ⟨.hbm, 172, rfl⟩
abbrev main_call0_call3_call0_v102 : Ref sig .tc := ⟨.hbm, 173, rfl⟩
abbrev main_call0_call3_call0_v103 : Ref sig .tc := ⟨.hbm, 174, rfl⟩
abbrev main_call0_call3_call0_v104 : Ref sig .tc := ⟨.hbm, 175, rfl⟩
abbrev main_call0_call3_call0_v105 : Ref sig .tc := ⟨.hbm, 176, rfl⟩
abbrev main_call0_call3_call0_c_26 : Ref sig .tc := ⟨.hbm, 177, rfl⟩
abbrev main_call0_call3_call0_v106 : Ref sig .tc := ⟨.hbm, 178, rfl⟩
abbrev main_call0_call3_call0_v107 : Ref sig .tc := ⟨.hbm, 179, rfl⟩
abbrev main_call0_call3_call0_v108 : Ref sig .tc := ⟨.hbm, 180, rfl⟩
abbrev main_call0_call3_call0_c_27 : Ref sig .tc := ⟨.hbm, 181, rfl⟩
abbrev main_call0_call3_call0_v109 : Ref sig .tc := ⟨.hbm, 182, rfl⟩
abbrev main_call0_call3_call0_v110 : Ref sig .tc := ⟨.hbm, 183, rfl⟩
abbrev main_call0_call3_call0_c_28 : Ref sig .tc := ⟨.hbm, 184, rfl⟩
abbrev main_call0_call3_call0_v111 : Ref sig .tc := ⟨.hbm, 185, rfl⟩
abbrev main_call0_call3_call0_v112 : Ref sig .tc := ⟨.hbm, 186, rfl⟩
abbrev main_call0_call3_call0_v113 : Ref sig .tc := ⟨.hbm, 187, rfl⟩
abbrev main_call0_call3_call0_v114 : Ref sig .tc := ⟨.hbm, 188, rfl⟩
abbrev main_call0_call3_call0_v115 : Ref sig .tc := ⟨.hbm, 189, rfl⟩
abbrev main_call0_call3_call0_c_29 : Ref sig .tc := ⟨.hbm, 190, rfl⟩
abbrev main_call0_call3_call0_v116 : Ref sig .tc := ⟨.hbm, 191, rfl⟩
abbrev main_call0_call3_call0_v117 : Ref sig .tc := ⟨.hbm, 192, rfl⟩
abbrev main_call0_call3_call0_c_30 : Ref sig .tc := ⟨.hbm, 193, rfl⟩
abbrev main_call0_call3_call0_v118 : Ref sig .tc := ⟨.hbm, 194, rfl⟩
abbrev main_call0_call3_call0_v119 : Ref sig .tc := ⟨.hbm, 195, rfl⟩
abbrev main_call0_call3_call0_v120 : Ref sig .tc := ⟨.hbm, 196, rfl⟩
abbrev main_call0_call3_call0_v121 : Ref sig .tc := ⟨.hbm, 197, rfl⟩
abbrev main_call0_call3_call0_v122 : Ref sig .tc := ⟨.hbm, 198, rfl⟩
abbrev main_call0_call3_call0_c_31 : Ref sig .tc := ⟨.hbm, 199, rfl⟩
abbrev main_call0_call3_call0_v123 : Ref sig .tc := ⟨.hbm, 200, rfl⟩
abbrev main_call0_call3_call0_v124 : Ref sig .tc := ⟨.hbm, 201, rfl⟩
abbrev main_call0_call3_call0_c_32 : Ref sig .tc := ⟨.hbm, 202, rfl⟩
abbrev main_call0_call3_call0_v125 : Ref sig .tc := ⟨.hbm, 203, rfl⟩
abbrev main_call0_call3_call0_v126 : Ref sig .tc := ⟨.hbm, 204, rfl⟩
abbrev main_call0_call3_call0_v127 : Ref sig .tc := ⟨.hbm, 205, rfl⟩
abbrev main_call0_call3_call0_v128 : Ref sig .tc := ⟨.hbm, 206, rfl⟩
abbrev main_call0_call3_call0_v129 : Ref sig .tc := ⟨.hbm, 207, rfl⟩
abbrev main_call0_call3_call0_c_33 : Ref sig .tc := ⟨.hbm, 208, rfl⟩
abbrev main_call0_call3_call0_v130 : Ref sig .tc := ⟨.hbm, 209, rfl⟩
abbrev main_call0_call3_call0_v131 : Ref sig .tc := ⟨.hbm, 210, rfl⟩
abbrev main_call0_call3_call0_c_34 : Ref sig .tc := ⟨.hbm, 211, rfl⟩
abbrev main_call0_call3_call0_v132 : Ref sig .tc := ⟨.hbm, 212, rfl⟩
abbrev main_call0_call3_call0_v133 : Ref sig .tc := ⟨.hbm, 213, rfl⟩
abbrev main_call0_call3_call0_v134 : Ref sig .tc := ⟨.hbm, 214, rfl⟩
abbrev main_call0_call3_call0_v135 : Ref sig .tc := ⟨.hbm, 215, rfl⟩
abbrev main_call0_call3_call0_v136 : Ref sig .tc := ⟨.hbm, 216, rfl⟩
abbrev main_call0_call3_call0_v137 : Ref sig .tc := ⟨.hbm, 217, rfl⟩
abbrev main_call0_call3_call0_v138 : Ref sig .tc := ⟨.hbm, 218, rfl⟩
abbrev main_call0_call3_call0_v139 : Ref sig .tc := ⟨.hbm, 219, rfl⟩
abbrev main_call0_call3_call0_c_35 : Ref sig .tc := ⟨.hbm, 220, rfl⟩
abbrev main_call0_call3_call0_v140 : Ref sig .tc := ⟨.hbm, 221, rfl⟩
abbrev main_call0_call3_call0_v141 : Ref sig .tc := ⟨.hbm, 222, rfl⟩
abbrev main_call0_call3_call0_v142 : Ref sig .tc := ⟨.hbm, 223, rfl⟩
abbrev main_call0_call3_call0_c_36 : Ref sig .tc := ⟨.hbm, 224, rfl⟩
abbrev main_call0_call3_call0_v143 : Ref sig .tc := ⟨.hbm, 225, rfl⟩
abbrev main_call0_call3_call0_v144 : Ref sig .tc := ⟨.hbm, 226, rfl⟩
abbrev main_call0_call3_call0_c_37 : Ref sig .tc := ⟨.hbm, 227, rfl⟩
abbrev main_call0_call3_call0_v145 : Ref sig .tc := ⟨.hbm, 228, rfl⟩
abbrev main_call0_call3_call0_v146 : Ref sig .tc := ⟨.hbm, 229, rfl⟩
abbrev main_call0_call3_call0_v147 : Ref sig .tc := ⟨.hbm, 230, rfl⟩
abbrev main_call0_call3_call0_v148 : Ref sig .tc := ⟨.hbm, 231, rfl⟩
abbrev main_call0_call3_call0_v149 : Ref sig .tc := ⟨.hbm, 232, rfl⟩
abbrev main_call0_call3_call0_c_38 : Ref sig .tc := ⟨.hbm, 233, rfl⟩
abbrev main_call0_call3_call0_v150 : Ref sig .tc := ⟨.hbm, 234, rfl⟩
abbrev main_call0_call3_call0_v151 : Ref sig .tc := ⟨.hbm, 235, rfl⟩
abbrev main_call0_call3_call0_c_39 : Ref sig .tc := ⟨.hbm, 236, rfl⟩
abbrev main_call0_call3_call0_v152 : Ref sig .tc := ⟨.hbm, 237, rfl⟩
abbrev main_call0_call3_call0_v153 : Ref sig .tc := ⟨.hbm, 238, rfl⟩
abbrev main_call0_call3_call0_v154 : Ref sig .tc := ⟨.hbm, 239, rfl⟩
abbrev main_call0_call3_call0_v155 : Ref sig .tc := ⟨.hbm, 240, rfl⟩
abbrev main_call0_call3_call0_v156 : Ref sig .tc := ⟨.hbm, 241, rfl⟩
abbrev main_call0_call3_call0_c_40 : Ref sig .tc := ⟨.hbm, 242, rfl⟩
abbrev main_call0_call3_call0_v157 : Ref sig .tc := ⟨.hbm, 243, rfl⟩
abbrev main_call0_call3_call0_v158 : Ref sig .tc := ⟨.hbm, 244, rfl⟩
abbrev main_call0_call3_call0_c_41 : Ref sig .tc := ⟨.hbm, 245, rfl⟩
abbrev main_call0_call3_call0_v159 : Ref sig .tc := ⟨.hbm, 246, rfl⟩
abbrev main_call0_call3_call0_v160 : Ref sig .tc := ⟨.hbm, 247, rfl⟩
abbrev main_call0_call3_call0_v161 : Ref sig .tc := ⟨.hbm, 248, rfl⟩
abbrev main_call0_call3_call0_v162 : Ref sig .tc := ⟨.hbm, 249, rfl⟩
abbrev main_call0_call3_call0_v163 : Ref sig .tc := ⟨.hbm, 250, rfl⟩
abbrev main_call0_call3_call0_c_42 : Ref sig .tc := ⟨.hbm, 251, rfl⟩
abbrev main_call0_call3_call0_v164 : Ref sig .tc := ⟨.hbm, 252, rfl⟩
abbrev main_call0_call3_call0_v165 : Ref sig .tc := ⟨.hbm, 253, rfl⟩
abbrev main_call0_call3_call0_c_43 : Ref sig .tc := ⟨.hbm, 254, rfl⟩
abbrev main_call0_call3_call0_v166 : Ref sig .tc := ⟨.hbm, 255, rfl⟩
abbrev main_call0_call3_call0_v167 : Ref sig .tc := ⟨.hbm, 256, rfl⟩
abbrev main_call0_call3_call0_v168 : Ref sig .tc := ⟨.hbm, 257, rfl⟩
abbrev main_call0_call3_call0_v169 : Ref sig .tc := ⟨.hbm, 258, rfl⟩
abbrev main_call0_call3_call0_v170 : Ref sig .tc := ⟨.hbm, 259, rfl⟩
abbrev main_call0_call3_v11_0 : Ref sig .tc := ⟨.hbm, 260, rfl⟩
abbrev main_call0_call3_call0_v172 : Ref sig .tc := ⟨.hbm, 261, rfl⟩
abbrev main_call0_call3_call0_v173 : Ref sig .tc := ⟨.hbm, 262, rfl⟩
abbrev main_call0_call3_call0_c_44 : Ref sig .tc := ⟨.hbm, 263, rfl⟩
abbrev main_call0_call3_call0_v174 : Ref sig .tc := ⟨.hbm, 264, rfl⟩
abbrev main_call0_call3_v11_1 : Ref sig .tc := ⟨.hbm, 265, rfl⟩
abbrev main_call0_call3_v12 : Ref sig .tc := ⟨.hbm, 266, rfl⟩
abbrev main_call0_call3_v13 : Ref sig .tc := ⟨.hbm, 267, rfl⟩
abbrev main_call0_v8 : Ref sig .tc := ⟨.hbm, 268, rfl⟩
abbrev main_call0_v9 : Ref sig .tc := ⟨.hbm, 269, rfl⟩
abbrev main_call0_v10 : Ref sig .tc := ⟨.hbm, 270, rfl⟩
abbrev main_call0_v11 : Ref sig .tc := ⟨.hbm, 271, rfl⟩
abbrev main_call0_v12 : Ref sig .tc := ⟨.hbm, 272, rfl⟩
abbrev main_call0_v13 : Ref sig .tc := ⟨.hbm, 273, rfl⟩
abbrev main_call0_v14 : Ref sig .tc := ⟨.hbm, 274, rfl⟩
abbrev main_call0_v15 : Ref sig .tc := ⟨.hbm, 275, rfl⟩
abbrev main_call0_v16 : Ref sig .tc := ⟨.hbm, 276, rfl⟩
abbrev main_call0_v17 : Ref sig .tc := ⟨.hbm, 277, rfl⟩
abbrev main_call0_v18 : Ref sig .tc := ⟨.hbm, 278, rfl⟩
abbrev main_call0_c_6 : Ref sig .tc := ⟨.hbm, 279, rfl⟩
abbrev main_call0_v19 : Ref sig .tc := ⟨.hbm, 280, rfl⟩
abbrev main_call0_v20 : Ref sig .tc := ⟨.hbm, 281, rfl⟩
abbrev main_call0_c_7 : Ref sig .tc := ⟨.hbm, 282, rfl⟩
abbrev main_call0_v21 : Ref sig .tc := ⟨.hbm, 283, rfl⟩
abbrev main_call0_v22 : Ref sig .tc := ⟨.hbm, 284, rfl⟩
abbrev main_call0_v23 : Ref sig .tc := ⟨.hbm, 285, rfl⟩
abbrev main_call0_c_8 : Ref sig .tc := ⟨.hbm, 286, rfl⟩
abbrev main_call0_v24 : Ref sig .tc := ⟨.hbm, 287, rfl⟩
abbrev main_call0_v25 : Ref sig .tc := ⟨.hbm, 288, rfl⟩
abbrev main_call0_v26 : Ref sig .tc := ⟨.hbm, 289, rfl⟩
abbrev main_call0_v27 : Ref sig .tc := ⟨.hbm, 290, rfl⟩
abbrev main_call0_call4_v0 : Ref sig .tc := ⟨.hbm, 291, rfl⟩
abbrev main_call0_call4_c : Ref sig .tc := ⟨.hbm, 292, rfl⟩
abbrev main_call0_call4_v1 : Ref sig .tc := ⟨.hbm, 293, rfl⟩
abbrev main_call0_call4_v2 : Ref sig .tc := ⟨.hbm, 294, rfl⟩
abbrev main_call0_call4_v3 : Ref sig .tc := ⟨.hbm, 295, rfl⟩
abbrev main_call0_call4_v4 : Ref sig .tc := ⟨.hbm, 296, rfl⟩
abbrev main_call0_call4_v5 : Ref sig .tc := ⟨.hbm, 297, rfl⟩
abbrev main_call0_call4_v6 : Ref sig .tc := ⟨.hbm, 298, rfl⟩
abbrev main_call0_call4_c_0 : Ref sig .tc := ⟨.hbm, 299, rfl⟩
abbrev main_call0_call4_v7 : Ref sig .tc := ⟨.hbm, 300, rfl⟩
abbrev main_call0_call4_v8 : Ref sig .tc := ⟨.hbm, 301, rfl⟩
abbrev main_call0_call4_c_1 : Ref sig .tc := ⟨.hbm, 302, rfl⟩
abbrev main_call0_call4_v9 : Ref sig .tc := ⟨.hbm, 303, rfl⟩
abbrev main_call0_call4_v10 : Ref sig .tc := ⟨.hbm, 304, rfl⟩
abbrev main_call0_call4_v11 : Ref sig .tc := ⟨.hbm, 305, rfl⟩
abbrev main_call0_call4_v12 : Ref sig .tc := ⟨.hbm, 306, rfl⟩
abbrev main_call0_call4_v13 : Ref sig .tc := ⟨.hbm, 307, rfl⟩
abbrev main_call0_call4_c_2 : Ref sig .tc := ⟨.hbm, 308, rfl⟩
abbrev main_call0_call4_v14 : Ref sig .tc := ⟨.hbm, 309, rfl⟩
abbrev main_call0_call4_v15 : Ref sig .tc := ⟨.hbm, 310, rfl⟩
abbrev main_call0_call4_c_3 : Ref sig .tc := ⟨.hbm, 311, rfl⟩
abbrev main_call0_call4_v16 : Ref sig .tc := ⟨.hbm, 312, rfl⟩
abbrev main_call0_call4_v17 : Ref sig .tc := ⟨.hbm, 313, rfl⟩
abbrev main_call0_call4_v18 : Ref sig .tc := ⟨.hbm, 314, rfl⟩
abbrev main_call0_call4_v19 : Ref sig .tc := ⟨.hbm, 315, rfl⟩
abbrev main_call0_call4_v20 : Ref sig .tc := ⟨.hbm, 316, rfl⟩
abbrev main_call0_call4_c_4 : Ref sig .tc := ⟨.hbm, 317, rfl⟩
abbrev main_call0_call4_v21 : Ref sig .tc := ⟨.hbm, 318, rfl⟩
abbrev main_call0_call4_v22 : Ref sig .tc := ⟨.hbm, 319, rfl⟩
abbrev main_call0_call4_c_5 : Ref sig .tc := ⟨.hbm, 320, rfl⟩
abbrev main_call0_call4_v23 : Ref sig .tc := ⟨.hbm, 321, rfl⟩
abbrev main_call0_call4_v24 : Ref sig .tc := ⟨.hbm, 322, rfl⟩
abbrev main_call0_call4_v25 : Ref sig .tc := ⟨.hbm, 323, rfl⟩
abbrev main_call0_call4_v26 : Ref sig .tc := ⟨.hbm, 324, rfl⟩
abbrev main_call0_call4_v27 : Ref sig .tc := ⟨.hbm, 325, rfl⟩
abbrev main_call0_call4_c_6 : Ref sig .tc := ⟨.hbm, 326, rfl⟩
abbrev main_call0_call4_v28 : Ref sig .tc := ⟨.hbm, 327, rfl⟩
abbrev main_call0_call4_v29 : Ref sig .tc := ⟨.hbm, 328, rfl⟩
abbrev main_call0_call4_c_7 : Ref sig .tc := ⟨.hbm, 329, rfl⟩
abbrev main_call0_call4_v30 : Ref sig .tc := ⟨.hbm, 330, rfl⟩
abbrev main_call0_call4_v31 : Ref sig .tc := ⟨.hbm, 331, rfl⟩
abbrev main_call0_call4_v32 : Ref sig .tc := ⟨.hbm, 332, rfl⟩
abbrev main_call0_call4_v33 : Ref sig .tc := ⟨.hbm, 333, rfl⟩
abbrev main_call0_call4_v34 : Ref sig .tc := ⟨.hbm, 334, rfl⟩
abbrev main_call0_call4_v35 : Ref sig .tc := ⟨.hbm, 335, rfl⟩
abbrev main_call0_call4_v36 : Ref sig .tc := ⟨.hbm, 336, rfl⟩
abbrev main_call0_call4_v37 : Ref sig .tc := ⟨.hbm, 337, rfl⟩
abbrev main_call0_call4_c_8 : Ref sig .tc := ⟨.hbm, 338, rfl⟩
abbrev main_call0_call4_v38 : Ref sig .tc := ⟨.hbm, 339, rfl⟩
abbrev main_call0_call4_v39 : Ref sig .tc := ⟨.hbm, 340, rfl⟩
abbrev main_call0_call4_v40 : Ref sig .tc := ⟨.hbm, 341, rfl⟩
abbrev main_call0_call4_c_9 : Ref sig .tc := ⟨.hbm, 342, rfl⟩
abbrev main_call0_call4_v41 : Ref sig .tc := ⟨.hbm, 343, rfl⟩
abbrev main_call0_call4_v42 : Ref sig .tc := ⟨.hbm, 344, rfl⟩
abbrev main_call0_call4_c_10 : Ref sig .tc := ⟨.hbm, 345, rfl⟩
abbrev main_call0_call4_v43 : Ref sig .tc := ⟨.hbm, 346, rfl⟩
abbrev main_call0_call4_v44 : Ref sig .tc := ⟨.hbm, 347, rfl⟩
abbrev main_call0_call4_v45 : Ref sig .tc := ⟨.hbm, 348, rfl⟩
abbrev main_call0_call4_v46 : Ref sig .tc := ⟨.hbm, 349, rfl⟩
abbrev main_call0_call4_v47 : Ref sig .tc := ⟨.hbm, 350, rfl⟩
abbrev main_call0_call4_c_11 : Ref sig .tc := ⟨.hbm, 351, rfl⟩
abbrev main_call0_call4_v48 : Ref sig .tc := ⟨.hbm, 352, rfl⟩
abbrev main_call0_call4_v49 : Ref sig .tc := ⟨.hbm, 353, rfl⟩
abbrev main_call0_call4_c_12 : Ref sig .tc := ⟨.hbm, 354, rfl⟩
abbrev main_call0_call4_v50 : Ref sig .tc := ⟨.hbm, 355, rfl⟩
abbrev main_call0_call4_v51 : Ref sig .tc := ⟨.hbm, 356, rfl⟩
abbrev main_call0_call4_v52 : Ref sig .tc := ⟨.hbm, 357, rfl⟩
abbrev main_call0_call4_v53 : Ref sig .tc := ⟨.hbm, 358, rfl⟩
abbrev main_call0_call4_v54 : Ref sig .tc := ⟨.hbm, 359, rfl⟩
abbrev main_call0_call4_c_13 : Ref sig .tc := ⟨.hbm, 360, rfl⟩
abbrev main_call0_call4_v55 : Ref sig .tc := ⟨.hbm, 361, rfl⟩
abbrev main_call0_call4_v56 : Ref sig .tc := ⟨.hbm, 362, rfl⟩
abbrev main_call0_call4_c_14 : Ref sig .tc := ⟨.hbm, 363, rfl⟩
abbrev main_call0_call4_v57 : Ref sig .tc := ⟨.hbm, 364, rfl⟩
abbrev main_call0_call4_v58 : Ref sig .tc := ⟨.hbm, 365, rfl⟩
abbrev main_call0_call4_v59 : Ref sig .tc := ⟨.hbm, 366, rfl⟩
abbrev main_call0_call4_v60 : Ref sig .tc := ⟨.hbm, 367, rfl⟩
abbrev main_call0_call4_v61 : Ref sig .tc := ⟨.hbm, 368, rfl⟩
abbrev main_call0_call4_c_15 : Ref sig .tc := ⟨.hbm, 369, rfl⟩
abbrev main_call0_call4_v62 : Ref sig .tc := ⟨.hbm, 370, rfl⟩
abbrev main_call0_call4_v63 : Ref sig .tc := ⟨.hbm, 371, rfl⟩
abbrev main_call0_call4_c_16 : Ref sig .tc := ⟨.hbm, 372, rfl⟩
abbrev main_call0_call4_v64 : Ref sig .tc := ⟨.hbm, 373, rfl⟩
abbrev main_call0_call4_v65 : Ref sig .tc := ⟨.hbm, 374, rfl⟩
abbrev main_call0_call4_v66 : Ref sig .tc := ⟨.hbm, 375, rfl⟩
abbrev main_call0_call4_v67 : Ref sig .tc := ⟨.hbm, 376, rfl⟩
abbrev main_call0_call4_v68 : Ref sig .tc := ⟨.hbm, 377, rfl⟩
abbrev main_call0_call4_v69 : Ref sig .tc := ⟨.hbm, 378, rfl⟩
abbrev main_call0_call4_v70 : Ref sig .tc := ⟨.hbm, 379, rfl⟩
abbrev main_call0_call4_v71 : Ref sig .tc := ⟨.hbm, 380, rfl⟩
abbrev main_call0_call4_c_17 : Ref sig .tc := ⟨.hbm, 381, rfl⟩
abbrev main_call0_call4_v72 : Ref sig .tc := ⟨.hbm, 382, rfl⟩
abbrev main_call0_call4_v73 : Ref sig .tc := ⟨.hbm, 383, rfl⟩
abbrev main_call0_call4_v74 : Ref sig .tc := ⟨.hbm, 384, rfl⟩
abbrev main_call0_call4_c_18 : Ref sig .tc := ⟨.hbm, 385, rfl⟩
abbrev main_call0_call4_v75 : Ref sig .tc := ⟨.hbm, 386, rfl⟩
abbrev main_call0_call4_v76 : Ref sig .tc := ⟨.hbm, 387, rfl⟩
abbrev main_call0_call4_c_19 : Ref sig .tc := ⟨.hbm, 388, rfl⟩
abbrev main_call0_call4_v77 : Ref sig .tc := ⟨.hbm, 389, rfl⟩
abbrev main_call0_call4_v78 : Ref sig .tc := ⟨.hbm, 390, rfl⟩
abbrev main_call0_call4_v79 : Ref sig .tc := ⟨.hbm, 391, rfl⟩
abbrev main_call0_call4_v80 : Ref sig .tc := ⟨.hbm, 392, rfl⟩
abbrev main_call0_call4_v81 : Ref sig .tc := ⟨.hbm, 393, rfl⟩
abbrev main_call0_call4_c_20 : Ref sig .tc := ⟨.hbm, 394, rfl⟩
abbrev main_call0_call4_v82 : Ref sig .tc := ⟨.hbm, 395, rfl⟩
abbrev main_call0_call4_v83 : Ref sig .tc := ⟨.hbm, 396, rfl⟩
abbrev main_call0_call4_c_21 : Ref sig .tc := ⟨.hbm, 397, rfl⟩
abbrev main_call0_call4_v84 : Ref sig .tc := ⟨.hbm, 398, rfl⟩
abbrev main_call0_call4_v85 : Ref sig .tc := ⟨.hbm, 399, rfl⟩
abbrev main_call0_call4_v86 : Ref sig .tc := ⟨.hbm, 400, rfl⟩
abbrev main_call0_call4_v87 : Ref sig .tc := ⟨.hbm, 401, rfl⟩
abbrev main_call0_call4_v88 : Ref sig .tc := ⟨.hbm, 402, rfl⟩
abbrev main_call0_call4_c_22 : Ref sig .tc := ⟨.hbm, 403, rfl⟩
abbrev main_call0_call4_v89 : Ref sig .tc := ⟨.hbm, 404, rfl⟩
abbrev main_call0_call4_v90 : Ref sig .tc := ⟨.hbm, 405, rfl⟩
abbrev main_call0_call4_c_23 : Ref sig .tc := ⟨.hbm, 406, rfl⟩
abbrev main_call0_call4_v91 : Ref sig .tc := ⟨.hbm, 407, rfl⟩
abbrev main_call0_call4_v92 : Ref sig .tc := ⟨.hbm, 408, rfl⟩
abbrev main_call0_call4_v93 : Ref sig .tc := ⟨.hbm, 409, rfl⟩
abbrev main_call0_call4_v94 : Ref sig .tc := ⟨.hbm, 410, rfl⟩
abbrev main_call0_call4_v95 : Ref sig .tc := ⟨.hbm, 411, rfl⟩
abbrev main_call0_call4_c_24 : Ref sig .tc := ⟨.hbm, 412, rfl⟩
abbrev main_call0_call4_v96 : Ref sig .tc := ⟨.hbm, 413, rfl⟩
abbrev main_call0_call4_v97 : Ref sig .tc := ⟨.hbm, 414, rfl⟩
abbrev main_call0_call4_c_25 : Ref sig .tc := ⟨.hbm, 415, rfl⟩
abbrev main_call0_call4_v98 : Ref sig .tc := ⟨.hbm, 416, rfl⟩
abbrev main_call0_call4_v99 : Ref sig .tc := ⟨.hbm, 417, rfl⟩
abbrev main_call0_call4_v100 : Ref sig .tc := ⟨.hbm, 418, rfl⟩
abbrev main_call0_call4_v101 : Ref sig .tc := ⟨.hbm, 419, rfl⟩
abbrev main_call0_call4_v102 : Ref sig .tc := ⟨.hbm, 420, rfl⟩
abbrev main_call0_call4_v103 : Ref sig .tc := ⟨.hbm, 421, rfl⟩
abbrev main_call0_call4_v104 : Ref sig .tc := ⟨.hbm, 422, rfl⟩
abbrev main_call0_call4_v105 : Ref sig .tc := ⟨.hbm, 423, rfl⟩
abbrev main_call0_call4_c_26 : Ref sig .tc := ⟨.hbm, 424, rfl⟩
abbrev main_call0_call4_v106 : Ref sig .tc := ⟨.hbm, 425, rfl⟩
abbrev main_call0_call4_v107 : Ref sig .tc := ⟨.hbm, 426, rfl⟩
abbrev main_call0_call4_v108 : Ref sig .tc := ⟨.hbm, 427, rfl⟩
abbrev main_call0_call4_c_27 : Ref sig .tc := ⟨.hbm, 428, rfl⟩
abbrev main_call0_call4_v109 : Ref sig .tc := ⟨.hbm, 429, rfl⟩
abbrev main_call0_call4_v110 : Ref sig .tc := ⟨.hbm, 430, rfl⟩
abbrev main_call0_call4_c_28 : Ref sig .tc := ⟨.hbm, 431, rfl⟩
abbrev main_call0_call4_v111 : Ref sig .tc := ⟨.hbm, 432, rfl⟩
abbrev main_call0_call4_v112 : Ref sig .tc := ⟨.hbm, 433, rfl⟩
abbrev main_call0_call4_v113 : Ref sig .tc := ⟨.hbm, 434, rfl⟩
abbrev main_call0_call4_v114 : Ref sig .tc := ⟨.hbm, 435, rfl⟩
abbrev main_call0_call4_v115 : Ref sig .tc := ⟨.hbm, 436, rfl⟩
abbrev main_call0_call4_c_29 : Ref sig .tc := ⟨.hbm, 437, rfl⟩
abbrev main_call0_call4_v116 : Ref sig .tc := ⟨.hbm, 438, rfl⟩
abbrev main_call0_call4_v117 : Ref sig .tc := ⟨.hbm, 439, rfl⟩
abbrev main_call0_call4_c_30 : Ref sig .tc := ⟨.hbm, 440, rfl⟩
abbrev main_call0_call4_v118 : Ref sig .tc := ⟨.hbm, 441, rfl⟩
abbrev main_call0_call4_v119 : Ref sig .tc := ⟨.hbm, 442, rfl⟩
abbrev main_call0_call4_v120 : Ref sig .tc := ⟨.hbm, 443, rfl⟩
abbrev main_call0_call4_v121 : Ref sig .tc := ⟨.hbm, 444, rfl⟩
abbrev main_call0_call4_v122 : Ref sig .tc := ⟨.hbm, 445, rfl⟩
abbrev main_call0_call4_c_31 : Ref sig .tc := ⟨.hbm, 446, rfl⟩
abbrev main_call0_call4_v123 : Ref sig .tc := ⟨.hbm, 447, rfl⟩
abbrev main_call0_call4_v124 : Ref sig .tc := ⟨.hbm, 448, rfl⟩
abbrev main_call0_call4_c_32 : Ref sig .tc := ⟨.hbm, 449, rfl⟩
abbrev main_call0_call4_v125 : Ref sig .tc := ⟨.hbm, 450, rfl⟩
abbrev main_call0_call4_v126 : Ref sig .tc := ⟨.hbm, 451, rfl⟩
abbrev main_call0_call4_v127 : Ref sig .tc := ⟨.hbm, 452, rfl⟩
abbrev main_call0_call4_v128 : Ref sig .tc := ⟨.hbm, 453, rfl⟩
abbrev main_call0_call4_v129 : Ref sig .tc := ⟨.hbm, 454, rfl⟩
abbrev main_call0_call4_c_33 : Ref sig .tc := ⟨.hbm, 455, rfl⟩
abbrev main_call0_call4_v130 : Ref sig .tc := ⟨.hbm, 456, rfl⟩
abbrev main_call0_call4_v131 : Ref sig .tc := ⟨.hbm, 457, rfl⟩
abbrev main_call0_call4_c_34 : Ref sig .tc := ⟨.hbm, 458, rfl⟩
abbrev main_call0_call4_v132 : Ref sig .tc := ⟨.hbm, 459, rfl⟩
abbrev main_call0_call4_v133 : Ref sig .tc := ⟨.hbm, 460, rfl⟩
abbrev main_call0_call4_v134 : Ref sig .tc := ⟨.hbm, 461, rfl⟩
abbrev main_call0_call4_v135 : Ref sig .tc := ⟨.hbm, 462, rfl⟩
abbrev main_call0_call4_v136 : Ref sig .tc := ⟨.hbm, 463, rfl⟩
abbrev main_call0_call4_v137 : Ref sig .tc := ⟨.hbm, 464, rfl⟩
abbrev main_call0_call4_v138 : Ref sig .tc := ⟨.hbm, 465, rfl⟩
abbrev main_call0_call4_v139 : Ref sig .tc := ⟨.hbm, 466, rfl⟩
abbrev main_call0_call4_c_35 : Ref sig .tc := ⟨.hbm, 467, rfl⟩
abbrev main_call0_call4_v140 : Ref sig .tc := ⟨.hbm, 468, rfl⟩
abbrev main_call0_call4_v141 : Ref sig .tc := ⟨.hbm, 469, rfl⟩
abbrev main_call0_call4_v142 : Ref sig .tc := ⟨.hbm, 470, rfl⟩
abbrev main_call0_call4_c_36 : Ref sig .tc := ⟨.hbm, 471, rfl⟩
abbrev main_call0_call4_v143 : Ref sig .tc := ⟨.hbm, 472, rfl⟩
abbrev main_call0_call4_v144 : Ref sig .tc := ⟨.hbm, 473, rfl⟩
abbrev main_call0_call4_c_37 : Ref sig .tc := ⟨.hbm, 474, rfl⟩
abbrev main_call0_call4_v145 : Ref sig .tc := ⟨.hbm, 475, rfl⟩
abbrev main_call0_call4_v146 : Ref sig .tc := ⟨.hbm, 476, rfl⟩
abbrev main_call0_call4_v147 : Ref sig .tc := ⟨.hbm, 477, rfl⟩
abbrev main_call0_call4_v148 : Ref sig .tc := ⟨.hbm, 478, rfl⟩
abbrev main_call0_call4_v149 : Ref sig .tc := ⟨.hbm, 479, rfl⟩
abbrev main_call0_call4_c_38 : Ref sig .tc := ⟨.hbm, 480, rfl⟩
abbrev main_call0_call4_v150 : Ref sig .tc := ⟨.hbm, 481, rfl⟩
abbrev main_call0_call4_v151 : Ref sig .tc := ⟨.hbm, 482, rfl⟩
abbrev main_call0_call4_c_39 : Ref sig .tc := ⟨.hbm, 483, rfl⟩
abbrev main_call0_call4_v152 : Ref sig .tc := ⟨.hbm, 484, rfl⟩
abbrev main_call0_call4_v153 : Ref sig .tc := ⟨.hbm, 485, rfl⟩
abbrev main_call0_call4_v154 : Ref sig .tc := ⟨.hbm, 486, rfl⟩
abbrev main_call0_call4_v155 : Ref sig .tc := ⟨.hbm, 487, rfl⟩
abbrev main_call0_call4_v156 : Ref sig .tc := ⟨.hbm, 488, rfl⟩
abbrev main_call0_call4_c_40 : Ref sig .tc := ⟨.hbm, 489, rfl⟩
abbrev main_call0_call4_v157 : Ref sig .tc := ⟨.hbm, 490, rfl⟩
abbrev main_call0_call4_v158 : Ref sig .tc := ⟨.hbm, 491, rfl⟩
abbrev main_call0_call4_c_41 : Ref sig .tc := ⟨.hbm, 492, rfl⟩
abbrev main_call0_call4_v159 : Ref sig .tc := ⟨.hbm, 493, rfl⟩
abbrev main_call0_call4_v160 : Ref sig .tc := ⟨.hbm, 494, rfl⟩
abbrev main_call0_call4_v161 : Ref sig .tc := ⟨.hbm, 495, rfl⟩
abbrev main_call0_call4_v162 : Ref sig .tc := ⟨.hbm, 496, rfl⟩
abbrev main_call0_call4_v163 : Ref sig .tc := ⟨.hbm, 497, rfl⟩
abbrev main_call0_call4_c_42 : Ref sig .tc := ⟨.hbm, 498, rfl⟩
abbrev main_call0_call4_v164 : Ref sig .tc := ⟨.hbm, 499, rfl⟩
abbrev main_call0_call4_v165 : Ref sig .tc := ⟨.hbm, 500, rfl⟩
abbrev main_call0_call4_c_43 : Ref sig .tc := ⟨.hbm, 501, rfl⟩
abbrev main_call0_call4_v166 : Ref sig .tc := ⟨.hbm, 502, rfl⟩
abbrev main_call0_call4_v167 : Ref sig .tc := ⟨.hbm, 503, rfl⟩
abbrev main_call0_call4_v168 : Ref sig .tc := ⟨.hbm, 504, rfl⟩
abbrev main_call0_call4_v169 : Ref sig .tc := ⟨.hbm, 505, rfl⟩
abbrev main_call0_call4_v170 : Ref sig .tc := ⟨.hbm, 506, rfl⟩
abbrev main_call0_v28_0 : Ref sig .tc := ⟨.hbm, 507, rfl⟩
abbrev main_call0_call4_v172 : Ref sig .tc := ⟨.hbm, 508, rfl⟩
abbrev main_call0_call4_v173 : Ref sig .tc := ⟨.hbm, 509, rfl⟩
abbrev main_call0_call4_c_44 : Ref sig .tc := ⟨.hbm, 510, rfl⟩
abbrev main_call0_call4_v174 : Ref sig .tc := ⟨.hbm, 511, rfl⟩
abbrev main_call0_v28_1 : Ref sig .tc := ⟨.hbm, 512, rfl⟩
abbrev main_call0_v29 : Ref sig .tc := ⟨.hbm, 513, rfl⟩
abbrev main_call0_v30 : Ref sig .tc := ⟨.hbm, 514, rfl⟩
abbrev main_call0_v31 : Ref sig .tc := ⟨.hbm, 515, rfl⟩
abbrev main_call0_v32 : Ref sig .tc := ⟨.hbm, 516, rfl⟩
abbrev main_call0_v33 : Ref sig .tc := ⟨.hbm, 517, rfl⟩
abbrev main_call0_v34 : Ref sig .tc := ⟨.hbm, 518, rfl⟩
abbrev main_call0_v35 : Ref sig .tc := ⟨.hbm, 519, rfl⟩
abbrev main_call0_c_9 : Ref sig .tc := ⟨.hbm, 520, rfl⟩
abbrev main_call0_v36 : Ref sig .tc := ⟨.hbm, 521, rfl⟩
abbrev main_call0_v37 : Ref sig .tc := ⟨.hbm, 522, rfl⟩
abbrev main_call0_c_10 : Ref sig .tc := ⟨.hbm, 523, rfl⟩
abbrev main_call0_v38 : Ref sig .tc := ⟨.hbm, 524, rfl⟩
abbrev main_call0_v39 : Ref sig .tc := ⟨.hbm, 525, rfl⟩
abbrev main_call0_v40 : Ref sig .tc := ⟨.hbm, 526, rfl⟩
abbrev main_call0_c_11 : Ref sig .tc := ⟨.hbm, 527, rfl⟩
abbrev main_call0_v41 : Ref sig .tc := ⟨.hbm, 528, rfl⟩
abbrev main_call0_v42 : Ref sig .tc := ⟨.hbm, 529, rfl⟩
abbrev main_call0_v43 : Ref sig .tc := ⟨.hbm, 530, rfl⟩
abbrev main_call0_v44 : Ref sig .tc := ⟨.hbm, 531, rfl⟩
abbrev main_call0_call5_v0 : Ref sig .tc := ⟨.hbm, 532, rfl⟩
abbrev main_call0_call5_c : Ref sig .tc := ⟨.hbm, 533, rfl⟩
abbrev main_call0_call5_v1 : Ref sig .tc := ⟨.hbm, 534, rfl⟩
abbrev main_call0_call5_v2 : Ref sig .tc := ⟨.hbm, 535, rfl⟩
abbrev main_call0_call5_v3 : Ref sig .tc := ⟨.hbm, 536, rfl⟩
abbrev main_call0_call5_v4 : Ref sig .tc := ⟨.hbm, 537, rfl⟩
abbrev main_call0_call5_v5 : Ref sig .tc := ⟨.hbm, 538, rfl⟩
abbrev main_call0_call5_v6 : Ref sig .tc := ⟨.hbm, 539, rfl⟩
abbrev main_call0_call5_c_0 : Ref sig .tc := ⟨.hbm, 540, rfl⟩
abbrev main_call0_call5_v7 : Ref sig .tc := ⟨.hbm, 541, rfl⟩
abbrev main_call0_call5_v8 : Ref sig .tc := ⟨.hbm, 542, rfl⟩
abbrev main_call0_call5_c_1 : Ref sig .tc := ⟨.hbm, 543, rfl⟩
abbrev main_call0_call5_v9 : Ref sig .tc := ⟨.hbm, 544, rfl⟩
abbrev main_call0_call5_v10 : Ref sig .tc := ⟨.hbm, 545, rfl⟩
abbrev main_call0_call5_v11 : Ref sig .tc := ⟨.hbm, 546, rfl⟩
abbrev main_call0_call5_v12 : Ref sig .tc := ⟨.hbm, 547, rfl⟩
abbrev main_call0_call5_v13 : Ref sig .tc := ⟨.hbm, 548, rfl⟩
abbrev main_call0_call5_c_2 : Ref sig .tc := ⟨.hbm, 549, rfl⟩
abbrev main_call0_call5_v14 : Ref sig .tc := ⟨.hbm, 550, rfl⟩
abbrev main_call0_call5_v15 : Ref sig .tc := ⟨.hbm, 551, rfl⟩
abbrev main_call0_call5_c_3 : Ref sig .tc := ⟨.hbm, 552, rfl⟩
abbrev main_call0_call5_v16 : Ref sig .tc := ⟨.hbm, 553, rfl⟩
abbrev main_call0_call5_v17 : Ref sig .tc := ⟨.hbm, 554, rfl⟩
abbrev main_call0_call5_v18 : Ref sig .tc := ⟨.hbm, 555, rfl⟩
abbrev main_call0_call5_v19 : Ref sig .tc := ⟨.hbm, 556, rfl⟩
abbrev main_call0_call5_v20 : Ref sig .tc := ⟨.hbm, 557, rfl⟩
abbrev main_call0_call5_c_4 : Ref sig .tc := ⟨.hbm, 558, rfl⟩
abbrev main_call0_call5_v21 : Ref sig .tc := ⟨.hbm, 559, rfl⟩
abbrev main_call0_call5_v22 : Ref sig .tc := ⟨.hbm, 560, rfl⟩
abbrev main_call0_call5_c_5 : Ref sig .tc := ⟨.hbm, 561, rfl⟩
abbrev main_call0_call5_v23 : Ref sig .tc := ⟨.hbm, 562, rfl⟩
abbrev main_call0_call5_v24 : Ref sig .tc := ⟨.hbm, 563, rfl⟩
abbrev main_call0_call5_v25 : Ref sig .tc := ⟨.hbm, 564, rfl⟩
abbrev main_call0_call5_v26 : Ref sig .tc := ⟨.hbm, 565, rfl⟩
abbrev main_call0_call5_v27 : Ref sig .tc := ⟨.hbm, 566, rfl⟩
abbrev main_call0_call5_c_6 : Ref sig .tc := ⟨.hbm, 567, rfl⟩
abbrev main_call0_call5_v28 : Ref sig .tc := ⟨.hbm, 568, rfl⟩
abbrev main_call0_call5_v29 : Ref sig .tc := ⟨.hbm, 569, rfl⟩
abbrev main_call0_call5_c_7 : Ref sig .tc := ⟨.hbm, 570, rfl⟩
abbrev main_call0_call5_v30 : Ref sig .tc := ⟨.hbm, 571, rfl⟩
abbrev main_call0_call5_v31 : Ref sig .tc := ⟨.hbm, 572, rfl⟩
abbrev main_call0_call5_v32 : Ref sig .tc := ⟨.hbm, 573, rfl⟩
abbrev main_call0_call5_v33 : Ref sig .tc := ⟨.hbm, 574, rfl⟩
abbrev main_call0_call5_v34 : Ref sig .tc := ⟨.hbm, 575, rfl⟩
abbrev main_call0_call5_v35 : Ref sig .tc := ⟨.hbm, 576, rfl⟩
abbrev main_call0_call5_v36 : Ref sig .tc := ⟨.hbm, 577, rfl⟩
abbrev main_call0_call5_v37 : Ref sig .tc := ⟨.hbm, 578, rfl⟩
abbrev main_call0_call5_c_8 : Ref sig .tc := ⟨.hbm, 579, rfl⟩
abbrev main_call0_call5_v38 : Ref sig .tc := ⟨.hbm, 580, rfl⟩
abbrev main_call0_call5_v39 : Ref sig .tc := ⟨.hbm, 581, rfl⟩
abbrev main_call0_call5_v40 : Ref sig .tc := ⟨.hbm, 582, rfl⟩
abbrev main_call0_call5_c_9 : Ref sig .tc := ⟨.hbm, 583, rfl⟩
abbrev main_call0_call5_v41 : Ref sig .tc := ⟨.hbm, 584, rfl⟩
abbrev main_call0_call5_v42 : Ref sig .tc := ⟨.hbm, 585, rfl⟩
abbrev main_call0_call5_c_10 : Ref sig .tc := ⟨.hbm, 586, rfl⟩
abbrev main_call0_call5_v43 : Ref sig .tc := ⟨.hbm, 587, rfl⟩
abbrev main_call0_call5_v44 : Ref sig .tc := ⟨.hbm, 588, rfl⟩
abbrev main_call0_call5_v45 : Ref sig .tc := ⟨.hbm, 589, rfl⟩
abbrev main_call0_call5_v46 : Ref sig .tc := ⟨.hbm, 590, rfl⟩
abbrev main_call0_call5_v47 : Ref sig .tc := ⟨.hbm, 591, rfl⟩
abbrev main_call0_call5_c_11 : Ref sig .tc := ⟨.hbm, 592, rfl⟩
abbrev main_call0_call5_v48 : Ref sig .tc := ⟨.hbm, 593, rfl⟩
abbrev main_call0_call5_v49 : Ref sig .tc := ⟨.hbm, 594, rfl⟩
abbrev main_call0_call5_c_12 : Ref sig .tc := ⟨.hbm, 595, rfl⟩
abbrev main_call0_call5_v50 : Ref sig .tc := ⟨.hbm, 596, rfl⟩
abbrev main_call0_call5_v51 : Ref sig .tc := ⟨.hbm, 597, rfl⟩
abbrev main_call0_call5_v52 : Ref sig .tc := ⟨.hbm, 598, rfl⟩
abbrev main_call0_call5_v53 : Ref sig .tc := ⟨.hbm, 599, rfl⟩
abbrev main_call0_call5_v54 : Ref sig .tc := ⟨.hbm, 600, rfl⟩
abbrev main_call0_call5_c_13 : Ref sig .tc := ⟨.hbm, 601, rfl⟩
abbrev main_call0_call5_v55 : Ref sig .tc := ⟨.hbm, 602, rfl⟩
abbrev main_call0_call5_v56 : Ref sig .tc := ⟨.hbm, 603, rfl⟩
abbrev main_call0_call5_c_14 : Ref sig .tc := ⟨.hbm, 604, rfl⟩
abbrev main_call0_call5_v57 : Ref sig .tc := ⟨.hbm, 605, rfl⟩
abbrev main_call0_call5_v58 : Ref sig .tc := ⟨.hbm, 606, rfl⟩
abbrev main_call0_call5_v59 : Ref sig .tc := ⟨.hbm, 607, rfl⟩
abbrev main_call0_call5_v60 : Ref sig .tc := ⟨.hbm, 608, rfl⟩
abbrev main_call0_call5_v61 : Ref sig .tc := ⟨.hbm, 609, rfl⟩
abbrev main_call0_call5_c_15 : Ref sig .tc := ⟨.hbm, 610, rfl⟩
abbrev main_call0_call5_v62 : Ref sig .tc := ⟨.hbm, 611, rfl⟩
abbrev main_call0_call5_v63 : Ref sig .tc := ⟨.hbm, 612, rfl⟩
abbrev main_call0_call5_c_16 : Ref sig .tc := ⟨.hbm, 613, rfl⟩
abbrev main_call0_call5_v64 : Ref sig .tc := ⟨.hbm, 614, rfl⟩
abbrev main_call0_call5_v65 : Ref sig .tc := ⟨.hbm, 615, rfl⟩
abbrev main_call0_call5_v66 : Ref sig .tc := ⟨.hbm, 616, rfl⟩
abbrev main_call0_call5_v67 : Ref sig .tc := ⟨.hbm, 617, rfl⟩
abbrev main_call0_call5_v68 : Ref sig .tc := ⟨.hbm, 618, rfl⟩
abbrev main_call0_call5_v69 : Ref sig .tc := ⟨.hbm, 619, rfl⟩
abbrev main_call0_call5_v70 : Ref sig .tc := ⟨.hbm, 620, rfl⟩
abbrev main_call0_call5_v71 : Ref sig .tc := ⟨.hbm, 621, rfl⟩
abbrev main_call0_call5_c_17 : Ref sig .tc := ⟨.hbm, 622, rfl⟩
abbrev main_call0_call5_v72 : Ref sig .tc := ⟨.hbm, 623, rfl⟩
abbrev main_call0_call5_v73 : Ref sig .tc := ⟨.hbm, 624, rfl⟩
abbrev main_call0_call5_v74 : Ref sig .tc := ⟨.hbm, 625, rfl⟩
abbrev main_call0_call5_c_18 : Ref sig .tc := ⟨.hbm, 626, rfl⟩
abbrev main_call0_call5_v75 : Ref sig .tc := ⟨.hbm, 627, rfl⟩
abbrev main_call0_call5_v76 : Ref sig .tc := ⟨.hbm, 628, rfl⟩
abbrev main_call0_call5_c_19 : Ref sig .tc := ⟨.hbm, 629, rfl⟩
abbrev main_call0_call5_v77 : Ref sig .tc := ⟨.hbm, 630, rfl⟩
abbrev main_call0_call5_v78 : Ref sig .tc := ⟨.hbm, 631, rfl⟩
abbrev main_call0_call5_v79 : Ref sig .tc := ⟨.hbm, 632, rfl⟩
abbrev main_call0_call5_v80 : Ref sig .tc := ⟨.hbm, 633, rfl⟩
abbrev main_call0_call5_v81 : Ref sig .tc := ⟨.hbm, 634, rfl⟩
abbrev main_call0_call5_c_20 : Ref sig .tc := ⟨.hbm, 635, rfl⟩
abbrev main_call0_call5_v82 : Ref sig .tc := ⟨.hbm, 636, rfl⟩
abbrev main_call0_call5_v83 : Ref sig .tc := ⟨.hbm, 637, rfl⟩
abbrev main_call0_call5_c_21 : Ref sig .tc := ⟨.hbm, 638, rfl⟩
abbrev main_call0_call5_v84 : Ref sig .tc := ⟨.hbm, 639, rfl⟩
abbrev main_call0_call5_v85 : Ref sig .tc := ⟨.hbm, 640, rfl⟩
abbrev main_call0_call5_v86 : Ref sig .tc := ⟨.hbm, 641, rfl⟩
abbrev main_call0_call5_v87 : Ref sig .tc := ⟨.hbm, 642, rfl⟩
abbrev main_call0_call5_v88 : Ref sig .tc := ⟨.hbm, 643, rfl⟩
abbrev main_call0_call5_c_22 : Ref sig .tc := ⟨.hbm, 644, rfl⟩
abbrev main_call0_call5_v89 : Ref sig .tc := ⟨.hbm, 645, rfl⟩
abbrev main_call0_call5_v90 : Ref sig .tc := ⟨.hbm, 646, rfl⟩
abbrev main_call0_call5_c_23 : Ref sig .tc := ⟨.hbm, 647, rfl⟩
abbrev main_call0_call5_v91 : Ref sig .tc := ⟨.hbm, 648, rfl⟩
abbrev main_call0_call5_v92 : Ref sig .tc := ⟨.hbm, 649, rfl⟩
abbrev main_call0_call5_v93 : Ref sig .tc := ⟨.hbm, 650, rfl⟩
abbrev main_call0_call5_v94 : Ref sig .tc := ⟨.hbm, 651, rfl⟩
abbrev main_call0_call5_v95 : Ref sig .tc := ⟨.hbm, 652, rfl⟩
abbrev main_call0_call5_c_24 : Ref sig .tc := ⟨.hbm, 653, rfl⟩
abbrev main_call0_call5_v96 : Ref sig .tc := ⟨.hbm, 654, rfl⟩
abbrev main_call0_call5_v97 : Ref sig .tc := ⟨.hbm, 655, rfl⟩
abbrev main_call0_call5_c_25 : Ref sig .tc := ⟨.hbm, 656, rfl⟩
abbrev main_call0_call5_v98 : Ref sig .tc := ⟨.hbm, 657, rfl⟩
abbrev main_call0_call5_v99 : Ref sig .tc := ⟨.hbm, 658, rfl⟩
abbrev main_call0_call5_v100 : Ref sig .tc := ⟨.hbm, 659, rfl⟩
abbrev main_call0_call5_v101 : Ref sig .tc := ⟨.hbm, 660, rfl⟩
abbrev main_call0_call5_v102 : Ref sig .tc := ⟨.hbm, 661, rfl⟩
abbrev main_call0_call5_v103 : Ref sig .tc := ⟨.hbm, 662, rfl⟩
abbrev main_call0_call5_v104 : Ref sig .tc := ⟨.hbm, 663, rfl⟩
abbrev main_call0_call5_v105 : Ref sig .tc := ⟨.hbm, 664, rfl⟩
abbrev main_call0_call5_c_26 : Ref sig .tc := ⟨.hbm, 665, rfl⟩
abbrev main_call0_call5_v106 : Ref sig .tc := ⟨.hbm, 666, rfl⟩
abbrev main_call0_call5_v107 : Ref sig .tc := ⟨.hbm, 667, rfl⟩
abbrev main_call0_call5_v108 : Ref sig .tc := ⟨.hbm, 668, rfl⟩
abbrev main_call0_call5_c_27 : Ref sig .tc := ⟨.hbm, 669, rfl⟩
abbrev main_call0_call5_v109 : Ref sig .tc := ⟨.hbm, 670, rfl⟩
abbrev main_call0_call5_v110 : Ref sig .tc := ⟨.hbm, 671, rfl⟩
abbrev main_call0_call5_c_28 : Ref sig .tc := ⟨.hbm, 672, rfl⟩
abbrev main_call0_call5_v111 : Ref sig .tc := ⟨.hbm, 673, rfl⟩
abbrev main_call0_call5_v112 : Ref sig .tc := ⟨.hbm, 674, rfl⟩
abbrev main_call0_call5_v113 : Ref sig .tc := ⟨.hbm, 675, rfl⟩
abbrev main_call0_call5_v114 : Ref sig .tc := ⟨.hbm, 676, rfl⟩
abbrev main_call0_call5_v115 : Ref sig .tc := ⟨.hbm, 677, rfl⟩
abbrev main_call0_call5_c_29 : Ref sig .tc := ⟨.hbm, 678, rfl⟩
abbrev main_call0_call5_v116 : Ref sig .tc := ⟨.hbm, 679, rfl⟩
abbrev main_call0_call5_v117 : Ref sig .tc := ⟨.hbm, 680, rfl⟩
abbrev main_call0_call5_c_30 : Ref sig .tc := ⟨.hbm, 681, rfl⟩
abbrev main_call0_call5_v118 : Ref sig .tc := ⟨.hbm, 682, rfl⟩
abbrev main_call0_call5_v119 : Ref sig .tc := ⟨.hbm, 683, rfl⟩
abbrev main_call0_call5_v120 : Ref sig .tc := ⟨.hbm, 684, rfl⟩
abbrev main_call0_call5_v121 : Ref sig .tc := ⟨.hbm, 685, rfl⟩
abbrev main_call0_call5_v122 : Ref sig .tc := ⟨.hbm, 686, rfl⟩
abbrev main_call0_call5_c_31 : Ref sig .tc := ⟨.hbm, 687, rfl⟩
abbrev main_call0_call5_v123 : Ref sig .tc := ⟨.hbm, 688, rfl⟩
abbrev main_call0_call5_v124 : Ref sig .tc := ⟨.hbm, 689, rfl⟩
abbrev main_call0_call5_c_32 : Ref sig .tc := ⟨.hbm, 690, rfl⟩
abbrev main_call0_call5_v125 : Ref sig .tc := ⟨.hbm, 691, rfl⟩
abbrev main_call0_call5_v126 : Ref sig .tc := ⟨.hbm, 692, rfl⟩
abbrev main_call0_call5_v127 : Ref sig .tc := ⟨.hbm, 693, rfl⟩
abbrev main_call0_call5_v128 : Ref sig .tc := ⟨.hbm, 694, rfl⟩
abbrev main_call0_call5_v129 : Ref sig .tc := ⟨.hbm, 695, rfl⟩
abbrev main_call0_call5_c_33 : Ref sig .tc := ⟨.hbm, 696, rfl⟩
abbrev main_call0_call5_v130 : Ref sig .tc := ⟨.hbm, 697, rfl⟩
abbrev main_call0_call5_v131 : Ref sig .tc := ⟨.hbm, 698, rfl⟩
abbrev main_call0_call5_c_34 : Ref sig .tc := ⟨.hbm, 699, rfl⟩
abbrev main_call0_call5_v132 : Ref sig .tc := ⟨.hbm, 700, rfl⟩
abbrev main_call0_call5_v133 : Ref sig .tc := ⟨.hbm, 701, rfl⟩
abbrev main_call0_call5_v134 : Ref sig .tc := ⟨.hbm, 702, rfl⟩
abbrev main_call0_call5_v135 : Ref sig .tc := ⟨.hbm, 703, rfl⟩
abbrev main_call0_call5_v136 : Ref sig .tc := ⟨.hbm, 704, rfl⟩
abbrev main_call0_call5_v137 : Ref sig .tc := ⟨.hbm, 705, rfl⟩
abbrev main_call0_call5_v138 : Ref sig .tc := ⟨.hbm, 706, rfl⟩
abbrev main_call0_call5_v139 : Ref sig .tc := ⟨.hbm, 707, rfl⟩
abbrev main_call0_call5_c_35 : Ref sig .tc := ⟨.hbm, 708, rfl⟩
abbrev main_call0_call5_v140 : Ref sig .tc := ⟨.hbm, 709, rfl⟩
abbrev main_call0_call5_v141 : Ref sig .tc := ⟨.hbm, 710, rfl⟩
abbrev main_call0_call5_v142 : Ref sig .tc := ⟨.hbm, 711, rfl⟩
abbrev main_call0_call5_c_36 : Ref sig .tc := ⟨.hbm, 712, rfl⟩
abbrev main_call0_call5_v143 : Ref sig .tc := ⟨.hbm, 713, rfl⟩
abbrev main_call0_call5_v144 : Ref sig .tc := ⟨.hbm, 714, rfl⟩
abbrev main_call0_call5_c_37 : Ref sig .tc := ⟨.hbm, 715, rfl⟩
abbrev main_call0_call5_v145 : Ref sig .tc := ⟨.hbm, 716, rfl⟩
abbrev main_call0_call5_v146 : Ref sig .tc := ⟨.hbm, 717, rfl⟩
abbrev main_call0_call5_v147 : Ref sig .tc := ⟨.hbm, 718, rfl⟩
abbrev main_call0_call5_v148 : Ref sig .tc := ⟨.hbm, 719, rfl⟩
abbrev main_call0_call5_v149 : Ref sig .tc := ⟨.hbm, 720, rfl⟩
abbrev main_call0_call5_c_38 : Ref sig .tc := ⟨.hbm, 721, rfl⟩
abbrev main_call0_call5_v150 : Ref sig .tc := ⟨.hbm, 722, rfl⟩
abbrev main_call0_call5_v151 : Ref sig .tc := ⟨.hbm, 723, rfl⟩
abbrev main_call0_call5_c_39 : Ref sig .tc := ⟨.hbm, 724, rfl⟩
abbrev main_call0_call5_v152 : Ref sig .tc := ⟨.hbm, 725, rfl⟩
abbrev main_call0_call5_v153 : Ref sig .tc := ⟨.hbm, 726, rfl⟩
abbrev main_call0_call5_v154 : Ref sig .tc := ⟨.hbm, 727, rfl⟩
abbrev main_call0_call5_v155 : Ref sig .tc := ⟨.hbm, 728, rfl⟩
abbrev main_call0_call5_v156 : Ref sig .tc := ⟨.hbm, 729, rfl⟩
abbrev main_call0_call5_c_40 : Ref sig .tc := ⟨.hbm, 730, rfl⟩
abbrev main_call0_call5_v157 : Ref sig .tc := ⟨.hbm, 731, rfl⟩
abbrev main_call0_call5_v158 : Ref sig .tc := ⟨.hbm, 732, rfl⟩
abbrev main_call0_call5_c_41 : Ref sig .tc := ⟨.hbm, 733, rfl⟩
abbrev main_call0_call5_v159 : Ref sig .tc := ⟨.hbm, 734, rfl⟩
abbrev main_call0_call5_v160 : Ref sig .tc := ⟨.hbm, 735, rfl⟩
abbrev main_call0_call5_v161 : Ref sig .tc := ⟨.hbm, 736, rfl⟩
abbrev main_call0_call5_v162 : Ref sig .tc := ⟨.hbm, 737, rfl⟩
abbrev main_call0_call5_v163 : Ref sig .tc := ⟨.hbm, 738, rfl⟩
abbrev main_call0_call5_c_42 : Ref sig .tc := ⟨.hbm, 739, rfl⟩
abbrev main_call0_call5_v164 : Ref sig .tc := ⟨.hbm, 740, rfl⟩
abbrev main_call0_call5_v165 : Ref sig .tc := ⟨.hbm, 741, rfl⟩
abbrev main_call0_call5_c_43 : Ref sig .tc := ⟨.hbm, 742, rfl⟩
abbrev main_call0_call5_v166 : Ref sig .tc := ⟨.hbm, 743, rfl⟩
abbrev main_call0_call5_v167 : Ref sig .tc := ⟨.hbm, 744, rfl⟩
abbrev main_call0_call5_v168 : Ref sig .tc := ⟨.hbm, 745, rfl⟩
abbrev main_call0_call5_v169 : Ref sig .tc := ⟨.hbm, 746, rfl⟩
abbrev main_call0_call5_v170 : Ref sig .tc := ⟨.hbm, 747, rfl⟩
abbrev main_call0_v45_0 : Ref sig .tc := ⟨.hbm, 748, rfl⟩
abbrev main_call0_call5_v172 : Ref sig .tc := ⟨.hbm, 749, rfl⟩
abbrev main_call0_call5_v173 : Ref sig .tc := ⟨.hbm, 750, rfl⟩
abbrev main_call0_call5_c_44 : Ref sig .tc := ⟨.hbm, 751, rfl⟩
abbrev main_call0_call5_v174 : Ref sig .tc := ⟨.hbm, 752, rfl⟩
abbrev main_call0_v45_1 : Ref sig .tc := ⟨.hbm, 753, rfl⟩
abbrev main_call0_v46 : Ref sig .tc := ⟨.hbm, 754, rfl⟩
abbrev main_call0_v47 : Ref sig .tc := ⟨.hbm, 755, rfl⟩
abbrev main_call0_v48 : Ref sig .tc := ⟨.hbm, 756, rfl⟩
abbrev main_call0_v49 : Ref sig .tc := ⟨.hbm, 757, rfl⟩
abbrev main_call0_c_12 : Ref sig .tc := ⟨.hbm, 758, rfl⟩
abbrev main_call0_v50 : Ref sig .tc := ⟨.hbm, 759, rfl⟩
abbrev main_call0_v51 : Ref sig .tc := ⟨.hbm, 760, rfl⟩
abbrev main_call0_v52 : Ref sig .tc := ⟨.hbm, 761, rfl⟩
abbrev main_call0_v53 : Ref sig .tc := ⟨.hbm, 762, rfl⟩
abbrev main_call0_v54 : Ref sig .tc := ⟨.hbm, 763, rfl⟩
abbrev main_call0_c_13 : Ref sig .tc := ⟨.hbm, 764, rfl⟩
abbrev main_call0_v55 : Ref sig .tc := ⟨.hbm, 765, rfl⟩
abbrev main_call0_v56 : Ref sig .tc := ⟨.hbm, 766, rfl⟩
abbrev main_call0_v57 : Ref sig .tc := ⟨.hbm, 767, rfl⟩
abbrev main_call0_c_14 : Ref sig .tc := ⟨.hbm, 768, rfl⟩
abbrev main_call0_v58 : Ref sig .tc := ⟨.hbm, 769, rfl⟩
abbrev main_call0_v59 : Ref sig .tc := ⟨.hbm, 770, rfl⟩
abbrev main_call0_v60 : Ref sig .tc := ⟨.hbm, 771, rfl⟩
abbrev main_call0_v61 : Ref sig .tc := ⟨.hbm, 772, rfl⟩
abbrev main_call0_v62 : Ref sig .tc := ⟨.hbm, 773, rfl⟩
abbrev main_call0_v63 : Ref sig .tc := ⟨.hbm, 774, rfl⟩
abbrev main_call0_v64 : Ref sig .tc := ⟨.hbm, 775, rfl⟩
abbrev main_call0_v65 : Ref sig .tc := ⟨.hbm, 776, rfl⟩
abbrev main_call0_v66 : Ref sig .tc := ⟨.hbm, 777, rfl⟩
abbrev main_call0_v67 : Ref sig .tc := ⟨.hbm, 778, rfl⟩
abbrev main_call0_v68 : Ref sig .tc := ⟨.hbm, 779, rfl⟩
abbrev main_call0_v69 : Ref sig .tc := ⟨.hbm, 780, rfl⟩
abbrev main_call0_v70 : Ref sig .tc := ⟨.hbm, 781, rfl⟩
abbrev main_call0_v71 : Ref sig .tc := ⟨.hbm, 782, rfl⟩
abbrev main_call0_v72 : Ref sig .tc := ⟨.hbm, 783, rfl⟩
abbrev main_v7 : Ref sig .tc := ⟨.hbm, 784, rfl⟩
abbrev main_v8 : Ref sig .tc := ⟨.hbm, 785, rfl⟩
abbrev main_v9 : Ref sig .tc := ⟨.hbm, 786, rfl⟩
abbrev main_v10 : Ref sig .tc := ⟨.hbm, 787, rfl⟩
abbrev main_v11 : Ref sig .tc := ⟨.hbm, 788, rfl⟩
abbrev main_v12 : Ref sig .tc := ⟨.hbm, 789, rfl⟩
abbrev main_c_4 : Ref sig .tc := ⟨.hbm, 790, rfl⟩
abbrev main_v13 : Ref sig .tc := ⟨.hbm, 791, rfl⟩
abbrev main_v14 : Ref sig .tc := ⟨.hbm, 792, rfl⟩
abbrev main_c_5 : Ref sig .tc := ⟨.hbm, 793, rfl⟩
abbrev main_v15 : Ref sig .tc := ⟨.hbm, 794, rfl⟩
abbrev main_v16 : Ref sig .tc := ⟨.hbm, 795, rfl⟩
abbrev main_v17 : Ref sig .tc := ⟨.hbm, 796, rfl⟩
abbrev main_call2_c : Ref sig .tc := ⟨.hbm, 797, rfl⟩
abbrev main_call2_v0 : Ref sig .tc := ⟨.hbm, 798, rfl⟩
abbrev main_call2_v1 : Ref sig .tc := ⟨.hbm, 799, rfl⟩
abbrev main_call2_c_0 : Ref sig .tc := ⟨.hbm, 800, rfl⟩
abbrev main_call2_v2 : Ref sig .tc := ⟨.hbm, 801, rfl⟩
abbrev main_call2_v3 : Ref sig .tc := ⟨.hbm, 802, rfl⟩
abbrev main_call2_v4 : Ref sig .tc := ⟨.hbm, 803, rfl⟩
abbrev main_call2_c_1 : Ref sig .tc := ⟨.hbm, 804, rfl⟩
abbrev main_call2_c_2 : Ref sig .tc := ⟨.hbm, 805, rfl⟩
abbrev main_call2_v5 : Ref sig .tc := ⟨.hbm, 806, rfl⟩
abbrev main_call2_v6 : Ref sig .tc := ⟨.hbm, 807, rfl⟩
abbrev main_call2_v7 : Ref sig .tc := ⟨.hbm, 808, rfl⟩
abbrev main_call2_v8 : Ref sig .tc := ⟨.hbm, 809, rfl⟩
abbrev main_call2_v9 : Ref sig .tc := ⟨.hbm, 810, rfl⟩
abbrev main_call2_v10 : Ref sig .tc := ⟨.hbm, 811, rfl⟩
abbrev main_call2_c_3 : Ref sig .tc := ⟨.hbm, 812, rfl⟩
abbrev main_call2_v11 : Ref sig .tc := ⟨.hbm, 813, rfl⟩
abbrev main_call2_v12 : Ref sig .tc := ⟨.hbm, 814, rfl⟩
abbrev main_call2_v13 : Ref sig .tc := ⟨.hbm, 815, rfl⟩
abbrev main_call2_cst : Ref sig .tc := ⟨.hbm, 816, rfl⟩
abbrev main_call2_v14 : Ref sig .tc := ⟨.hbm, 817, rfl⟩
abbrev main_v18 : Ref sig .tc := ⟨.hbm, 818, rfl⟩

abbrev nD : Nat := 1
abbrev τ : Topo := Topo.v7x

variable {F : FTy → Type} [FloatOps F]
-- ==== Proof.Sim.lean ====
/-
  Two printed host programs, run side by side.

  The kernel's program and the reference's begin with the same computation (the random row numbers), and both keep one
  device buffer per value, numbered in the order in which the values are computed. So a run of the two prefixes next to
  each other keeps one relation: whatever both have computed so far agrees (`Agree n`: the buffers numbered below `n`
  hold the same contents in both). `Sim` says that two programs are straight lines of host operations which carry
  `Agree n` to `Agree n'`, and its rules take one operation of each at a time. What is to be known of the values themselves
  (the range of the row numbers) is a predicate `P` on the first program's contents, which later operations do not
  disturb because they write buffers numbered from `n` on (`Stable`).
-/
module

public import proofs.«01_k».proof.Defs
public import Idealize.ShloMosaic.Lib.StableHlo.Run
public import Idealize.ShloMosaic.Lib.StableHlo.RunHlo
public import Idealize.ShloMosaic.Lib.Pipeline.Frame

@[expose] public section

noncomputable section

namespace Cert.Proof.Sim

open Idealize.ShloMosaic Idealize.ShloMosaic.StableHlo Idealize.SL.Sem

variable {nD₁ nD₂ : Nat} {τ₁ τ₂ : Topo} {sig₁ sig₂ : RefSig} {Val : EltTy → Type} {Λ₁ Λ₂ : Labels}

section One

variable {τ : Topo} {sig : RefSig} {T : BufTy}

/-- The contents of a typed reference. -/
def rd (V : Valuation τ sig Val) (x : TRef sig T) : T.Contents Val := x.ofBuf (V (Proc.devRef .tc x.ref))

/-- The reference is to the device buffer numbered `k`. -/
structure At (x : Ref sig .tc) (k : ℕ) : Prop where
  space : x.space = .hbm
  idx : x.idx.val = k

theorem At.ref_eq {x y : Ref sig .tc} {k : ℕ} (hx : At x k) (hy : At y k) : x = y := by
  obtain ⟨sx, ix, nx⟩ := x
  obtain ⟨sy, iy, ny⟩ := y
  obtain ⟨h1, h2⟩ := hx
  obtain ⟨h3, h4⟩ := hy
  dsimp only at h1 h2 h3 h4
  subst h1 h3
  obtain rfl : ix = iy := Fin.ext (h2.trans h4.symm)
  rfl

theorem At.ne {x y : Ref sig .tc} {j k : ℕ} (hx : At x j) (hy : At y k) (h : j ≠ k) : x ≠ y := by
  rintro rfl
  exact h (hx.2.symm.trans hy.2)

/-- Two typed references to one buffer are the same reference, at the same type. -/
theorem tref_heq {T' : BufTy} {x : TRef sig T} {y : TRef sig T'} (h : x.ref = y.ref) : ∃ e : T = T', e ▸ x = y := by
  obtain ⟨rx, tx, dx, ux⟩ := x
  obtain ⟨ry, ty, dy, uy⟩ := y
  cases h
  cases tx
  cases ty
  exact ⟨rfl, rfl⟩

/-- The operation touches the TensorCore's references only, leaves nothing unspecified, and writes `y` alone. -/
structure Writes (op : HloOp τ sig Val) (y : Ref sig .tc) : Prop where
  bufs : op.bufs ⊆ tcRefs τ sig
  fresh : op.fresh = ∅
  writes : op.writes = {Proc.devRef .tc y}

theorem Writes.rd_ne {op : HloOp τ sig Val} {y : Ref sig .tc} (h : Writes op y) (V : Valuation τ sig Val) {x : TRef sig T}
    (hx : x.ref ≠ y) : rd (op.result V) x = rd V x := by
  unfold rd
  rw [result_of_writes_ne op V y x.ref h.writes hx]

theorem Writes.nullary {y : Ref sig .tc} {v : y.ty.Contents Val} {hy} : Writes (StableHlo.nullary (τ := τ) y v hy) y :=
  ⟨by simp only [nullary_bufs_sub], rfl, rfl⟩
theorem Writes.unary {x y : Ref sig .tc} {f : x.ty.Contents Val → y.ty.Contents Val} {hx hy} :
    Writes (StableHlo.unary (τ := τ) x y f hx hy) y :=
  ⟨by simp only [unary_bufs_sub], rfl, rfl⟩
theorem Writes.binary {a b y : Ref sig .tc} {f : a.ty.Contents Val → b.ty.Contents Val → y.ty.Contents Val} {ha hb hy} :
    Writes (StableHlo.binary (τ := τ) a b y f ha hb hy) y :=
  ⟨by simp only [binary_bufs_sub], rfl, rfl⟩
theorem Writes.ternary {c a b y : Ref sig .tc}
    {f : c.ty.Contents Val → a.ty.Contents Val → b.ty.Contents Val → y.ty.Contents Val} {hc ha hb hy} :
    Writes (StableHlo.ternary (τ := τ) c a b y f hc ha hb hy) y :=
  ⟨by simp only [ternary_bufs_sub], rfl, rfl⟩
theorem Writes.reshape {x y : Ref sig .tc} {he : x.ty.elt = y.ty.elt} {hn hx hy} :
    Writes (StableHlo.reshape (τ := τ) (Val := Val) x y he hn hx hy) y :=
  ⟨by simp only [reshape_bufs_sub], rfl, rfl⟩

/-! What each operation leaves in its result, read at the values' types. -/

theorem rd_nullary (V : Valuation τ sig Val) (y : TRef sig T) (v : T.Contents Val) :
    rd ((TRef.nullary y v).result V) y = v := by
  obtain ⟨ry, ty, dy, uy⟩ := y
  cases ty
  exact nullary_result ry v ⟨dy, uy⟩ V

theorem rd_unary {Tx : BufTy} (V : Valuation τ sig Val) (x : TRef sig Tx) (y : TRef sig T)
    (f : Tx.Contents Val → T.Contents Val) : rd ((TRef.unary x y f).result V) y = f (rd V x) := by
  obtain ⟨rx, tx, dx, ux⟩ := x
  obtain ⟨ry, ty, dy, uy⟩ := y
  cases tx
  cases ty
  exact unary_result rx ry f ⟨dx, ux⟩ ⟨dy, uy⟩ V

theorem rd_binary {Ta Tb : BufTy} (V : Valuation τ sig Val) (a : TRef sig Ta) (b : TRef sig Tb) (y : TRef sig T)
    (f : Ta.Contents Val → Tb.Contents Val → T.Contents Val) :
    rd ((TRef.binary a b y f).result V) y = f (rd V a) (rd V b) := by
  obtain ⟨ra, ta, da, ua⟩ := a
  obtain ⟨rb, tb, db, ub⟩ := b
  obtain ⟨ry, ty, dy, uy⟩ := y
  cases ta
  cases tb
  cases ty
  exact binary_result ra rb ry f ⟨da, ua⟩ ⟨db, ub⟩ ⟨dy, uy⟩ V

theorem rd_ternary {Tc Ta Tb : BufTy} (V : Valuation τ sig Val) (c : TRef sig Tc) (a : TRef sig Ta) (b : TRef sig Tb)
    (y : TRef sig T) (f : Tc.Contents Val → Ta.Contents Val → Tb.Contents Val → T.Contents Val) :
    rd ((TRef.ternary c a b y f).result V) y = f (rd V c) (rd V a) (rd V b) := by
  obtain ⟨rc, tc, dc, uc⟩ := c
  obtain ⟨ra, ta, da, ua⟩ := a
  obtain ⟨rb, tb, db, ub⟩ := b
  obtain ⟨ry, ty, dy, uy⟩ := y
  cases tc
  cases ta
  cases tb
  cases ty
  exact ternary_result rc ra rb ry f ⟨dc, uc⟩ ⟨da, ua⟩ ⟨db, ub⟩ ⟨dy, uy⟩ V

theorem rd_reshape {Tx : BufTy} (V : Valuation τ sig Val) (x : TRef sig Tx) (y : TRef sig T) (he : Tx.elt = T.elt)
    (hn : Tx.shape.ShapeCasts T.shape) :
    rd ((TRef.reshape (Val := Val) x y he hn).result V) y = fun i => he ▸ shapeCast T.shape (rd V x) hn i := by
  obtain ⟨rx, tx, dx, ux⟩ := x
  obtain ⟨ry, ty, dy, uy⟩ := y
  cases tx
  cases ty
  exact reshape_result rx ry _ _ ⟨dx, ux⟩ ⟨dy, uy⟩ V

/-- The contents of the buffers numbered below `n` are the same. -/
def Same (n : ℕ) (V V' : Valuation τ sig Val) : Prop :=
  ∀ ⦃T : BufTy⦄ (x : TRef sig T) (k : ℕ), At x.ref k → k < n → rd V x = rd V' x

/-- The predicate speaks of the buffers numbered below `n` only. -/
def Stable (n : ℕ) (P : Valuation τ sig Val → Prop) : Prop := ∀ V V', Same n V V' → P V → P V'

theorem Stable.mono {n n' : ℕ} {P : Valuation τ sig Val → Prop} (h : Stable n P) (hn : n ≤ n') : Stable n' P :=
  fun V V' hs => h V V' fun _ x k hk hlt => hs x k hk (hlt.trans_le hn)

theorem Stable.and {n : ℕ} {P Q : Valuation τ sig Val → Prop} (hP : Stable n P) (hQ : Stable n Q) :
    Stable n fun V => P V ∧ Q V :=
  fun V V' hs h => ⟨hP V V' hs h.1, hQ V V' hs h.2⟩

theorem Stable.true {n : ℕ} : Stable n fun _ : Valuation τ sig Val => True := fun _ _ _ h => h

/-- What one buffer numbered below `n` holds is such a predicate. -/
theorem Stable.rd {n k : ℕ} {x : TRef sig T} (hx : At x.ref k) (hk : k < n) (Q : T.Contents Val → Prop) :
    Stable n fun V : Valuation τ sig Val => Q (rd V x) :=
  fun V V' hs h => by
    have e := hs x k hx hk
    dsimp only at h ⊢
    rwa [← e]

theorem Writes.same {op : HloOp τ sig Val} {y : Ref sig .tc} {n : ℕ} (h : Writes op y) (hy : At y n)
    (V : Valuation τ sig Val) : Same n V (op.result V) :=
  fun _ x _ hk hlt => (h.rd_ne V (hk.ne hy hlt.ne)).symm

end One

/-- The buffers numbered below `n` hold the same contents in both programs. -/
def Agree (n : ℕ) (V₁ : Valuation τ₁ sig₁ Val) (V₂ : Valuation τ₂ sig₂ Val) : Prop :=
  ∀ ⦃T : BufTy⦄ (x₁ : TRef sig₁ T) (x₂ : TRef sig₂ T) (k : ℕ), At x₁.ref k → At x₂.ref k → k < n → rd V₁ x₁ = rd V₂ x₂

/-- One operation of each program, writing the buffer numbered `n`, at equal values. -/
theorem Agree.step {n : ℕ} {T : BufTy} {V₁ : Valuation τ₁ sig₁ Val} {V₂ : Valuation τ₂ sig₂ Val} {op₁ : HloOp τ₁ sig₁ Val}
    {op₂ : HloOp τ₂ sig₂ Val} {y₁ : TRef sig₁ T} {y₂ : TRef sig₂ T} (hA : Agree n V₁ V₂)
    (w₁ : Writes op₁ y₁.ref) (w₂ : Writes op₂ y₂.ref) (hy₁ : At y₁.ref n) (hy₂ : At y₂.ref n)
    (hv : rd (op₁.result V₁) y₁ = rd (op₂.result V₂) y₂) : Agree (n + 1) (op₁.result V₁) (op₂.result V₂) := by
  intro T' x₁ x₂ k h₁ h₂ hk
  rcases Nat.lt_succ_iff_lt_or_eq.mp hk with hlt | rfl
  · rw [w₁.rd_ne V₁ (h₁.ne hy₁ hlt.ne), w₂.rd_ne V₂ (h₂.ne hy₂ hlt.ne)]
    exact hA x₁ x₂ k h₁ h₂ hlt
  · obtain ⟨e₁, q₁⟩ := tref_heq (h₁.ref_eq hy₁)
    obtain ⟨e₂, q₂⟩ := tref_heq (h₂.ref_eq hy₂)
    subst e₁
    subst q₁ q₂
    exact hv

/-- The operations of a line touch the TensorCore's references only and leave nothing unspecified. -/
def Good {τ : Topo} {sig : RefSig} (ops : List (HloOp τ sig Val)) : Prop :=
  ∀ op ∈ ops, op.bufs ⊆ tcRefs τ sig ∧ op.fresh = ∅

theorem Good.cons {τ : Topo} {sig : RefSig} {op : HloOp τ sig Val} {y : Ref sig .tc} {ops : List (HloOp τ sig Val)}
    (h : Writes op y) (hs : Good ops) : Good (op :: ops) := by
  intro o ho
  rcases List.mem_cons.mp ho with rfl | ho
  · exact ⟨h.bufs, h.fresh⟩
  · exact hs o ho

theorem Good.append {τ : Topo} {sig : RefSig} {ops ops' : List (HloOp τ sig Val)} (h : Good ops) (h' : Good ops') :
    Good (ops ++ ops') := by
  intro o ho
  rcases List.mem_append.mp ho with ho | ho
  · exact h o ho
  · exact h' o ho

/-- A host program of either side: a TensorCore's program with no result. -/
abbrev HP (nD : Nat) (τ : Topo) (sig : RefSig) (Val : EltTy → Type) (Λ : Labels) : Type _ :=
  Prog (TpuEff nD τ sig Val Λ .tc) PUnit

/-- The two programs are lines of host operations followed by `k₁`, `k₂`, and the lines carry «below `n` the two agree,
    and `P` holds of the first» to the same at `n'` and `P'`. -/
def Sim (n : ℕ) (P : Valuation τ₁ sig₁ Val → Prop) (p₁ : HP nD₁ τ₁ sig₁ Val Λ₁) (p₂ : HP nD₂ τ₂ sig₂ Val Λ₂)
    (n' : ℕ) (P' : Valuation τ₁ sig₁ Val → Prop) (k₁ : HP nD₁ τ₁ sig₁ Val Λ₁) (k₂ : HP nD₂ τ₂ sig₂ Val Λ₂) : Prop :=
  Stable n P → Stable n' P' ∧ ∃ (ops₁ : List (HloOp τ₁ sig₁ Val)) (ops₂ : List (HloOp τ₂ sig₂ Val)),
    p₁ = (seq ops₁ >>= fun _ => k₁) ∧ p₂ = (seq ops₂ >>= fun _ => k₂) ∧ Good ops₁ ∧ Good ops₂ ∧
    ∀ (V₁ : Valuation τ₁ sig₁ Val) (V₂ : Valuation τ₂ sig₂ Val), Agree n V₁ V₂ → P V₁ →
      Agree n' (after ops₁ V₁) (after ops₂ V₂) ∧ P' (after ops₁ V₁)

section Rules

variable {n n' n'' : ℕ} {P P' P'' : Valuation τ₁ sig₁ Val → Prop}
variable {p₁ k₁ c₁ r₁ : HP nD₁ τ₁ sig₁ Val Λ₁} {p₂ k₂ c₂ r₂ : HP nD₂ τ₂ sig₂ Val Λ₂}

/-- No operation taken. -/
theorem Sim.stop : Sim n P k₁ k₂ n P k₁ k₂ := fun hs =>
  ⟨hs, [], [], by rw [seq, pure_bind], by rw [seq, pure_bind], fun _ h => absurd h List.not_mem_nil,
    fun _ h => absurd h List.not_mem_nil, fun _ _ hA hP => ⟨hA, hP⟩⟩

/-- Less is known. -/
theorem Sim.weaken (P' : Valuation τ₁ sig₁ Val → Prop) (hs : Stable n P') (h : ∀ V, P V → P' V)
    (hk : Sim n P' p₁ p₂ n' P'' k₁ k₂) : Sim n P p₁ p₂ n' P'' k₁ k₂ := fun _ => by
  obtain ⟨hs', ops₁, ops₂, e₁, e₂, g₁, g₂, hv⟩ := hk hs
  exact ⟨hs', ops₁, ops₂, e₁, e₂, g₁, g₂, fun V₁ V₂ hA hP => hv V₁ V₂ hA (h V₁ hP)⟩

/-- A call of a function, then the rest. -/
theorem Sim.call (hc : Sim n P c₁ c₂ n' P' (pure ⟨⟩) (pure ⟨⟩)) (hr : Sim n' P' r₁ r₂ n'' P'' k₁ k₂) :
    Sim n P (c₁ >>= fun _ => r₁) (c₂ >>= fun _ => r₂) n'' P'' k₁ k₂ := fun hs => by
  obtain ⟨hs', ops₁, ops₂, e₁, e₂, g₁, g₂, hv⟩ := hc hs
  obtain ⟨hs'', ops₁', ops₂', e₁', e₂', g₁', g₂', hv'⟩ := hr hs'
  refine ⟨hs'', ops₁ ++ ops₁', ops₂ ++ ops₂', ?_, ?_, g₁.append g₁', g₂.append g₂', fun V₁ V₂ hA hP => ?_⟩
  · rw [e₁, e₁', seq_append, bind_assoc, bind_assoc]
    rfl
  · rw [e₂, e₂', seq_append, bind_assoc, bind_assoc]
    rfl
  · rw [after_append, after_append]
    obtain ⟨hA', hP'⟩ := hv V₁ V₂ hA hP
    exact hv' _ _ hA' hP'

/-- One operation of each. -/
theorem Sim.op {T : BufTy} {op₁ : HloOp τ₁ sig₁ Val} {op₂ : HloOp τ₂ sig₂ Val} (y₁ : TRef sig₁ T) (y₂ : TRef sig₂ T)
    (w₁ : Writes op₁ y₁.ref) (w₂ : Writes op₂ y₂.ref) (hy₁ : At y₁.ref n) (hy₂ : At y₂.ref n)
    (hs' : Stable n P → Stable (n + 1) P')
    (hv : ∀ V₁ V₂, Agree n V₁ V₂ → rd (op₁.result V₁) y₁ = rd (op₂.result V₂) y₂)
    (hP : ∀ V₁, Stable n P → P V₁ → P' (op₁.result V₁))
    (hr : Sim (n + 1) P' r₁ r₂ n'' P'' k₁ k₂) :
    Sim n P (hlo rfl op₁ (fun _ => .ret (⟨⟩ : PUnit)) >>= fun _ => r₁) (hlo rfl op₂ (fun _ => .ret (⟨⟩ : PUnit)) >>= fun _ => r₂)
      n'' P'' k₁ k₂ := fun hs => by
  obtain ⟨hs'', ops₁, ops₂, e₁, e₂, g₁, g₂, hv'⟩ := hr (hs' hs)
  refine ⟨hs'', op₁ :: ops₁, op₂ :: ops₂, ?_, ?_, g₁.cons w₁, g₂.cons w₂, fun V₁ V₂ hA hPV => ?_⟩
  · rw [e₁, seq, bind_assoc]
  · rw [e₂, seq, bind_assoc]
  · exact hv' _ _ (hA.step w₁ w₂ hy₁ hy₂ (hv V₁ V₂ hA)) (hP V₁ hs hPV)

/-- A function's last line is an operation, or the call of a part: as followed by the return. -/
theorem Sim.last (h : Sim n P (c₁ >>= fun _ => pure ⟨⟩) (c₂ >>= fun _ => pure ⟨⟩) n'' P'' k₁ k₂) :
    Sim n P c₁ c₂ n'' P'' k₁ k₂ := by
  have e₁ : (c₁ >>= fun _ => pure ⟨⟩) = c₁ := bind_pure c₁
  have e₂ : (c₂ >>= fun _ => pure ⟨⟩) = c₂ := bind_pure c₂
  rwa [e₁, e₂] at h

variable {T Ta Tb Tc : BufTy}
variable {y₁ : TRef sig₁ T} {y₂ : TRef sig₂ T} {a₁ : TRef sig₁ Ta} {a₂ : TRef sig₂ Ta} {b₁ : TRef sig₁ Tb} {b₂ : TRef sig₂ Tb}
variable {q₁ : TRef sig₁ Tc} {q₂ : TRef sig₂ Tc}

/-! The rules by the kind of operation. The primed rules remember the
    operation's equation. -/

theorem Sim.nullary {v : T.Contents Val} (hy₁ : At y₁.ref n) (hy₂ : At y₂.ref n) (hr : Sim (n + 1) P r₁ r₂ n'' P'' k₁ k₂) :
    Sim n P (hlo rfl (TRef.nullary y₁ v) (fun _ => .ret (⟨⟩ : PUnit)) >>= fun _ => r₁)
      (hlo rfl (TRef.nullary y₂ v) (fun _ => .ret (⟨⟩ : PUnit)) >>= fun _ => r₂) n'' P'' k₁ k₂ :=
  Sim.op y₁ y₂ .nullary .nullary hy₁ hy₂ (fun h => h.mono (Nat.le_succ n))
    (fun V₁ V₂ _ => by rw [rd_nullary, rd_nullary])
    (fun V₁ hs hP => hs V₁ _ (Writes.nullary.same hy₁ V₁) hP) hr

theorem Sim.nullary' {v : T.Contents Val} (hy₁ : At y₁.ref n) (hy₂ : At y₂.ref n)
    (hr : Sim (n + 1) (fun V => P V ∧ rd V y₁ = v) r₁ r₂ n'' P'' k₁ k₂) :
    Sim n P (hlo rfl (TRef.nullary y₁ v) (fun _ => .ret (⟨⟩ : PUnit)) >>= fun _ => r₁)
      (hlo rfl (TRef.nullary y₂ v) (fun _ => .ret (⟨⟩ : PUnit)) >>= fun _ => r₂) n'' P'' k₁ k₂ :=
  Sim.op y₁ y₂ .nullary .nullary hy₁ hy₂
    (fun h => (h.mono (Nat.le_succ n)).and (Stable.rd hy₁ (Nat.lt_succ_self n) fun w => w = v))
    (fun V₁ V₂ _ => by rw [rd_nullary, rd_nullary])
    (fun V₁ hs hP => ⟨hs V₁ _ (Writes.nullary.same hy₁ V₁) hP, rd_nullary V₁ y₁ v⟩) hr

theorem Sim.unary {f : Ta.Contents Val → T.Contents Val} (ha₁ : At a₁.ref a₁.ref.idx.val) (ha₂ : At a₂.ref a₁.ref.idx.val)
    (hy₁ : At y₁.ref n) (hy₂ : At y₂.ref n) (hi : a₁.ref.idx.val < n) (hr : Sim (n + 1) P r₁ r₂ n'' P'' k₁ k₂) :
    Sim n P (hlo rfl (TRef.unary a₁ y₁ f) (fun _ => .ret (⟨⟩ : PUnit)) >>= fun _ => r₁)
      (hlo rfl (TRef.unary a₂ y₂ f) (fun _ => .ret (⟨⟩ : PUnit)) >>= fun _ => r₂) n'' P'' k₁ k₂ :=
  Sim.op y₁ y₂ .unary .unary hy₁ hy₂ (fun h => h.mono (Nat.le_succ n))
    (fun V₁ V₂ hA => by rw [rd_unary, rd_unary, hA a₁ a₂ _ ha₁ ha₂ hi])
    (fun V₁ hs hP => hs V₁ _ (Writes.unary.same hy₁ V₁) hP) hr

theorem Sim.unary' {f : Ta.Contents Val → T.Contents Val} (ha₁ : At a₁.ref a₁.ref.idx.val) (ha₂ : At a₂.ref a₁.ref.idx.val)
    (hy₁ : At y₁.ref n) (hy₂ : At y₂.ref n) (hi : a₁.ref.idx.val < n)
    (hr : Sim (n + 1) (fun V => P V ∧ rd V y₁ = f (rd V a₁)) r₁ r₂ n'' P'' k₁ k₂) :
    Sim n P (hlo rfl (TRef.unary a₁ y₁ f) (fun _ => .ret (⟨⟩ : PUnit)) >>= fun _ => r₁)
      (hlo rfl (TRef.unary a₂ y₂ f) (fun _ => .ret (⟨⟩ : PUnit)) >>= fun _ => r₂) n'' P'' k₁ k₂ :=
  Sim.op y₁ y₂ .unary .unary hy₁ hy₂
    (fun h => (h.mono (Nat.le_succ n)).and fun V V' hs e => by
      rw [← hs y₁ n hy₁ (Nat.lt_succ_self n), ← hs a₁ _ ha₁ (hi.trans (Nat.lt_succ_self n))]; exact e)
    (fun V₁ V₂ hA => by rw [rd_unary, rd_unary, hA a₁ a₂ _ ha₁ ha₂ hi])
    (fun V₁ hs hP => ⟨hs V₁ _ (Writes.unary.same hy₁ V₁) hP, by
      rw [rd_unary, Writes.rd_ne Writes.unary V₁ (ha₁.ne hy₁ hi.ne)]⟩) hr

theorem Sim.binary {f : Ta.Contents Val → Tb.Contents Val → T.Contents Val} (ha₁ : At a₁.ref a₁.ref.idx.val) (ha₂ : At a₂.ref a₁.ref.idx.val)
    (hb₁ : At b₁.ref b₁.ref.idx.val) (hb₂ : At b₂.ref b₁.ref.idx.val) (hy₁ : At y₁.ref n) (hy₂ : At y₂.ref n) (hi : a₁.ref.idx.val < n) (hj : b₁.ref.idx.val < n)
    (hr : Sim (n + 1) P r₁ r₂ n'' P'' k₁ k₂) :
    Sim n P (hlo rfl (TRef.binary a₁ b₁ y₁ f) (fun _ => .ret (⟨⟩ : PUnit)) >>= fun _ => r₁)
      (hlo rfl (TRef.binary a₂ b₂ y₂ f) (fun _ => .ret (⟨⟩ : PUnit)) >>= fun _ => r₂) n'' P'' k₁ k₂ :=
  Sim.op y₁ y₂ .binary .binary hy₁ hy₂ (fun h => h.mono (Nat.le_succ n))
    (fun V₁ V₂ hA => by rw [rd_binary, rd_binary, hA a₁ a₂ _ ha₁ ha₂ hi, hA b₁ b₂ _ hb₁ hb₂ hj])
    (fun V₁ hs hP => hs V₁ _ (Writes.binary.same hy₁ V₁) hP) hr

theorem Sim.binary' {f : Ta.Contents Val → Tb.Contents Val → T.Contents Val} (ha₁ : At a₁.ref a₁.ref.idx.val) (ha₂ : At a₂.ref a₁.ref.idx.val)
    (hb₁ : At b₁.ref b₁.ref.idx.val) (hb₂ : At b₂.ref b₁.ref.idx.val) (hy₁ : At y₁.ref n) (hy₂ : At y₂.ref n) (hi : a₁.ref.idx.val < n) (hj : b₁.ref.idx.val < n)
    (hr : Sim (n + 1) (fun V => P V ∧ rd V y₁ = f (rd V a₁) (rd V b₁)) r₁ r₂ n'' P'' k₁ k₂) :
    Sim n P (hlo rfl (TRef.binary a₁ b₁ y₁ f) (fun _ => .ret (⟨⟩ : PUnit)) >>= fun _ => r₁)
      (hlo rfl (TRef.binary a₂ b₂ y₂ f) (fun _ => .ret (⟨⟩ : PUnit)) >>= fun _ => r₂) n'' P'' k₁ k₂ :=
  Sim.op y₁ y₂ .binary .binary hy₁ hy₂
    (fun h => (h.mono (Nat.le_succ n)).and fun V V' hs e => by
      rw [← hs y₁ n hy₁ (Nat.lt_succ_self n), ← hs a₁ _ ha₁ (hi.trans (Nat.lt_succ_self n)),
        ← hs b₁ _ hb₁ (hj.trans (Nat.lt_succ_self n))]; exact e)
    (fun V₁ V₂ hA => by rw [rd_binary, rd_binary, hA a₁ a₂ _ ha₁ ha₂ hi, hA b₁ b₂ _ hb₁ hb₂ hj])
    (fun V₁ hs hP => ⟨hs V₁ _ (Writes.binary.same hy₁ V₁) hP, by
      rw [rd_binary, Writes.rd_ne Writes.binary V₁ (ha₁.ne hy₁ hi.ne), Writes.rd_ne Writes.binary V₁ (hb₁.ne hy₁ hj.ne)]⟩) hr

theorem Sim.ternary {f : Tc.Contents Val → Ta.Contents Val → Tb.Contents Val → T.Contents Val}
    (hq₁ : At q₁.ref q₁.ref.idx.val) (hq₂ : At q₂.ref q₁.ref.idx.val) (ha₁ : At a₁.ref a₁.ref.idx.val) (ha₂ : At a₂.ref a₁.ref.idx.val)
    (hb₁ : At b₁.ref b₁.ref.idx.val) (hb₂ : At b₂.ref b₁.ref.idx.val) (hy₁ : At y₁.ref n) (hy₂ : At y₂.ref n) (hl : q₁.ref.idx.val < n) (hi : a₁.ref.idx.val < n) (hj : b₁.ref.idx.val < n)
    (hr : Sim (n + 1) P r₁ r₂ n'' P'' k₁ k₂) :
    Sim n P (hlo rfl (TRef.ternary q₁ a₁ b₁ y₁ f) (fun _ => .ret (⟨⟩ : PUnit)) >>= fun _ => r₁)
      (hlo rfl (TRef.ternary q₂ a₂ b₂ y₂ f) (fun _ => .ret (⟨⟩ : PUnit)) >>= fun _ => r₂) n'' P'' k₁ k₂ :=
  Sim.op y₁ y₂ .ternary .ternary hy₁ hy₂ (fun h => h.mono (Nat.le_succ n))
    (fun V₁ V₂ hA => by
      rw [rd_ternary, rd_ternary, hA q₁ q₂ _ hq₁ hq₂ hl, hA a₁ a₂ _ ha₁ ha₂ hi, hA b₁ b₂ _ hb₁ hb₂ hj])
    (fun V₁ hs hP => hs V₁ _ (Writes.ternary.same hy₁ V₁) hP) hr

theorem Sim.ternary' {f : Tc.Contents Val → Ta.Contents Val → Tb.Contents Val → T.Contents Val}
    (hq₁ : At q₁.ref q₁.ref.idx.val) (hq₂ : At q₂.ref q₁.ref.idx.val) (ha₁ : At a₁.ref a₁.ref.idx.val) (ha₂ : At a₂.ref a₁.ref.idx.val)
    (hb₁ : At b₁.ref b₁.ref.idx.val) (hb₂ : At b₂.ref b₁.ref.idx.val) (hy₁ : At y₁.ref n) (hy₂ : At y₂.ref n) (hl : q₁.ref.idx.val < n) (hi : a₁.ref.idx.val < n) (hj : b₁.ref.idx.val < n)
    (hr : Sim (n + 1) (fun V => P V ∧ rd V y₁ = f (rd V q₁) (rd V a₁) (rd V b₁)) r₁ r₂ n'' P'' k₁ k₂) :
    Sim n P (hlo rfl (TRef.ternary q₁ a₁ b₁ y₁ f) (fun _ => .ret (⟨⟩ : PUnit)) >>= fun _ => r₁)
      (hlo rfl (TRef.ternary q₂ a₂ b₂ y₂ f) (fun _ => .ret (⟨⟩ : PUnit)) >>= fun _ => r₂) n'' P'' k₁ k₂ :=
  Sim.op y₁ y₂ .ternary .ternary hy₁ hy₂
    (fun h => (h.mono (Nat.le_succ n)).and fun V V' hs e => by
      rw [← hs y₁ n hy₁ (Nat.lt_succ_self n), ← hs q₁ _ hq₁ (hl.trans (Nat.lt_succ_self n)),
        ← hs a₁ _ ha₁ (hi.trans (Nat.lt_succ_self n)), ← hs b₁ _ hb₁ (hj.trans (Nat.lt_succ_self n))]; exact e)
    (fun V₁ V₂ hA => by
      rw [rd_ternary, rd_ternary, hA q₁ q₂ _ hq₁ hq₂ hl, hA a₁ a₂ _ ha₁ ha₂ hi, hA b₁ b₂ _ hb₁ hb₂ hj])
    (fun V₁ hs hP => ⟨hs V₁ _ (Writes.ternary.same hy₁ V₁) hP, by
      rw [rd_ternary, Writes.rd_ne Writes.ternary V₁ (hq₁.ne hy₁ hl.ne), Writes.rd_ne Writes.ternary V₁ (ha₁.ne hy₁ hi.ne),
        Writes.rd_ne Writes.ternary V₁ (hb₁.ne hy₁ hj.ne)]⟩) hr

theorem Sim.reshape {he : Ta.elt = T.elt} {hn : Ta.shape.ShapeCasts T.shape} (ha₁ : At a₁.ref a₁.ref.idx.val) (ha₂ : At a₂.ref a₁.ref.idx.val)
    (hy₁ : At y₁.ref n) (hy₂ : At y₂.ref n) (hi : a₁.ref.idx.val < n) (hr : Sim (n + 1) P r₁ r₂ n'' P'' k₁ k₂) :
    Sim n P (hlo rfl (TRef.reshape a₁ y₁ he hn) (fun _ => .ret (⟨⟩ : PUnit)) >>= fun _ => r₁)
      (hlo rfl (TRef.reshape a₂ y₂ he hn) (fun _ => .ret (⟨⟩ : PUnit)) >>= fun _ => r₂) n'' P'' k₁ k₂ :=
  Sim.op y₁ y₂ .reshape .reshape hy₁ hy₂ (fun h => h.mono (Nat.le_succ n))
    (fun V₁ V₂ hA => by rw [rd_reshape, rd_reshape, hA a₁ a₂ _ ha₁ ha₂ hi])
    (fun V₁ hs hP => hs V₁ _ (Writes.reshape.same hy₁ V₁) hP) hr

theorem Sim.reshape' {he : Ta.elt = T.elt} {hn : Ta.shape.ShapeCasts T.shape} (ha₁ : At a₁.ref a₁.ref.idx.val) (ha₂ : At a₂.ref a₁.ref.idx.val)
    (hy₁ : At y₁.ref n) (hy₂ : At y₂.ref n) (hi : a₁.ref.idx.val < n)
    (hr : Sim (n + 1) (fun V => P V ∧ rd V y₁ = fun i => he ▸ shapeCast T.shape (rd V a₁) hn i) r₁ r₂ n'' P'' k₁ k₂) :
    Sim n P (hlo rfl (TRef.reshape a₁ y₁ he hn) (fun _ => .ret (⟨⟩ : PUnit)) >>= fun _ => r₁)
      (hlo rfl (TRef.reshape a₂ y₂ he hn) (fun _ => .ret (⟨⟩ : PUnit)) >>= fun _ => r₂) n'' P'' k₁ k₂ :=
  Sim.op y₁ y₂ .reshape .reshape hy₁ hy₂
    (fun h => (h.mono (Nat.le_succ n)).and fun V V' hs e => by
      rw [← hs y₁ n hy₁ (Nat.lt_succ_self n), ← hs a₁ _ ha₁ (hi.trans (Nat.lt_succ_self n))]; exact e)
    (fun V₁ V₂ hA => by rw [rd_reshape, rd_reshape, hA a₁ a₂ _ ha₁ ha₂ hi])
    (fun V₁ hs hP => ⟨hs V₁ _ (Writes.reshape.same hy₁ V₁) hP, by
      rw [rd_reshape, Writes.rd_ne Writes.reshape V₁ (ha₁.ne hy₁ hi.ne)]⟩) hr

/-! The same for the lines of `main`, which name their buffers without a stated type: the two programs' types, and what
    the two operations compute, are the same by computation. -/

section Raw

theorem fun₁_of_heq {A A' B B' : Type} (hA : A = A') (hB : B = B') {f : A → B} {g : A' → B'} (h : HEq f g) :
    g = fun u => cast hB (f (cast hA.symm u)) := by
  subst hA hB
  exact (eq_of_heq h).symm

theorem fun₂_of_heq {A A' C C' B B' : Type} (hA : A = A') (hC : C = C') (hB : B = B') {f : A → C → B} {g : A' → C' → B'}
    (h : HEq f g) : g = fun u v => cast hB (f (cast hA.symm u) (cast hC.symm v)) := by
  subst hA hC hB
  exact (eq_of_heq h).symm

variable {x₁ z₁ u₁ : Ref sig₁ .tc} {x₂ z₂ u₂ : Ref sig₂ .tc}

theorem Sim.rawNullary {v₁ : u₁.ty.Contents Val} {v₂ : u₂.ty.Contents Val} {hu₁ hu₂} (eu : u₁.ty = u₂.ty) (hv : HEq v₁ v₂)
    (hy₁ : At u₁ n) (hy₂ : At u₂ n)
    (hr : Sim (n + 1) (fun V => P V ∧ V (Proc.devRef .tc u₁) = v₁) r₁ r₂ n'' P'' k₁ k₂) :
    Sim n P (hlo rfl (StableHlo.nullary u₁ v₁ hu₁) (fun _ => .ret (⟨⟩ : PUnit)) >>= fun _ => r₁)
      (hlo rfl (StableHlo.nullary u₂ v₂ hu₂) (fun _ => .ret (⟨⟩ : PUnit)) >>= fun _ => r₂) n'' P'' k₁ k₂ := by
  have e : v₂ = cast (congrArg (fun U : BufTy => U.Contents Val) eu) v₁ := by
    apply eq_of_heq
    exact hv.symm.trans (cast_heq _ _).symm
  subst e
  exact Sim.nullary' (y₁ := ⟨u₁, rfl, hu₁.1, hu₁.2⟩) (y₂ := ⟨u₂, eu.symm, hu₂.1, hu₂.2⟩) hy₁ hy₂ hr

theorem Sim.rawUnary {f₁ : x₁.ty.Contents Val → u₁.ty.Contents Val} {f₂ : x₂.ty.Contents Val → u₂.ty.Contents Val}
    {hx₁ hx₂ hu₁ hu₂} (ex : x₁.ty = x₂.ty) (eu : u₁.ty = u₂.ty) (hf : HEq f₁ f₂)
    (ha₁ : At x₁ x₁.idx.val) (ha₂ : At x₂ x₁.idx.val) (hy₁ : At u₁ n) (hy₂ : At u₂ n) (hi : x₁.idx.val < n)
    (hr : Sim (n + 1) (fun V => P V ∧ V (Proc.devRef .tc u₁) = f₁ (V (Proc.devRef .tc x₁))) r₁ r₂ n'' P'' k₁ k₂) :
    Sim n P (hlo rfl (StableHlo.unary x₁ u₁ f₁ hx₁ hu₁) (fun _ => .ret (⟨⟩ : PUnit)) >>= fun _ => r₁)
      (hlo rfl (StableHlo.unary x₂ u₂ f₂ hx₂ hu₂) (fun _ => .ret (⟨⟩ : PUnit)) >>= fun _ => r₂) n'' P'' k₁ k₂ := by
  have e := fun₁_of_heq (congrArg (fun U : BufTy => U.Contents Val) ex) (congrArg (fun U : BufTy => U.Contents Val) eu) hf
  subst e
  exact Sim.unary' (a₁ := ⟨x₁, rfl, hx₁.1, hx₁.2⟩) (a₂ := ⟨x₂, ex.symm, hx₂.1, hx₂.2⟩)
    (y₁ := ⟨u₁, rfl, hu₁.1, hu₁.2⟩) (y₂ := ⟨u₂, eu.symm, hu₂.1, hu₂.2⟩) ha₁ ha₂ hy₁ hy₂ hi hr

theorem Sim.rawBinary {f₁ : x₁.ty.Contents Val → z₁.ty.Contents Val → u₁.ty.Contents Val}
    {f₂ : x₂.ty.Contents Val → z₂.ty.Contents Val → u₂.ty.Contents Val}
    {hx₁ hx₂ hz₁ hz₂ hu₁ hu₂} (ex : x₁.ty = x₂.ty) (ez : z₁.ty = z₂.ty) (eu : u₁.ty = u₂.ty) (hf : HEq f₁ f₂)
    (ha₁ : At x₁ x₁.idx.val) (ha₂ : At x₂ x₁.idx.val) (hb₁ : At z₁ z₁.idx.val) (hb₂ : At z₂ z₁.idx.val) (hy₁ : At u₁ n) (hy₂ : At u₂ n) (hi : x₁.idx.val < n) (hj : z₁.idx.val < n)
    (hr : Sim (n + 1) (fun V => P V ∧ V (Proc.devRef .tc u₁) = f₁ (V (Proc.devRef .tc x₁)) (V (Proc.devRef .tc z₁)))
      r₁ r₂ n'' P'' k₁ k₂) :
    Sim n P (hlo rfl (StableHlo.binary x₁ z₁ u₁ f₁ hx₁ hz₁ hu₁) (fun _ => .ret (⟨⟩ : PUnit)) >>= fun _ => r₁)
      (hlo rfl (StableHlo.binary x₂ z₂ u₂ f₂ hx₂ hz₂ hu₂) (fun _ => .ret (⟨⟩ : PUnit)) >>= fun _ => r₂) n'' P'' k₁ k₂ := by
  have e := fun₂_of_heq (congrArg (fun U : BufTy => U.Contents Val) ex) (congrArg (fun U : BufTy => U.Contents Val) ez)
    (congrArg (fun U : BufTy => U.Contents Val) eu) hf
  subst e
  exact Sim.binary' (a₁ := ⟨x₁, rfl, hx₁.1, hx₁.2⟩) (a₂ := ⟨x₂, ex.symm, hx₂.1, hx₂.2⟩)
    (b₁ := ⟨z₁, rfl, hz₁.1, hz₁.2⟩) (b₂ := ⟨z₂, ez.symm, hz₂.1, hz₂.2⟩)
    (y₁ := ⟨u₁, rfl, hu₁.1, hu₁.2⟩) (y₂ := ⟨u₂, eu.symm, hu₂.1, hu₂.2⟩) ha₁ ha₂ hb₁ hb₂ hy₁ hy₂ hi hj hr

theorem Sim.rawReshape {he₁ : x₁.ty.elt = u₁.ty.elt} {he₂ : x₂.ty.elt = u₂.ty.elt} {hn₁ hn₂ hx₁ hx₂ hu₁ hu₂}
    (ex : x₁.ty = x₂.ty) (eu : u₁.ty = u₂.ty)
    (ha₁ : At x₁ x₁.idx.val) (ha₂ : At x₂ x₁.idx.val) (hy₁ : At u₁ n) (hy₂ : At u₂ n) (hi : x₁.idx.val < n)
    (hr : Sim (n + 1) (fun V => P V ∧ V (Proc.devRef .tc u₁) = fun i => he₁ ▸ shapeCast u₁.ty.shape (V (Proc.devRef .tc x₁)) hn₁ i)
      r₁ r₂ n'' P'' k₁ k₂) :
    Sim n P (hlo rfl (StableHlo.reshape x₁ u₁ he₁ hn₁ hx₁ hu₁) (fun _ => .ret (⟨⟩ : PUnit)) >>= fun _ => r₁)
      (hlo rfl (StableHlo.reshape x₂ u₂ he₂ hn₂ hx₂ hu₂) (fun _ => .ret (⟨⟩ : PUnit)) >>= fun _ => r₂) n'' P'' k₁ k₂ :=
  Sim.reshape' (a₁ := ⟨x₁, rfl, hx₁.1, hx₁.2⟩) (a₂ := ⟨x₂, ex.symm, hx₂.1, hx₂.2⟩)
    (y₁ := ⟨u₁, rfl, hu₁.1, hu₁.2⟩) (y₂ := ⟨u₂, eu.symm, hu₂.1, hu₂.2⟩) ha₁ ha₂ hy₁ hy₂ hi hr

end Raw

end Rules

end Cert.Proof.Sim

end
-- ==== Proof.Threefry.lean ====
/-
  The three runs of the random-bit generator (threefry) inside the row numbers' computation: the kernel's program and the
  reference's make them operation by operation alike, on buffers of the same numbers.
-/
module

public import proofs.«01_k».proof.Proof.Sim
public import proofs.«01_k».proof.Proof.Gen.KernelIdeal
public import proofs.«01_k».proof.Proof.Gen.ReferenceIdeal

@[expose] public section

set_option maxRecDepth 4000
set_option maxHeartbeats 8000000

noncomputable section

namespace Cert.Proof.Prefix

open Idealize.ShloMosaic Idealize.ShloMosaic.StableHlo Idealize.SL.Sem Cert.Proof.Sim

variable {F : FTy → Type} [FloatOps F]

/-- What is known of the kernel's buffers. -/
abbrev Pred (F : FTy → Type) : Type := Valuation KernelIdeal.τ KernelIdeal.sig (Elt F) → Prop

/-- The generator's run on the key, for the split. -/
theorem sim_threefry_split (P : Pred F) :
    Sim 44 P
      (KernelIdeal.fn_threefry2x32.body KernelIdeal.main_call0_call3.v1 KernelIdeal.main_call0_call3.v3
        KernelIdeal.main_call0_call3.v10 KernelIdeal.main_call0_call3.v9 KernelIdeal.main_call0_call3_call0)
      (ReferenceIdeal.fn_threefry2x32.body ReferenceIdeal.main_call0_call3.v1 ReferenceIdeal.main_call0_call3.v3
        ReferenceIdeal.main_call0_call3.v10 ReferenceIdeal.main_call0_call3.v9 ReferenceIdeal.main_call0_call3_call0)
      266 P (pure ⟨⟩) (pure ⟨⟩) := by
  unfold KernelIdeal.fn_threefry2x32.body ReferenceIdeal.fn_threefry2x32.body
  refine Sim.call (n' := 104) (P' := P) ?_ (Sim.call (n' := 164) (P' := P) ?_ (Sim.call (n' := 224) (P' := P) ?_ ?_))
  all_goals
    first
      | unfold KernelIdeal.fn_threefry2x32.body_part0 ReferenceIdeal.fn_threefry2x32.body_part0
      | unfold KernelIdeal.fn_threefry2x32.body_part1 ReferenceIdeal.fn_threefry2x32.body_part1
      | unfold KernelIdeal.fn_threefry2x32.body_part2 ReferenceIdeal.fn_threefry2x32.body_part2
      | unfold KernelIdeal.fn_threefry2x32.body_part3 ReferenceIdeal.fn_threefry2x32.body_part3
    repeat first
      | (with_reducible refine Sim.binary ?_ ?_ ?_ ?_ ?_ ?_ ?_ ?_ ?_
         iterate 6 exact ⟨rfl, rfl⟩
         iterate 2 exact Nat.le_of_ble_eq_true rfl)
      | (with_reducible refine Sim.unary ?_ ?_ ?_ ?_ ?_ ?_
         iterate 4 exact ⟨rfl, rfl⟩
         exact Nat.le_of_ble_eq_true rfl)
      | (with_reducible refine Sim.nullary ?_ ?_ ?_
         iterate 2 exact ⟨rfl, rfl⟩)
      | exact Sim.stop
      | refine Sim.last ?_

/-- The generator's run for the high words. -/
theorem sim_threefry_high (P : Pred F) :
    Sim 291 P
      (KernelIdeal.fn_threefry2x32_1.body KernelIdeal.main_call0.v14 KernelIdeal.main_call0.v16 KernelIdeal.main_call0.v27
        KernelIdeal.main_call0.v26 KernelIdeal.main_call0_call4)
      (ReferenceIdeal.fn_threefry2x32_1.body ReferenceIdeal.main_call0.v14 ReferenceIdeal.main_call0.v16
        ReferenceIdeal.main_call0.v27 ReferenceIdeal.main_call0.v26 ReferenceIdeal.main_call0_call4)
      513 P (pure ⟨⟩) (pure ⟨⟩) := by
  unfold KernelIdeal.fn_threefry2x32_1.body ReferenceIdeal.fn_threefry2x32_1.body
  refine Sim.call (n' := 351) (P' := P) ?_ (Sim.call (n' := 411) (P' := P) ?_ (Sim.call (n' := 471) (P' := P) ?_ ?_))
  all_goals
    first
      | unfold KernelIdeal.fn_threefry2x32_1.body_part0 ReferenceIdeal.fn_threefry2x32_1.body_part0
      | unfold KernelIdeal.fn_threefry2x32_1.body_part1 ReferenceIdeal.fn_threefry2x32_1.body_part1
      | unfold KernelIdeal.fn_threefry2x32_1.body_part2 ReferenceIdeal.fn_threefry2x32_1.body_part2
      | unfold KernelIdeal.fn_threefry2x32_1.body_part3 ReferenceIdeal.fn_threefry2x32_1.body_part3
    repeat first
      | (with_reducible refine Sim.binary ?_ ?_ ?_ ?_ ?_ ?_ ?_ ?_ ?_
         iterate 6 exact ⟨rfl, rfl⟩
         iterate 2 exact Nat.le_of_ble_eq_true rfl)
      | (with_reducible refine Sim.unary ?_ ?_ ?_ ?_ ?_ ?_
         iterate 4 exact ⟨rfl, rfl⟩
         exact Nat.le_of_ble_eq_true rfl)
      | (with_reducible refine Sim.nullary ?_ ?_ ?_
         iterate 2 exact ⟨rfl, rfl⟩)
      | exact Sim.stop
      | refine Sim.last ?_

/-- The generator's run for the low words. -/
theorem sim_threefry_low (P : Pred F) :
    Sim 532 P
      (KernelIdeal.fn_threefry2x32_1.body KernelIdeal.main_call0.v31 KernelIdeal.main_call0.v33 KernelIdeal.main_call0.v44
        KernelIdeal.main_call0.v43 KernelIdeal.main_call0_call5)
      (ReferenceIdeal.fn_threefry2x32_1.body ReferenceIdeal.main_call0.v31 ReferenceIdeal.main_call0.v33
        ReferenceIdeal.main_call0.v44 ReferenceIdeal.main_call0.v43 ReferenceIdeal.main_call0_call5)
      754 P (pure ⟨⟩) (pure ⟨⟩) := by
  unfold KernelIdeal.fn_threefry2x32_1.body ReferenceIdeal.fn_threefry2x32_1.body
  refine Sim.call (n' := 592) (P' := P) ?_ (Sim.call (n' := 652) (P' := P) ?_ (Sim.call (n' := 712) (P' := P) ?_ ?_))
  all_goals
    first
      | unfold KernelIdeal.fn_threefry2x32_1.body_part0 ReferenceIdeal.fn_threefry2x32_1.body_part0
      | unfold KernelIdeal.fn_threefry2x32_1.body_part1 ReferenceIdeal.fn_threefry2x32_1.body_part1
      | unfold KernelIdeal.fn_threefry2x32_1.body_part2 ReferenceIdeal.fn_threefry2x32_1.body_part2
      | unfold KernelIdeal.fn_threefry2x32_1.body_part3 ReferenceIdeal.fn_threefry2x32_1.body_part3
    repeat first
      | (with_reducible refine Sim.binary ?_ ?_ ?_ ?_ ?_ ?_ ?_ ?_ ?_
         iterate 6 exact ⟨rfl, rfl⟩
         iterate 2 exact Nat.le_of_ble_eq_true rfl)
      | (with_reducible refine Sim.unary ?_ ?_ ?_ ?_ ?_ ?_
         iterate 4 exact ⟨rfl, rfl⟩
         exact Nat.le_of_ble_eq_true rfl)
      | (with_reducible refine Sim.nullary ?_ ?_ ?_
         iterate 2 exact ⟨rfl, rfl⟩)
      | exact Sim.stop
      | refine Sim.last ?_

end Cert.Proof.Prefix

end
-- ==== Proof.Randint.lean ====
/-
  The random row offsets, in the kernel's program and in the reference's: the same operations on buffers of the same
  numbers, so the same contents. And their range: the offsets are remainders by 4097, as the clipped bounds 0 and 4097 give
  the span 4097 and no wider one.
-/
module

public import proofs.«01_k».proof.Proof.Threefry

@[expose] public section

set_option maxRecDepth 4000
set_option maxHeartbeats 8000000

noncomputable section

namespace Cert.Proof.Prefix

open Idealize.ShloMosaic Idealize.ShloMosaic.StableHlo Idealize.SL.Sem Cert.Proof.Sim

variable {F : FTy → Type} [FloatOps F]

/-- The split of the key in two. -/
theorem sim_split (P : Pred F) :
    Sim 31 P
      (KernelIdeal.fn_threefry_split.body (.of KernelIdeal.main_v6) KernelIdeal.main_call0_call3)
      (ReferenceIdeal.fn_threefry_split.body (.of ReferenceIdeal.main_v6) ReferenceIdeal.main_call0_call3)
      269 P (pure ⟨⟩) (pure ⟨⟩) := by
  unfold KernelIdeal.fn_threefry_split.body ReferenceIdeal.fn_threefry_split.body
  repeat first
    | (with_reducible refine Sim.binary ?_ ?_ ?_ ?_ ?_ ?_ ?_ ?_ ?_
       iterate 6 exact ⟨rfl, rfl⟩
       iterate 2 exact Nat.le_of_ble_eq_true rfl)
    | (with_reducible refine Sim.unary ?_ ?_ ?_ ?_ ?_ ?_
       iterate 4 exact ⟨rfl, rfl⟩
       exact Nat.le_of_ble_eq_true rfl)
    | (with_reducible refine Sim.reshape ?_ ?_ ?_ ?_ ?_ ?_
       iterate 4 exact ⟨rfl, rfl⟩
       exact Nat.le_of_ble_eq_true rfl)
    | (with_reducible refine Sim.nullary ?_ ?_ ?_
       iterate 2 exact ⟨rfl, rfl⟩)
    | exact Sim.stop
    | refine Sim.call (sim_threefry_split P) ?_

/-! ## The bounds -/

/-- Before the offsets: the bounds are 0 and 4097. -/
def Bounds (Q : Pred F) : Pred F := fun V =>
  (Q V ∧ rd V (.of KernelIdeal.main_c_2 : TRef KernelIdeal.sig ⟨KernelIdeal.S_, .i32⟩) = constantI KernelIdeal.S_ 32 0#32)
    ∧ rd V (.of KernelIdeal.main_c_3 : TRef KernelIdeal.sig ⟨KernelIdeal.S_, .i32⟩) = constantI KernelIdeal.S_ 32 4097#32

/-- The bounds clipped to 32 bits are the bounds, and the upper is not the largest word. -/
def Clipped (Q : Pred F) : Pred F := fun V =>
  ((Q V ∧ rd V KernelIdeal.main_call0.v1 = fun _ => 0#1) ∧ rd V KernelIdeal.main_call0.v6 = fun _ => 0#32)
    ∧ rd V KernelIdeal.main_call0.v7 = fun _ => 4097#32

theorem Clipped.stable {Q : Pred F} (hQ : Stable 1 Q) : Stable 31 (Clipped Q) :=
  (((hQ.mono (n' := 31) (by decide)).and
    (Stable.rd (n := 31) (k := 18) (x := KernelIdeal.main_call0.v1) ⟨rfl, rfl⟩ (by decide)
      fun w : BufTy.Contents (Elt F) ⟨KernelIdeal.S_, .i1⟩ => w = fun _ => 0#1)).and
    (Stable.rd (n := 31) (k := 29) (x := KernelIdeal.main_call0.v6) ⟨rfl, rfl⟩ (by decide)
      fun w : BufTy.Contents (Elt F) ⟨KernelIdeal.S1x1, .i32⟩ => w = fun _ => 0#32)).and
    (Stable.rd (n := 31) (k := 30) (x := KernelIdeal.main_call0.v7) ⟨rfl, rfl⟩ (by decide)
      fun w : BufTy.Contents (Elt F) ⟨KernelIdeal.S1x1, .i32⟩ => w = fun _ => 4097#32)

/-! What the clipped bounds are, word by word. -/

theorem top_word : IntOp.cmpi .sgt 4097#32 (IntOp.minsi 2147483647#32 (IntOp.maxsi 2147483648#32 2147483647#32)) = 0#1 := by
  decide

theorem low_word : IntOp.minsi 2147483647#32 (IntOp.maxsi 2147483648#32 0#32) = 0#32 := by decide

theorem high_word : IntOp.minsi 2147483647#32 (IntOp.maxsi 2147483648#32 4097#32) = 4097#32 := by decide

/-- A clipped constant spread over the one-element shape is the clipped word. -/
theorem clipped_const (h : KernelIdeal.S_.BroadcastsInDim KernelIdeal.S1x1 ![]) (a b c : BitVec 32) :
    broadcastInDim KernelIdeal.S1x1 ![] h
      (id (minsi (constantI KernelIdeal.S_ 32 a) (maxsi (constantI KernelIdeal.S_ 32 b) (constantI KernelIdeal.S_ 32 c))))
      = fun _ => IntOp.minsi a (IntOp.maxsi b c) := rfl

/-- The span: the bounds' difference, neither correction taken. -/
theorem span_word (x : BitVec 1) (a b : BitVec 32) :
    Scalar.select (IntOp.andi 0#1 x) a (Scalar.select (IntOp.cmpi .sle 4097#32 0#32) b (IntOp.subi 4097#32 0#32)) = 4097#32 := by
  rw [IntOp.andi, BitVec.zero_and]
  rfl

/-- A remainder by 4097, added to zero, is below 4097. -/
theorem offset_word (x : BitVec 32) : (IntOp.addi 0#32 (IntOp.remui .host x 4097#32)).toNat < 4097 := by
  rw [IntOp.addi, BitVec.zero_add, IntOp.remui, if_neg (by decide), BitVec.toNat_umod]
  exact Nat.mod_lt _ (by decide)

/-- The first part: the bounds clipped, the keys split, the two words of random bits. -/
theorem sim_randint0 (Q : Pred F) (hQ : Stable 1 Q) :
    Sim 13 (Bounds Q)
      (KernelIdeal.fn_randint.body_part0 (.of KernelIdeal.main_v6) (.of KernelIdeal.main_c_2) (.of KernelIdeal.main_c_3)
        KernelIdeal.main_call0)
      (ReferenceIdeal.fn_randint.body_part0 (.of ReferenceIdeal.main_v6) (.of ReferenceIdeal.main_c_2)
        (.of ReferenceIdeal.main_c_3) ReferenceIdeal.main_call0)
      755 (Clipped Q) (pure ⟨⟩) (pure ⟨⟩) := by
  unfold KernelIdeal.fn_randint.body_part0 ReferenceIdeal.fn_randint.body_part0 KernelIdeal.fn_clip.body
    ReferenceIdeal.fn_clip.body KernelIdeal.fn_clip_0.body ReferenceIdeal.fn_clip_0.body
  simp only [bind_assoc, pure_bind]
  iterate 18 first
    | (with_reducible refine Sim.binary' ?_ ?_ ?_ ?_ ?_ ?_ ?_ ?_ ?_
       iterate 6 exact ⟨rfl, rfl⟩
       iterate 2 exact Nat.le_of_ble_eq_true rfl)
    | (with_reducible refine Sim.unary' ?_ ?_ ?_ ?_ ?_ ?_
       iterate 4 exact ⟨rfl, rfl⟩
       exact Nat.le_of_ble_eq_true rfl)
    | (with_reducible refine Sim.nullary' ?_ ?_ ?_
       iterate 2 exact ⟨rfl, rfl⟩)
  refine Sim.weaken (Clipped Q) (Clipped.stable hQ) ?_ ?_
  · rintro V ⟨⟨⟨⟨⟨⟨⟨⟨⟨⟨⟨⟨⟨⟨⟨⟨⟨⟨⟨⟨hq, hlo⟩, hhi⟩, h1⟩, h2⟩, h3⟩, h4⟩, h5⟩, h6⟩, h7⟩, h8⟩, h9⟩, h10⟩, h11⟩, h12⟩, h13⟩, h14⟩, h15⟩, h16⟩, h17⟩, h18⟩
    refine ⟨⟨⟨hq, h6.trans ?_⟩, h17.trans ?_⟩, h18.trans ?_⟩
    · rw [hhi, h5, h4, h3, h2, h1]
      exact funext fun _ => top_word
    · rw [h11, h10, h9, h8, h7, hlo]
      exact (clipped_const _ _ _ _).trans (congrArg (fun w _ => w) low_word)
    · rw [h16, h15, h14, h13, h12, hhi]
      exact (clipped_const _ _ _ _).trans (congrArg (fun w _ => w) high_word)
  repeat first
    | (with_reducible refine Sim.binary ?_ ?_ ?_ ?_ ?_ ?_ ?_ ?_ ?_
       iterate 6 exact ⟨rfl, rfl⟩
       iterate 2 exact Nat.le_of_ble_eq_true rfl)
    | (with_reducible refine Sim.unary ?_ ?_ ?_ ?_ ?_ ?_
       iterate 4 exact ⟨rfl, rfl⟩
       exact Nat.le_of_ble_eq_true rfl)
    | (with_reducible refine Sim.reshape ?_ ?_ ?_ ?_ ?_ ?_
       iterate 4 exact ⟨rfl, rfl⟩
       exact Nat.le_of_ble_eq_true rfl)
    | (with_reducible refine Sim.nullary ?_ ?_ ?_
       iterate 2 exact ⟨rfl, rfl⟩)
    | exact Sim.stop
    | refine Sim.call (sim_split _) ?_
    | refine Sim.call (sim_threefry_high _) ?_
    | refine Sim.call (sim_threefry_low _) ?_
    | refine Sim.last ?_

/-! ## The offsets -/

/-- The offsets are below 4097. -/
def Offsets (Q : Pred F) : Pred F := fun V =>
  Q V ∧ ∀ j, (rd V (.of KernelIdeal.main_v7 : TRef KernelIdeal.sig ⟨KernelIdeal.S4x4095, .i32⟩) j : BitVec 32).toNat < 4097

theorem Offsets.stable {Q : Pred F} (hQ : Stable 1 Q) : Stable 785 (Offsets Q) :=
  (hQ.mono (n' := 785) (by decide)).and
    (Stable.rd (n := 785) (k := 784)
      (x := (.of KernelIdeal.main_v7 : TRef KernelIdeal.sig ⟨KernelIdeal.S4x4095, .i32⟩)) ⟨rfl, rfl⟩ (by decide)
      fun w : BufTy.Contents (Elt F) ⟨KernelIdeal.S4x4095, .i32⟩ => ∀ j, (w j : BitVec 32).toNat < 4097)

/-- The second part: the span, the random bits reduced by it, the lower bound added. -/
theorem sim_randint1 (Q : Pred F) (hQ : Stable 1 Q) :
    Sim 755 (Clipped Q)
      (KernelIdeal.fn_randint.body_part1 (.of KernelIdeal.main_v6) (.of KernelIdeal.main_c_2) (.of KernelIdeal.main_c_3)
        KernelIdeal.main_call0)
      (ReferenceIdeal.fn_randint.body_part1 (.of ReferenceIdeal.main_v6) (.of ReferenceIdeal.main_c_2)
        (.of ReferenceIdeal.main_c_3) ReferenceIdeal.main_call0)
      785 (Offsets Q) (pure ⟨⟩) (pure ⟨⟩) := by
  unfold KernelIdeal.fn_randint.body_part1 ReferenceIdeal.fn_randint.body_part1
  iterate 30 first
    | (with_reducible refine Sim.binary' ?_ ?_ ?_ ?_ ?_ ?_ ?_ ?_ ?_
       iterate 6 exact ⟨rfl, rfl⟩
       iterate 2 exact Nat.le_of_ble_eq_true rfl)
    | (with_reducible refine Sim.unary' ?_ ?_ ?_ ?_ ?_ ?_
       iterate 4 exact ⟨rfl, rfl⟩
       exact Nat.le_of_ble_eq_true rfl)
    | (with_reducible refine Sim.ternary' ?_ ?_ ?_ ?_ ?_ ?_ ?_ ?_ ?_ ?_ ?_ ?_
       iterate 8 exact ⟨rfl, rfl⟩
       iterate 3 exact Nat.le_of_ble_eq_true rfl)
    | (with_reducible refine Sim.nullary' ?_ ?_ ?_
       iterate 2 exact ⟨rfl, rfl⟩)
  refine Sim.weaken (Offsets Q) (Offsets.stable hQ) ?_ Sim.stop
  rintro V ⟨⟨⟨⟨⟨⟨⟨⟨⟨⟨⟨⟨⟨⟨⟨⟨⟨⟨⟨⟨⟨⟨⟨⟨⟨⟨⟨⟨⟨⟨⟨⟨⟨hq, hv1⟩, hv6⟩, hv7⟩, h47⟩, h48⟩, h49⟩, hc12⟩, h50⟩, h51⟩, h52⟩, h53⟩, h54⟩, hc13⟩, h55⟩, h56⟩, h57⟩, -⟩, -⟩, -⟩, -⟩, -⟩, -⟩, -⟩, -⟩, -⟩, -⟩, -⟩, -⟩, h69⟩, h70⟩, h71⟩, h72⟩, h73⟩
  have span : rd V KernelIdeal.main_call0.v57 = fun _ => 4097#32 := by
    rw [h57, h54, h53, hv1, h51, h49, h48, h47, hv7, hv6]
    exact funext fun _ => span_word _ _ _
  refine ⟨hq, fun j => ?_⟩
  have e : rd V (.of KernelIdeal.main_v7 : TRef KernelIdeal.sig ⟨KernelIdeal.S4x4095, .i32⟩)
      = addi (fun _ => 0#32) (Host.remui (rd V KernelIdeal.main_call0.v68) fun _ => 4097#32) := by
    refine h73.trans ?_
    rw [h72, h71, h70, h69, span, hv6]
    rfl
  rw [e]
  exact offset_word _

theorem sim_randint (Q : Pred F) (hQ : Stable 1 Q) :
    Sim 13 (Bounds Q)
      (KernelIdeal.fn_randint.body (.of KernelIdeal.main_v6) (.of KernelIdeal.main_c_2) (.of KernelIdeal.main_c_3)
        KernelIdeal.main_call0)
      (ReferenceIdeal.fn_randint.body (.of ReferenceIdeal.main_v6) (.of ReferenceIdeal.main_c_2)
        (.of ReferenceIdeal.main_c_3) ReferenceIdeal.main_call0)
      785 (Offsets Q) (pure ⟨⟩) (pure ⟨⟩) := by
  unfold KernelIdeal.fn_randint.body ReferenceIdeal.fn_randint.body
  exact Sim.call (sim_randint0 Q hQ) (sim_randint1 Q hQ)

end Cert.Proof.Prefix

end
-- ==== Proof.Setup.lean ====
/-
  The launch as the proof sees it: the SparseCore configuration, the ghost state, the three HBM buffers the kernel names
  (the table of row pieces, the lists of piece numbers, the result), and what the result holds when all the pieces have
  been copied (`gathered`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise
public import Idealize.ShloMosaic.Lib.Tactic
public import proofs.«01_k».proof.Proof.Gen.KernelIdeal
public import proofs.«01_k».proof.Proof.Gen.KernelIdeal.Skeleton

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The configuration -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by
      intro b c h
      obtain ⟨tb, i⟩ := b
      cases tb <;> first | rfl | (nomatch h),
    fun _ => rfl⟩

/-! ## The ghost state: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The table of row pieces, the lists of piece numbers, the result, as the TensorCore names them. -/
abbrev tLoc (d : Dev nD) : Loc nD τ sig := (SparseCore.T d).loc main_v34
abbrev iLoc (d : Dev nD) : Loc nD τ sig := (SparseCore.T d).loc main_v33
abbrev oLoc (d : Dev nD) : Loc nD τ sig := (SparseCore.T d).loc main_v35

/-- The same as a tile names them, and the tile's two scratch buffers. -/
abbrev tV : Memref sig .scVector .hbm S131072x2x128 .f32 := Memref.whole main_v34_scv
abbrev iV : Memref sig .scVector .hbm S32x32x64 .i32 := Memref.whole main_v33_scv
abbrev oV : Memref sig .scVector .hbm S65536x2x128 .f32 := Memref.whole main_v35_scv
abbrev lV : Memref sig .scVector .vmem S32x64 .i32 := Memref.whole cc0_scratch0
abbrev rV : Memref sig .scVector .vmem S4x64x2x128 .f32 := Memref.whole cc0_scratch1

/-- The tile of a pair of grid coordinates. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- A tile's number, `2 · subcore + core`, and the first piece of the result it writes. -/
abbrev wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-! ## What the result holds -/

/-- The result's piece `r` is the table's piece of the number that list `r / 2048`, row `r / 64 % 32`, entry `r % 64` holds. -/
def gathered (tbl : S131072x2x128.Idx → Elt F .f32) (ls : S32x32x64.Idx → BitVec 32) : S65536x2x128.Idx → Elt F .f32 := fun x =>
  tbl (ix3 (n0 := 131072) (n1 := 2) (n2 := 128)
    ⟨(ls (ix3 (n0 := 32) (n1 := 32) (n2 := 64)
        ⟨(x 0).val / 2048, by have : (x 0).val < 65536 := (x 0).isLt; omega⟩
        ⟨(x 0).val / 64 % 32, by omega⟩ ⟨(x 0).val % 64, by omega⟩)).toNat % 131072, by omega⟩ (x 1) (x 2))

/-- The pieces `lo ≤ r < hi` of the result. -/
def pieces (lo hi : ℕ) : Finset S65536x2x128.Idx := Finset.univ.filter fun x => lo ≤ (x 0).val ∧ (x 0).val < hi

theorem mem_pieces {lo hi : ℕ} {x : S65536x2x128.Idx} : x ∈ pieces lo hi ↔ lo ≤ (x 0).val ∧ (x 0).val < hi := by
  simp [pieces]

/-- Those pieces of the result, held in full at the contents `f`. -/
abbrev oPts (d : Dev nD) (lo hi : ℕ) (f : Buf (Elt F) (oLoc d)) : sProp 𝕄 := oLoc d ↦[pieces lo hi]{fullShare} f

theorem oPts_split (d : Dev nD) {a b c : ℕ} (hab : a ≤ b) (hbc : b ≤ c) (f : Buf (Elt F) (oLoc d)) :
    (oPts d a c f : sProp 𝕄) ⊣⊢ iprop(oPts d a b f ∗ oPts d b c f) := by
  have hu : pieces a c = pieces a b ∪ pieces b c := by
    ext x; simp only [mem_pieces, Finset.mem_union]; omega
  have hd : Disjoint (pieces a b) (pieces b c) := by
    rw [Finset.disjoint_left]; intro x; simp only [mem_pieces]; omega
  unfold oPts
  rw [hu]
  exact pointsTo_union hd

theorem oPts_empty (d : Dev nD) (a : ℕ) (f : Buf (Elt F) (oLoc d)) : (oPts d a a f : sProp 𝕄) = iprop(emp) := by
  have : pieces a a = ∅ := by ext x; simp [mem_pieces]
  unfold oPts
  rw [this, pointsTo_empty]

end Cert.Proof.Launch

end
-- ==== Proof.Steps.lean ====
/-
  One slot of a tile's ring: 64 pieces of [2, 128], two semaphores, and the slot's own read shares of the table and of
  the tile's lists. A slot is idle, being filled by an indirect gather, filled, or being written out; the four steps
  that the tile takes on a slot are proved once, whatever the slot and the chunk.
-/
module

public import proofs.«01_k».proof.Proof.Setup

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The memory a tile addresses -/

/-- All of the table, as the gathers name it. -/
abbrev tAll : Memref sig .scVector .hbm S131072x2x128 .f32 :=
  tV.slice (Rect.unit (s := S131072x2x128) ![0, 0, 0] S131072x2x128.size inb_S131072x2x128_S131072x2x128_0_0_0) (fun _ => rfl)

/-- 64 pieces of the result at an offset. -/
abbrev oChunk (off : Fin 3 → ℕ) (inb : ∀ a, off a + S64x2x128.size a ≤ S65536x2x128.size a) :
    Memref sig .scVector .hbm S64x2x128 .f32 :=
  oV.slice (Rect.unit (s := S65536x2x128) off S64x2x128.size inb) (fun _ => rfl)

/-- A row of the tile's lists. -/
abbrev lRow (off : Fin 2 → ℕ) (inb : ∀ a, off a + S1x64.size a ≤ S32x64.size a) : Memref sig .scVector .vmem S64 .i32 :=
  (lV.slice (Rect.unit (s := S32x64) off S1x64.size inb) (fun _ => rfl)).squeeze S64 squeezes_S1x64_S64

/-- A slot of the ring with its semaphores and its shares. -/
structure Slot where
  /-- the slot's memory -/
  mem : Memref sig .scVector .vmem S64x2x128 .f32
  /-- the semaphore of the gathers into it -/
  gs : DmaSem sig
  /-- the semaphore of the copies out of it -/
  ws : DmaSem sig
  /-- its share of the table -/
  qt : PosShare TreeShare
  /-- its share of the tile's lists -/
  ql : PosShare TreeShare

/-- The pieces `lo … lo + 63` of a result. -/
def chunk (G : S65536x2x128.Idx → Elt F .f32) (lo : ℕ) : S64x2x128.Idx → Elt F .f32 := fun x =>
  G (ix3 (n0 := 65536) (n1 := 2) (n2 := 128) ⟨(lo + (x 0).val) % 65536, Nat.mod_lt _ (by decide)⟩ (x 1) (x 2))

section Steps

variable [FloatOps F] (d : Dev nD) (L : grid0.Coords)
variable (tbl : S131072x2x128.Idx → Elt F .f32) (fl : S32x64.Idx → BitVec 32) (G : S65536x2x128.Idx → Elt F .f32)

abbrev memAny (s : Slot) : sProp 𝕄 := iprop(∃ f, s.mem.view.loc (thr d L) ↦[s.mem.view.set]{fullShare} f)
abbrev memAt (s : Slot) (w : S64x2x128.Idx → Elt F .f32) : sProp 𝕄 :=
  iprop(∃ f, ⌜s.mem.view.read (Elt F) f = w⌝ ∗ s.mem.view.loc (thr d L) ↦[s.mem.view.set]{fullShare} f)
abbrev tPts (q : PosShare TreeShare) : sProp 𝕄 := tV.view.loc (thr d L) ↦{q} tbl
abbrev lPts (q : PosShare TreeShare) : sProp 𝕄 := lV.view.loc (thr d L) ↦{q} fl
abbrev sem0 (g : DmaSem sig) : sProp 𝕄 := semVal (thr d L, SemLoc.dma g) 0

/-- What a copy out of a slot counts. -/
abbrev outCredit : ℕ := main_v35_scv.dmaCredit S64x2x128 .f32

/-- Nothing under way. -/
def Idle (s : Slot) : sProp 𝕄 :=
  iprop(memAny d L s ∗ tPts d L tbl s.qt ∗ lPts d L fl s.ql ∗ sem0 d L s.gs ∗ sem0 d L s.ws)
/-- Being filled with the pieces `lo …` of the result. -/
def Filling (s : Slot) (lo : ℕ) : sProp 𝕄 :=
  iprop((∃ A R : sProp 𝕄, ⌜iprop(A ∗ R) ⊢ iprop(memAt d L s (chunk G lo) ∗ tPts d L tbl s.qt ∗ lPts d L fl s.ql)⌝
      ∗ Transfers.Flight countersEmb (thr d L) (.dma s.gs) (default : HIx 1) s.mem.view.dmaCredit A ∗ R) ∗ sem0 d L s.ws)
/-- Filled with them. -/
def Filled (s : Slot) (lo : ℕ) : sProp 𝕄 :=
  iprop(memAt d L s (chunk G lo) ∗ tPts d L tbl s.qt ∗ lPts d L fl s.ql ∗ sem0 d L s.gs ∗ sem0 d L s.ws)
/-- Being written out as them. -/
def Draining (s : Slot) (lo : ℕ) : sProp 𝕄 :=
  iprop((∃ A : sProp 𝕄, ⌜A ⊢ iprop(oPts d lo (lo + 64) G ∗ memAny d L s)⌝
      ∗ Transfers.Flight countersEmb (thr d L) (.dma s.ws) (default : HIx 1) outCredit A)
    ∗ tPts d L tbl s.qt ∗ lPts d L fl s.ql ∗ sem0 d L s.gs)

/-- What the tile owes, its waits recorded. -/
abbrev Owes (O : CellTallies nD τ sig (HIx 1)) (W : Waits sig (HIx 1)) : sProp 𝕄 :=
  iprop(∃ W', ⌜∀ p ∈ W', p ∈ W ∨ p.2 = none⌝ ∗ owes (thr d L) O W')

variable (s : Slot) (lo : ℕ) (O : CellTallies nD τ sig (HIx 1)) (W : Waits sig (HIx 1))

/-- A slot's gather is waited for. -/
theorem fill_wait (Q : PUnit.{1} → sProp 𝕄) {m : Memref sig .scVector .vmem S64x2x128 .f32} {g : DmaSem sig} {h1 h2} (hm : m = s.mem) (hg : g = s.gs) :
    iprop(Transfers.MayWaits (thr d L) (default : HIx 1) O ∗ Filling d L tbl fl G s lo ∗ Owes d L O W)
      ⊢ iprop((iprop(Filled d L tbl fl G s lo ∗ Owes d L O W) -∗ Q ⟨⟩)
          -∗ wp frame (wpE (defs₀ (F := F)) 𝒱₀ (thr d L) none) Set.univ (SparseCore.waitIndirectGather g tAll m h1 h2) Q) := by
  subst hm hg
  unfold Filling Filled
  iintro ⟨Hmw, ⟨⟨%A, %R, %hA, Hfl, HR⟩, Hws⟩, ⟨%W', %hW', HO⟩⟩ Hk
  iapply (Transfers.wp_waitLocalO countersEmb 𝒱₀ (thr d L) none (default : HIx 1) (rfl : s.mem.view.dmaCredit = _)) $$ [Hfl HO Hmw]
  · isplitl [Hfl]; · iexact Hfl
    isplitl [HO]; · iexact HO
    iapply (Transfers.MayWaits.elim (SemLoc.dma s.gs)) $$ Hmw
  iintro ⟨HA, Hgs, HO⟩
  rw [wp_ret]
  imodintro
  iapply Hk
  ihave H := hA $$ [HA HR]; · isplitl [HA] <;> iassumption
  icases H with ⟨Hm, Ht, Hl⟩
  isplitr [HO]
  · isplitl [Hm]; · iexact Hm
    isplitl [Ht]; · iexact Ht
    isplitl [Hl]; · iexact Hl
    isplitl [Hgs] <;> iassumption
  iexists _; isplitr
  swap; · iexact HO
  ipureintro; intro p hp
  rcases Finset.mem_insert.mp hp with hp | hp
  · exact .inr (hp ▸ rfl)
  · exact hW' p hp

/-- A slot's copy out is waited for. -/
theorem drain_wait (Q : PUnit.{1} → sProp 𝕄) {m : Memref sig .scVector .vmem S64x2x128 .f32} {off : Fin 3 → ℕ} {inb} {g : DmaSem sig} {h1 h2} (hg : g = s.ws) :
    iprop(Transfers.MayWaits (thr d L) (default : HIx 1) O ∗ Draining d L tbl fl G s lo ∗ Owes d L O W)
      ⊢ iprop((iprop(oPts d lo (lo + 64) G ∗ Idle d L tbl fl s ∗ Owes d L O W) -∗ Q ⟨⟩)
          -∗ wp frame (wpE (defs₀ (F := F)) 𝒱₀ (thr d L) none) Set.univ
              (Prog.lift (.waitDma2 g m (oChunk off inb) h1 h2)) Q) := by
  subst hg
  unfold Draining Idle
  iintro ⟨Hmw, ⟨⟨%A, %hA, Hfl⟩, Ht, Hl, Hgs⟩, ⟨%W', %hW', HO⟩⟩ Hk
  iapply (Transfers.wp_waitLocalO countersEmb 𝒱₀ (thr d L) none (default : HIx 1) (rfl : (oChunk off inb).view.dmaCredit = _)) $$ [Hfl HO Hmw]
  · isplitl [Hfl]; · iexact Hfl
    isplitl [HO]; · iexact HO
    iapply (Transfers.MayWaits.elim (SemLoc.dma s.ws)) $$ Hmw
  iintro ⟨HA, Hws, HO⟩
  rw [wp_ret]
  imodintro
  iapply Hk
  ihave H := hA $$ HA
  icases H with ⟨Ho, Hm⟩
  isplitl [Ho]; · iexact Ho
  isplitr [HO]
  · isplitl [Hm]; · iexact Hm
    isplitl [Ht]; · iexact Ht
    isplitl [Hl]; · iexact Hl
    isplitl [Hgs] <;> iassumption
  iexists _; isplitr
  swap; · iexact HO
  ipureintro; intro p hp
  rcases Finset.mem_insert.mp hp with hp | hp
  · exact .inr (hp ▸ rfl)
  · exact hW' p hp

/-- 64 pieces of the result at `off` are the pieces from `off`'s first coordinate on. -/
theorem set_oChunk {off : Fin 3 → ℕ} {inb} {lo : ℕ} (hoff : off = ![lo, 0, 0]) :
    (oChunk off inb).view.set = pieces lo (lo + 64) := by
  subst hoff
  rw [show (oChunk ![lo, 0, 0] inb).view.set = (Rect.unit (s := S65536x2x128) ![lo, 0, 0] S64x2x128.size inb).set from
    View.set_slice_whole _ _]
  ext x
  rw [Rect.mem_set_unit, mem_pieces]
  constructor
  · intro h; exact h 0
  · intro h a
    match a with
    | 0 => exact h
    | 1 => exact ⟨Nat.zero_le _, by have : (x 1).val < 2 := (x 1).isLt; simpa using this⟩
    | 2 => exact ⟨Nat.zero_le _, by have : (x 2).val < 128 := (x 2).isLt; simpa using this⟩

/-- What those pieces of a result are. -/
theorem read_oChunk {off : Fin 3 → ℕ} {inb} {lo : ℕ} (hoff : off = ![lo, 0, 0]) (hlo : lo + 64 ≤ 65536) :
    (oChunk off inb).view.read (Elt F) G = chunk G lo := by
  subst hoff
  funext x
  rw [View.read_apply, cast_eq]
  unfold chunk
  congr 1
  funext a
  have hx : (x 0).val < 64 := (x 0).isLt
  match a with
  | 0 => exact Fin.ext (by show lo + 1 * (x 0).val = (lo + (x 0).val) % 65536; omega)
  | 1 => exact Fin.ext (by show 0 + 1 * (x 1).val = (x 1).val; omega)
  | 2 => exact Fin.ext (by show 0 + 1 * (x 2).val = (x 2).val; omega)

/-- A filled slot's copy out is started. -/
theorem drain_start (Q : PUnit.{1} → sProp 𝕄) (f : Buf (Elt F) (oLoc d)) {m : Memref sig .scVector .vmem S64x2x128 .f32}
    {off : Fin 3 → ℕ} {inb} {g : DmaSem sig} {h1 h2 h3} (hm : m = s.mem) (hg : g = s.ws) (hoff : off = ![lo, 0, 0]) (hlo : lo + 64 ≤ 65536) :
    iprop(Filled d L tbl fl G s lo ∗ oPts d lo (lo + 64) f)
      ⊢ iprop((Draining d L tbl fl G s lo -∗ Q ⟨⟩)
          -∗ wp frame (wpE (defs₀ (F := F)) 𝒱₀ (thr d L) none) Set.univ
              (Prog.lift (.enqueueDma m (.here (oChunk off inb)) (.dma g) h1 h2 h3)) Q) := by
  subst hm hg
  unfold Filled Draining
  iintro ⟨⟨⟨%w, %hw, Hm⟩, Ht, Hl, Hgs, Hws⟩, Ho⟩ Hk
  ihave Ho' := (Entails.of_eq (show (oPts d lo (lo + 64) f : sProp 𝕄)
      = (oChunk off inb).view.loc (thr d L) ↦[(oChunk off inb).view.set]{fullShare} f by rw [set_oChunk hoff])) $$ Ho
  iapply (Transfers.wp_dmaLocal countersEmb 𝒱₀ (thr d L) none (default : HIx 1) outCredit
      (show (oChunk off inb).view.amount (.dma s.ws) = outCredit from rfl) (by decide) (Finset.Subset.refl _)) $$ [Hm Ho' Hws]
  · isplitl [Hm]; · iexact Hm
    isplitl [Ho']; · iexact Ho'
    iexact Hws
  iintro Hfl
  rw [wp_ret]
  imodintro
  iapply Hk
  isplitl [Hfl]
  · iexists _
    isplitr
    swap; · iexact Hfl
    ipureintro
    refine sep_mono (Entails.of_eq ?_) ?_
    · rw [show ∀ u, (ReadAs.same : ReadAs (Elt F) S64x2x128 .f32 S64x2x128 .f32).apply u = u from fun _ => rfl, hw, ← read_oChunk (inb := inb) G hoff hlo, View.write_read_eq_piecewise]
      unfold oPts
      rw [← set_oChunk (inb := inb) hoff]
      exact pointsTo_congr fun i hi => Finset.piecewise_eq_of_mem _ _ _ hi
    · iintro H; iexists _; iexact H
  isplitl [Ht]; · iexact Ht
  isplitl [Hl] <;> iassumption

/-- A row of the lists, entry by entry. -/
theorem read_lRow {off : Fin 2 → ℕ} {inb} {c : Fin 32} (hoff : off = ![c.val, 0]) (x : S64.Idx) :
    (lRow off inb).view.read (Elt F) fl x = fl (ix2 (n0 := 32) (n1 := 64) c (x 0)) := by
  subst hoff
  rw [View.read_apply, cast_eq]
  congr 1
  have hr : Shape.reshapeEquiv (s := S1x64) (s' := S64) squeezes_S1x64_S64.numel_eq x = ix2 (n0 := 1) (n1 := 64) 0 (x 0) :=
    Shape.reshapeEquiv_eq_of_rowMajor _ (by
      rw [Shape.rowMajor_val_one, Shape.rowMajor_val_two]
      show 0 * 64 + (x 0).val = (x 0).val
      omega)
  funext a
  have he : ∀ a, ((lRow ![c.val, 0] inb).view.emb x a).val
      = (![c.val, 0] : Fin 2 → ℕ) a + 1 * (Shape.reshapeEquiv (s := S1x64) (s' := S64) squeezes_S1x64_S64.numel_eq x a).val := fun _ => rfl
  refine Fin.ext ((he a).trans ?_)
  rw [hr]
  match a with
  | 0 => show c.val + 1 * 0 = c.val; omega
  | 1 => show 0 + 1 * (x 0).val = (x 0).val; omega

/-- All of the table reads as the table. -/
theorem read_tAll : tAll.view.read (Elt F) tbl = tbl := by
  funext x
  rw [View.read_apply, cast_eq]
  congr 1
  funext a
  refine Fin.ext ?_
  match a with
  | 0 => show 0 + 1 * (x 0).val = (x 0).val; omega
  | 1 => show 0 + 1 * (x 1).val = (x 1).val; omega
  | 2 => show 0 + 1 * (x 2).val = (x 2).val; omega

/-- The source index of a gathered element: its own coordinates, but the named piece on the first axis. -/
theorem gather_idx (r : Fin 64 → Fin 131072) (x : S64x2x128.Idx) :
    gathers_S131072x2x128_S64x2x128.idx r x = ix3 (n0 := 131072) (n1 := 2) (n2 := 128) (r (x 0)) (x 1) (x 2) := by
  funext b
  match b with
  | ⟨0, _⟩ => exact gathers_S131072x2x128_S64x2x128.idx_axis r x
  | ⟨1, h⟩ => exact Fin.ext (gathers_S131072x2x128_S64x2x128.idx_of_ne r x ⟨1, h⟩ Nat.one_ne_zero)
  | ⟨2, h⟩ => exact Fin.ext (gathers_S131072x2x128_S64x2x128.idx_of_ne r x ⟨2, h⟩ (Nat.succ_ne_zero 1))

/-- What a gather by row `c` of the lists delivers. -/
theorem payload {off : Fin 2 → ℕ} {inb} {hn : S64.numel = S64x2x128.size gathers_S131072x2x128_S64x2x128.axis'} {c : Fin 32}
    (hoff : off = ![c.val, 0]) (hin : ∀ j, (fl j).toNat < 131072)
    (hin' : ∀ x, ((lRow off inb).view.read (Elt F) fl x).toNat < S131072x2x128.size gathers_S131072x2x128_S64x2x128.axis) (x : S64x2x128.Idx) :
    SparseCore.gatherPayload gathers_S131072x2x128_S64x2x128 (tAll.view.read (Elt F) tbl)
        (SparseCore.rows ((lRow off inb).view.read (Elt F) fl) hn hin') x
      = tbl (ix3 (n0 := 131072) (n1 := 2) (n2 := 128) ⟨(fl (ix2 (n0 := 32) (n1 := 64) c (x 0))).toNat, hin _⟩ (x 1) (x 2)) := by
  unfold SparseCore.gatherPayload
  rw [read_tAll]
  refine congrArg tbl ((gather_idx _ x).trans ?_)
  refine (ix3_inj _ _ _ _ _ _).mpr ⟨Fin.ext ?_, rfl, rfl⟩
  have key : ∀ k : Fin 64, ((lRow off inb).view.read (Elt F) fl (S64.rowMajor.symm (k.cast hn.symm)) : BitVec 32).toNat
      = (fl (ix2 (n0 := 32) (n1 := 64) c k)).toNat := fun k => by
    rw [read_lRow fl hoff]
    refine congrArg BitVec.toNat ?_
    refine congrArg (fun y => fl (ix2 (n0 := 32) (n1 := 64) c y)) (Fin.ext ?_)
    exact (Shape.rowMajor_val_one _).symm.trans (congrArg Fin.val (S64.rowMajor.apply_symm_apply _))
  exact key (x 0)

/-- An idle slot's gather is started: row `c` of the lists names the pieces. -/
theorem fill_start (Q : PUnit.{1} → sProp 𝕄) {m : Memref sig .scVector .vmem S64x2x128 .f32} {off : Fin 2 → ℕ} {inb} {g : DmaSem sig}
    {hn : S64.numel = S64x2x128.size gathers_S131072x2x128_S64x2x128.axis'} {h0 h1 h2 h3 h4} {c : Fin 32} (hm : m = s.mem) (hg : g = s.gs) (hoff : off = ![c.val, 0]) (hin : ∀ j, (fl j).toNat < 131072)
    (hG : ∀ x, chunk G lo x = tbl (ix3 (n0 := 131072) (n1 := 2) (n2 := 128) ⟨(fl (ix2 (n0 := 32) (n1 := 64) c (x 0))).toNat, hin _⟩ (x 1) (x 2)))
    (hN : ∑ j, (m.slice (S64x2x128.rowRect gathers_S131072x2x128_S64x2x128.axis' j)
      (S64x2x128.stride_rowRect gathers_S131072x2x128_S64x2x128.axis' j)).view.dmaCredit = m.view.dmaCredit) :
    Idle d L tbl fl s
      ⊢ iprop((Filling d L tbl fl G s lo -∗ Q ⟨⟩)
          -∗ wp frame (wpE (defs₀ (F := F)) 𝒱₀ (thr d L) none) Set.univ
              (SparseCore.enqueueIndirectGather h0 tAll m gathers_S131072x2x128_S64x2x128 (lRow off inb) hn g h1 h2 h3 h4) Q) := by
  subst hm hg
  unfold Idle Filling
  iintro ⟨⟨%w, Hm⟩, Ht, Hl, Hgs, Hws⟩ Hk
  ihave Ht2 := (pointsTo_split_subset (q := s.qt) (f := tbl) (S := Finset.univ) (Finset.subset_univ tAll.view.set)).1 $$ Ht
  icases Ht2 with ⟨Ht, Htr⟩
  ihave Hl2 := (pointsTo_split_subset (q := s.ql) (f := fl) (S := Finset.univ) (Finset.subset_univ (lRow off inb).view.set)).1 $$ Hl
  icases Hl2 with ⟨Hl, Hlr⟩
  have hin' : ∀ x, ((lRow off inb).view.read (Elt F) fl x).toNat < S131072x2x128.size gathers_S131072x2x128_S64x2x128.axis := fun x => by
    rw [read_lRow fl hoff]; exact hin _
  rw [← bind_pure (SparseCore.enqueueIndirectGather _ _ _ _ _ _ _ _ _ _ _)]
  iapply (SparseCore.wp_indirectGatherLocal countersEmb 𝒱₀ (thr d L) none (hg := gathers_S131072x2x128_S64x2x128) (default : HIx 1)
      s.mem.view.dmaCredit hN (by decide) hin') $$ [Ht Hm Hl Hgs]
  · isplitl [Ht]; · iexact Ht
    isplitl [Hm]; · iexact Hm
    isplitl [Hl]; · iexact Hl
    iexact Hgs
  iintro Hfl
  rw [wp_pure]
  imodintro
  iapply Hk
  isplitr [Hws]
  swap; · iexact Hws
  iexists _, iprop((tV.view.loc (thr d L) ↦[Finset.univ \ tAll.view.set]{s.qt} tbl) ∗ lV.view.loc (thr d L) ↦[Finset.univ \ (lRow off inb).view.set]{s.ql} fl)
  isplitr
  swap
  · isplitl [Hfl]; · iexact Hfl
    isplitl [Htr] <;> iassumption
  ipureintro
  iintro ⟨⟨Hm, Ht, Hl⟩, Htr, Hlr⟩
  isplitl [Hm]
  · iexists _
    isplitr
    swap; · iexact Hm
    ipureintro
    rw [View.read_write_univ]
    exact funext fun x => (payload tbl fl hoff hin hin' x).trans (hG x).symm
  isplitl [Ht Htr]
  · iapply (pointsTo_split_subset (q := s.qt) (f := tbl) (S := Finset.univ) (Finset.subset_univ tAll.view.set)).2
    isplitl [Ht] <;> iassumption
  · iapply (pointsTo_split_subset (q := s.ql) (f := fl) (S := Finset.univ) (Finset.subset_univ (lRow off inb).view.set)).2
    isplitl [Hl] <;> iassumption

end Steps

end Cert.Proof.Launch

end
-- ==== Proof.Trip.lean ====
/-
  The tile's four slots, and one trip of its loop. At the start of trip `t` slots 0 and 1 are being written out as chunks
  `4 t` and `4 t + 1` of the tile's part of the result, slots 2 and 3 are being filled with chunks `4 t + 2` and
  `4 t + 3`; the result is done up to chunk `4 t` and untouched from chunk `4 t + 2` on.
-/
module

public import proofs.«01_k».proof.Proof.Steps

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The slots -/

/-- The ring's memory at an offset. -/
abbrev bank (off : Fin 4 → ℕ) (inb : ∀ a, off a + S1x64x2x128.size a ≤ S4x64x2x128.size a) : Memref sig .scVector .vmem S64x2x128 .f32 :=
  (rV.slice (Rect.unit (s := S4x64x2x128) off S1x64x2x128.size inb) (fun _ => rfl)).squeeze S64x2x128 squeezes_S1x64x2x128_S64x2x128

variable (qt ql : Fin 4 → PosShare TreeShare)

abbrev slot0 : Slot := ⟨bank ![0, 0, 0, 0] inb_S4x64x2x128_S1x64x2x128_0_0_0_0, cc0_scratch2.sem, cc0_scratch6.sem, qt 0, ql 0⟩
abbrev slot1 : Slot := ⟨bank ![1, 0, 0, 0] inb_S4x64x2x128_S1x64x2x128_1_0_0_0, cc0_scratch3.sem, cc0_scratch7.sem, qt 1, ql 1⟩
abbrev slot2 : Slot := ⟨bank ![2, 0, 0, 0] inb_S4x64x2x128_S1x64x2x128_2_0_0_0, cc0_scratch4.sem, cc0_scratch8.sem, qt 2, ql 2⟩
abbrev slot3 : Slot := ⟨bank ![3, 0, 0, 0] inb_S4x64x2x128_S1x64x2x128_3_0_0_0, cc0_scratch5.sem, cc0_scratch9.sem, qt 3, ql 3⟩

/-- A gather into a slot counts what its wait takes. -/
theorem credit (off : Fin 4 → ℕ) (inb) :
    ∑ j, ((bank off inb).slice (S64x2x128.rowRect gathers_S131072x2x128_S64x2x128.axis' j)
      (S64x2x128.stride_rowRect gathers_S131072x2x128_S64x2x128.axis' j)).view.dmaCredit = (bank off inb).view.dmaCredit := by
  show ∑ _j : Fin 64, cc0_scratch1.dmaCredit (S64x2x128.rowShape gathers_S131072x2x128_S64x2x128.axis') .f32
    = cc0_scratch1.dmaCredit S64x2x128 .f32
  decide

/-! ## The chunks -/

section Chunks

variable [FloatOps F] (d : Dev nD) (L : grid0.Coords)
variable (tbl : S131072x2x128.Idx → Elt F .f32) (ls : S32x32x64.Idx → BitVec 32)

/-- The first piece of the tile's chunk `c`. -/
abbrev at' (c : ℕ) : ℕ := 2048 * wid L + 64 * c

/-- The tile's lists. -/
def lists : S32x64.Idx → BitVec 32 := fun j => ls (ix3 (n0 := 32) (n1 := 32) (n2 := 64) ⟨wid L, wid_lt L⟩ (j 0) (j 1))

/-- Chunk `c` of the result is what the pieces named by row `c` of the tile's lists hold. -/
theorem chunk_gathered (c : Fin 32) (hin : ∀ j, (ls j).toNat < 131072) (x : S64x2x128.Idx) :
    chunk (gathered tbl ls) (at' L c.val) x
      = tbl (ix3 (n0 := 131072) (n1 := 2) (n2 := 128) ⟨(lists L ls (ix2 (n0 := 32) (n1 := 64) c (x 0))).toNat, hin _⟩ (x 1) (x 2)) := by
  have hx : (x 0).val < 64 := (x 0).isLt
  have hw := wid_lt L
  have hc := c.isLt
  unfold chunk gathered lists at'
  refine congrArg tbl ((ix3_inj _ _ _ _ _ _).mpr ⟨Fin.ext ?_, rfl, rfl⟩)
  refine (Nat.mod_eq_of_lt (hin _)).trans (congrArg (fun j => (ls j).toNat) ((ix3_inj _ _ _ _ _ _).mpr ⟨Fin.ext ?_, Fin.ext ?_, Fin.ext ?_⟩))
  · show (2048 * wid L + 64 * c.val + (x 0).val) % 65536 / 2048 = wid L
    omega
  · show (2048 * wid L + 64 * c.val + (x 0).val) % 65536 / 64 % 32 = c.val
    omega
  · show (2048 * wid L + 64 * c.val + (x 0).val) % 65536 % 64 = (x 0).val
    omega

variable (s : Slot) (O : CellTallies nD τ sig (HIx 1)) (W : Waits sig (HIx 1))

local notation "G" => gathered tbl ls
local notation "fl" => lists L ls

/-- A filled slot's copy out is started, from the untouched part of the result. -/
theorem send (Q : PUnit.{1} → sProp 𝕄) (c hi : ℕ) (f : Buf (Elt F) (oLoc d)) {m : Memref sig .scVector .vmem S64x2x128 .f32}
    {off : Fin 3 → ℕ} {inb} {g : DmaSem sig} {h1 h2 h3} (hm : m = s.mem) (hg : g = s.ws) (hoff : off = ![at' L c, 0, 0]) (hc : c < hi) (hhi : hi ≤ 32) :
    iprop(Filled d L tbl fl G s (at' L c) ∗ oPts d (at' L c) (at' L hi) f)
      ⊢ iprop((iprop(Draining d L tbl fl G s (at' L c) ∗ oPts d (at' L (c + 1)) (at' L hi) f) -∗ Q ⟨⟩)
          -∗ wp frame (wpE (defs₀ (F := F)) 𝒱₀ (thr d L) none) Set.univ
              (Prog.lift (.enqueueDma m (.here (oChunk off inb)) (.dma g) h1 h2 h3)) Q) := by
  have hw := wid_lt L
  iintro ⟨Hs, Ho⟩ Hk
  ihave H := (oPts_split d (a := at' L c) (b := at' L c + 64) (c := at' L hi) (by unfold at'; omega) (by unfold at'; omega) f).1 $$ Ho
  icases H with ⟨Ho, Hr⟩
  iapply (drain_start d L tbl fl G s (at' L c) Q f hm hg hoff (by unfold at'; omega)) $$ [Hs Ho]
  · isplitl [Hs] <;> iassumption
  iintro Hd
  iapply Hk
  isplitl [Hd]; · iexact Hd
  iexact Hr

/-- A slot's copy out is waited for, and joins the done part of the result. -/
theorem collect (Q : PUnit.{1} → sProp 𝕄) (c : ℕ) {m : Memref sig .scVector .vmem S64x2x128 .f32}
    {off : Fin 3 → ℕ} {inb} {g : DmaSem sig} {h1 h2} (hg : g = s.ws) :
    iprop(Transfers.MayWaits (thr d L) (default : HIx 1) O ∗ Draining d L tbl fl G s (at' L c) ∗ oPts d (at' L 0) (at' L c) G ∗ Owes d L O W)
      ⊢ iprop((iprop(Idle d L tbl fl s ∗ oPts d (at' L 0) (at' L (c + 1)) G ∗ Owes d L O W) -∗ Q ⟨⟩)
          -∗ wp frame (wpE (defs₀ (F := F)) 𝒱₀ (thr d L) none) Set.univ
              (Prog.lift (.waitDma2 g m (oChunk off inb) h1 h2)) Q) := by
  iintro ⟨Hmw, Hs, Ho, HO⟩ Hk
  iapply (drain_wait d L tbl fl G s (at' L c) O W Q hg) $$ [Hmw Hs HO]
  · isplitl [Hmw]; · iexact Hmw
    isplitl [Hs] <;> iassumption
  iintro ⟨Hn, Hs, HO⟩
  iapply Hk
  isplitl [Hs]; · iexact Hs
  isplitr [HO]
  swap; · iexact HO
  iapply (oPts_split d (a := at' L 0) (b := at' L c) (c := at' L (c + 1)) (by unfold at'; omega) (by unfold at'; omega) G).2
  isplitl [Ho] <;> iassumption

end Chunks

/-! ## One trip of the loop -/

section Trip

variable [FloatOps F] (d : Dev nD) (L : grid0.Coords)
variable (tbl : S131072x2x128.Idx → Elt F .f32) (ls : S32x32x64.Idx → BitVec 32) (f₀ : Buf (Elt F) (oLoc d))
variable (O : CellTallies nD τ sig (HIx 1)) (W : Waits sig (HIx 1))

local notation "G" => gathered tbl ls
local notation "fl" => lists L ls

/-- What the tile holds at the start of trip `t`. -/
def Inv (t : ℕ) : sProp 𝕄 :=
  iprop(Draining d L tbl fl G (slot0 qt ql) (at' L (4 * t)) ∗ Draining d L tbl fl G (slot1 qt ql) (at' L (4 * t + 1))
    ∗ Filling d L tbl fl G (slot2 qt ql) (at' L (4 * t + 2)) ∗ Filling d L tbl fl G (slot3 qt ql) (at' L (4 * t + 3))
    ∗ oPts d (at' L 0) (at' L (4 * t)) G ∗ oPts d (at' L (4 * t + 2)) (at' L 32) f₀ ∗ Owes d L O W)

/-- A slot's next gather is started. -/
theorem fetch (Q : PUnit.{1} → sProp 𝕄) (s : Slot) (c : ℕ) {bo : Fin 4 → ℕ} {ib} {off : Fin 2 → ℕ} {inb} {g : DmaSem sig}
    {hn : S64.numel = S64x2x128.size gathers_S131072x2x128_S64x2x128.axis'} {h0 h1 h2 h3 h4} (hm : bank bo ib = s.mem) (hg : g = s.gs)
    (hoff : off = ![c, 0]) (hc : c < 32) (hin : ∀ j, (ls j).toNat < 131072) :
    Idle d L tbl fl s
      ⊢ iprop((Filling d L tbl fl G s (at' L c) -∗ Q ⟨⟩)
          -∗ wp frame (wpE (defs₀ (F := F)) 𝒱₀ (thr d L) none) Set.univ
              (SparseCore.enqueueIndirectGather h0 tAll (bank bo ib) gathers_S131072x2x128_S64x2x128 (lRow off inb) hn g h1 h2 h3 h4) Q) :=
  fill_start d L tbl fl G s (at' L c) Q (c := ⟨c, hc⟩) hm hg hoff (fun _ => hin _) (fun x => chunk_gathered L tbl ls ⟨c, hc⟩ hin x)
    (credit bo ib)

theorem trip (hin : ∀ j, (ls j).toNat < 131072) (v2 : BitVec 32) (t : Fin k0_t1_loop.trips) (u : Unit) :
    iprop(Transfers.MayWaits (thr d L) (default : HIx 1) O ∗ Inv qt ql d L tbl ls f₀ O W t.val)
      ⊢ wp frame (wpE (defs₀ (F := F)) 𝒱₀ (thr d L) none) Set.univ
          (k0_t1_body L tV (Memref.isWhole_whole _) iV (Memref.isWhole_whole _) oV (Memref.isWhole_whole _)
            lV (Memref.isWhole_whole _) rV (Memref.isWhole_whole _) cc0_scratch2 cc0_scratch3 cc0_scratch4 cc0_scratch5
            cc0_scratch6 cc0_scratch7 cc0_scratch8 cc0_scratch9 cc0_scoped0 v2 t u)
          fun _ => iprop(Transfers.MayWaits (thr d L) (default : HIx 1) O ∗ Inv qt ql d L tbl ls f₀ O W (t.val + 1)) := by
  have ht : t.val < 7 := t.isLt
  have o4 : ∀ r : Fin 4, k0_off4 L t (BitVec.ofNat 32 r.val) = ![at' L (4 * t.val + 2 + r.val), 0, 0] := fun r => by
    rw [k0_off4_eq]; unfold at' wid
    refine congrArg (fun n => ![n, 0, 0]) ?_
    ring
  have o6 : ∀ r : Fin 4, k0_off6 t (BitVec.ofNat 32 r.val) = ![4 * t.val + 4 + r.val, 0] := fun r => by
    rw [k0_off6_eq]
    refine congrArg (fun n => ![n, 0]) ?_
    ring
  unfold k0_t1_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [bind_assoc, pure_bind, wp_bind]
  unfold Inv
  iintro ⟨#Hmw, H0, H1, H2, H3, Hd, Hr, HO⟩
  iapply (fill_wait d L tbl fl G (slot2 qt ql) (at' L (4 * t.val + 2)) O W _ rfl rfl) $$ [H2 HO]
  · isplitr; · iexact Hmw
    isplitl [H2] <;> iassumption
  iintro ⟨H2, HO⟩
  iapply (send d L tbl ls (slot2 qt ql) _ (4 * t.val + 2) 32 f₀ rfl rfl (o4 0) (by omega) (by omega)) $$ [H2 Hr]
  · isplitl [H2] <;> iassumption
  iintro ⟨H2, Hr⟩
  iapply (collect d L tbl ls (slot0 qt ql) O W _ (4 * t.val) rfl) $$ [H0 Hd HO]
  · isplitr; · iexact Hmw
    isplitl [H0]; · iexact H0
    isplitl [Hd] <;> iassumption
  iintro ⟨H0, Hd, HO⟩
  iapply (fetch d L tbl ls _ (slot0 qt ql) (4 * t.val + 4) rfl rfl (o6 0) (by omega) hin) $$ H0
  iintro H0
  iapply (fill_wait d L tbl fl G (slot3 qt ql) (at' L (4 * t.val + 3)) O W _ rfl rfl) $$ [H3 HO]
  · isplitr; · iexact Hmw
    isplitl [H3] <;> iassumption
  iintro ⟨H3, HO⟩
  iapply (send d L tbl ls (slot3 qt ql) _ (4 * t.val + 3) 32 f₀ rfl rfl (o4 1) (by omega) (by omega)) $$ [H3 Hr]
  · isplitl [H3] <;> iassumption
  iintro ⟨H3, Hr⟩
  iapply (collect d L tbl ls (slot1 qt ql) O W _ (4 * t.val + 1) rfl) $$ [H1 Hd HO]
  · isplitr; · iexact Hmw
    isplitl [H1]; · iexact H1
    isplitl [Hd] <;> iassumption
  iintro ⟨H1, Hd, HO⟩
  iapply (fetch d L tbl ls _ (slot1 qt ql) (4 * t.val + 5) rfl rfl (o6 1) (by omega) hin) $$ H1
  iintro H1
  iapply (fill_wait d L tbl fl G (slot0 qt ql) (at' L (4 * t.val + 4)) O W _ rfl rfl) $$ [H0 HO]
  · isplitr; · iexact Hmw
    isplitl [H0] <;> iassumption
  iintro ⟨H0, HO⟩
  iapply (send d L tbl ls (slot0 qt ql) _ (4 * t.val + 4) 32 f₀ rfl rfl (o4 2) (by omega) (by omega)) $$ [H0 Hr]
  · isplitl [H0] <;> iassumption
  iintro ⟨H0, Hr⟩
  iapply (collect d L tbl ls (slot2 qt ql) O W _ (4 * t.val + 2) rfl) $$ [H2 Hd HO]
  · isplitr; · iexact Hmw
    isplitl [H2]; · iexact H2
    isplitl [Hd] <;> iassumption
  iintro ⟨H2, Hd, HO⟩
  iapply (fetch d L tbl ls _ (slot2 qt ql) (4 * t.val + 6) rfl rfl (o6 2) (by omega) hin) $$ H2
  iintro H2
  iapply (fill_wait d L tbl fl G (slot1 qt ql) (at' L (4 * t.val + 5)) O W _ rfl rfl) $$ [H1 HO]
  · isplitr; · iexact Hmw
    isplitl [H1] <;> iassumption
  iintro ⟨H1, HO⟩
  iapply (send d L tbl ls (slot1 qt ql) _ (4 * t.val + 5) 32 f₀ rfl rfl (o4 3) (by omega) (by omega)) $$ [H1 Hr]
  · isplitl [H1] <;> iassumption
  iintro ⟨H1, Hr⟩
  iapply (collect d L tbl ls (slot3 qt ql) O W _ (4 * t.val + 3) rfl) $$ [H3 Hd HO]
  · isplitr; · iexact Hmw
    isplitl [H3]; · iexact H3
    isplitl [Hd] <;> iassumption
  iintro ⟨H3, Hd, HO⟩
  iapply (fetch d L tbl ls _ (slot3 qt ql) (4 * t.val + 7) rfl rfl (o6 3) (by omega) hin) $$ H3
  iintro H3
  rw [wp_pure]
  imodintro
  isplitr; · iexact Hmw
  isplitl [H0]; · iexact H0
  isplitl [H1]; · iexact H1
  isplitl [H2]; · iexact H2
  isplitl [H3]; · iexact H3
  isplitl [Hd]; · iexact Hd
  isplitl [Hr]; · iexact Hr
  iexact HO

end Trip

end Cert.Proof.Launch

end
-- ==== Proof.Tile.lean ====
/-
  A tile's whole task. It copies its own lists in, then runs the 32 chunks of its part of the result through the four
  slots of its ring: two slots ahead of the loop, the loop's seven trips of four chunks, two slots after it. From a share
  of the table, a share of the lists and its 2048 pieces of the result at anything, to the same shares and its pieces
  holding what the lists name.
-/
module

public import proofs.«01_k».proof.Proof.Trip

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's memory in four parts -/

/-- A family over four is its four members. -/
theorem four (Φ : Fin 4 → sProp 𝕄) : bigSep Finset.univ Φ = iprop(Φ 0 ∗ Φ 1 ∗ Φ 2 ∗ Φ 3) := by
  rw [bigSep_univ_succ, bigSep_univ_succ, bigSep_univ_succ, bigSep_univ_of_subsingleton (0 : Fin 1)]
  rfl

/-- The ring's elements of slot `b`. -/
def ringSet (b : Fin 4) : Finset S4x64x2x128.Idx := Finset.univ.filter fun x => (x 0).val = b.val

theorem ringSet_disjoint : ∀ b ∈ (Finset.univ : Finset (Fin 4)), ∀ b' ∈ (Finset.univ : Finset (Fin 4)), b ≠ b' → Disjoint (ringSet b) (ringSet b') := by
  intro b _ b' _ h
  rw [Finset.disjoint_left]
  intro x hx hx'
  simp only [ringSet, Finset.mem_filter, Finset.mem_univ, true_and] at hx hx'
  exact h (Fin.ext (hx.symm.trans hx'))

theorem ringSet_union : (Finset.univ : Finset (Fin 4)).biUnion ringSet = Finset.univ := by
  ext x
  simp only [Finset.mem_biUnion, Finset.mem_univ, true_and, iff_true]
  exact ⟨x 0, by simp [ringSet]⟩

theorem set_bank {off : Fin 4 → ℕ} {inb} (b : Fin 4) (hoff : off = ![b.val, 0, 0, 0]) : (bank off inb).view.set = ringSet b := by
  subst hoff
  show ((rV.view.slice (Rect.unit (s := S4x64x2x128) ![b.val, 0, 0, 0] S1x64x2x128.size inb)).reshape S64x2x128
    squeezes_S1x64x2x128_S64x2x128.numel_eq).set = _
  rw [View.set_reshape, View.set_slice_whole]
  ext x
  rw [Rect.mem_set_unit]
  simp only [ringSet, Finset.mem_filter, Finset.mem_univ, true_and]
  constructor
  · intro h
    have h0 : b.val ≤ (x 0).val ∧ (x 0).val < b.val + 1 := h 0
    omega
  · intro h a
    match a with
    | 0 => exact ⟨h.ge, by show (x 0).val < b.val + 1; omega⟩
    | 1 => exact ⟨Nat.zero_le _, by have : (x 1).val < 64 := (x 1).isLt; simpa using this⟩
    | 2 => exact ⟨Nat.zero_le _, by have : (x 2).val < 2 := (x 2).isLt; simpa using this⟩
    | 3 => exact ⟨Nat.zero_le _, by have : (x 3).val < 128 := (x 3).isLt; simpa using this⟩

section Tile

variable [FloatOps F] (d : Dev nD) (L : grid0.Coords)

/-- The tile's ring and the lists' array, as locations. -/
abbrev rLoc : Loc nD τ sig := (thr d L).loc cc0_scratch1

/-- The ring at some contents, as its four slots at some contents. -/
theorem ring_split (f : Buf (Elt F) (rLoc d L)) :
    (rLoc d L ↦{fullShare} f : sProp 𝕄) ⊢ iprop((∃ f, rLoc d L ↦[ringSet 0]{fullShare} f)
      ∗ (∃ f, rLoc d L ↦[ringSet 1]{fullShare} f) ∗ (∃ f, rLoc d L ↦[ringSet 2]{fullShare} f)
      ∗ (∃ f, rLoc d L ↦[ringSet 3]{fullShare} f)) := by
  have e : (rLoc d L ↦{fullShare} f : sProp 𝕄) = bigSep Finset.univ fun b : Fin 4 => rLoc d L ↦[ringSet b]{fullShare} f :=
    (congrArg (fun I : Finset (Idx (rLoc d L)) => (rLoc d L ↦[I]{fullShare} f : sProp 𝕄)) ringSet_union.symm).trans
      (pointsTo_biUnion (ℓ := rLoc d L) Finset.univ ringSet ringSet_disjoint)
  rw [e, four]
  iintro ⟨H0, H1, H2, H3⟩
  isplitl [H0]; · iexists _; iexact H0
  isplitl [H1]; · iexists _; iexact H1
  isplitl [H2]; · iexists _; iexact H2
  iexists _; iexact H3

/-- The four slots put together again. -/
theorem ring_join (f₀ : Buf (Elt F) (rLoc d L)) :
    iprop((∃ f, rLoc d L ↦[ringSet 0]{fullShare} f)
      ∗ (∃ f, rLoc d L ↦[ringSet 1]{fullShare} f) ∗ (∃ f, rLoc d L ↦[ringSet 2]{fullShare} f)
      ∗ (∃ f, rLoc d L ↦[ringSet 3]{fullShare} f)) ⊢ (iprop(∃ f, rLoc d L ↦{fullShare} f) : sProp 𝕄) := by
  iintro ⟨⟨%g0, H0⟩, ⟨%g1, H1⟩, ⟨%g2, H2⟩, ⟨%g3, H3⟩⟩
  have j := pointsTo_biUnion_join (Ix := HIx 1) (Name := ℕ) (U := UU) (Lvl := ℕ) (ℓ := rLoc d L) (q := fullShare) Finset.univ ringSet ![g0, g1, g2, g3] f₀ ringSet_disjoint
  rw [four] at j
  ihave H := j $$ [H0 H1 H2 H3]
  · isplitl [H0]; · iexact H0
    isplitl [H1]; · iexact H1
    isplitl [H2]; · iexact H2
    iexact H3
  icases H with ⟨%g, -, H⟩
  iexists g
  iapply (Entails.of_eq (congrArg (fun I : Finset (Idx (rLoc d L)) => (rLoc d L ↦[I]{fullShare} g : sProp 𝕄)) ringSet_union)) $$ H

/-- The tile's row of the lists' array, as the first copy addresses it. -/
abbrev iRow (off : Fin 3 → ℕ) (inb : ∀ a, off a + S1x32x64.size a ≤ S32x32x64.size a) : Memref sig .scVector .hbm S32x64 .i32 :=
  (iV.slice (Rect.unit (s := S32x32x64) off S1x32x64.size inb) (fun _ => rfl)).squeeze S32x64 squeezes_S1x32x64_S32x64

variable (tbl : S131072x2x128.Idx → Elt F .f32) (ls : S32x32x64.Idx → BitVec 32) (f₀ : Buf (Elt F) (oLoc d))
variable (O : CellTallies nD τ sig (HIx 1)) (W : Waits sig (HIx 1)) (q qi : PosShare TreeShare)

local notation "G" => gathered tbl ls
local notation "fl" => lists L ls

/-- What that row reads as. -/
theorem read_iRow {off : Fin 3 → ℕ} {inb} (hoff : off = ![wid L, 0, 0]) : (iRow off inb).view.read (Elt F) ls = fl := by
  subst hoff
  funext x
  rw [View.read_apply, cast_eq]
  unfold lists
  congr 1
  have hr : Shape.reshapeEquiv (s := S1x32x64) (s' := S32x64) squeezes_S1x32x64_S32x64.numel_eq x
      = ix3 (n0 := 1) (n1 := 32) (n2 := 64) 0 (x 0) (x 1) :=
    Shape.reshapeEquiv_eq_of_rowMajor _ (by
      rw [Shape.rowMajor_val_two, Shape.rowMajor_val_three]
      show (0 * 32 + (x 0).val) * 64 + (x 1).val = (x 0).val * 64 + (x 1).val
      omega)
  funext a
  have he : ∀ a, ((iRow ![wid L, 0, 0] inb).view.emb x a).val
      = (![wid L, 0, 0] : Fin 3 → ℕ) a + 1 * (Shape.reshapeEquiv (s := S1x32x64) (s' := S32x64) squeezes_S1x32x64_S32x64.numel_eq x a).val := fun _ => rfl
  refine Fin.ext ((he a).trans ?_)
  rw [hr]
  match a with
  | 0 => show wid L + 1 * 0 = wid L; omega
  | 1 => show 0 + 1 * (x 0).val = (x 0).val; omega
  | 2 => show 0 + 1 * (x 1).val = (x 1).val; omega

/-- The offsets of the six copies out outside the loop. -/
theorem off2_eq (r : Fin 6) : ∀ i : grid0.Coords, k0_off2 i (k0_off2_at r)
    = ![2048 * (2 * (i 1).val + (i 0).val) + 64 * (![0, 1, 30, 28, 31, 29] : Fin 6 → ℕ) r, 0, 0] := by
  revert r; decide +kernel

/-- The tile's pieces of the result. -/
abbrev mine (f : Buf (Elt F) (oLoc d)) : sProp 𝕄 := oPts d (at' L 0) (at' L 32) f

/-- A slot's memory at some contents. -/
theorem memAny_bank {off : Fin 4 → ℕ} {inb} (b : Fin 4) (hoff : off = ![b.val, 0, 0, 0]) (g g' : DmaSem sig) (q q' : PosShare TreeShare) :
    (memAny d L ⟨bank off inb, g, g', q, q'⟩ : sProp 𝕄) = iprop(∃ f, rLoc d L ↦[ringSet b]{fullShare} f) := by
  unfold memAny
  rw [set_bank b hoff]

/-- A buffer held at a share, held at the share's four pieces. -/
theorem shares4 {ℓ : Loc nD τ sig} (f : Buf (Elt F) ℓ) (q : PosShare TreeShare) :
    (ℓ ↦{q} f : sProp 𝕄) = iprop((ℓ ↦{pieceOf q 4 (by decide) 0} f) ∗ (ℓ ↦{pieceOf q 4 (by decide) 1} f)
      ∗ (ℓ ↦{pieceOf q 4 (by decide) 2} f) ∗ ℓ ↦{pieceOf q 4 (by decide) 3} f) :=
  (pointsTo_piecesOf Finset.univ f (by decide) q).trans (four _)

/-- The tile's nine semaphores, all at zero. -/
abbrev sems : sProp 𝕄 :=
  iprop(sem0 d L cc0_scratch2.sem ∗ sem0 d L cc0_scratch3.sem ∗ sem0 d L cc0_scratch4.sem ∗ sem0 d L cc0_scratch5.sem
    ∗ sem0 d L cc0_scratch6.sem ∗ sem0 d L cc0_scratch7.sem ∗ sem0 d L cc0_scratch8.sem ∗ sem0 d L cc0_scratch9.sem
    ∗ sem0 d L cc0_scoped0.sem)

theorem tile_run (hin : ∀ j, (ls j).toNat < 131072) :
    iprop(Transfers.MayWaits (thr d L) (default : HIx 1) O
        ∗ tPts d L tbl q ∗ (iV.view.loc (thr d L) ↦{qi} ls) ∗ mine d L f₀
        ∗ (∃ f, lV.view.loc (thr d L) ↦{fullShare} f) ∗ (∃ f, rV.view.loc (thr d L) ↦{fullShare} f) ∗ sems d L ∗ owes (thr d L) O W)
      ⊢ wp frame (wpE (defs₀ (F := F)) 𝒱₀ (thr d L) none) Set.univ
          (cc0_gather_kernel L tV (Memref.isWhole_whole _) iV (Memref.isWhole_whole _) oV (Memref.isWhole_whole _)
            lV (Memref.isWhole_whole _) rV (Memref.isWhole_whole _) cc0_scratch2 cc0_scratch3 cc0_scratch4 cc0_scratch5
            cc0_scratch6 cc0_scratch7 cc0_scratch8 cc0_scratch9 cc0_scoped0)
          fun _ => iprop((tPts d L tbl q ∗ (iV.view.loc (thr d L) ↦{qi} ls) ∗ mine d L G)
            ∗ (∃ f, lV.view.loc (thr d L) ↦{fullShare} f) ∗ (∃ f, rV.view.loc (thr d L) ↦{fullShare} f) ∗ sems d L ∗ Owes d L O W) := by
  simp only [cc0_gather_kernel_eq_skeleton]; unfold cc0_gather_kernel_skel
  simp only [k0_part6_eq_skeleton, k0_part7_eq_skeleton, k0_part8_eq_skeleton, k0_part9_eq_skeleton, k0_part10_eq_skeleton]
  unfold k0_part6_skel k0_part7_skel k0_part8_skel k0_part9_skel k0_part10_skel
  simp only [bind_assoc, pure_bind, wp_bind]
  iintro ⟨#Hmw, Ht, Hi, Ho, ⟨%fl₀, Hl⟩, ⟨%fr, Hr⟩, ⟨Sg0, Sg1, Sg2, Sg3, Sw0, Sw1, Sw2, Sw3, Sc⟩, HO⟩
  -- the lists in
  ihave Hi2 := (pointsTo_split_subset (ℓ := iLoc d) (q := qi) (f := ls) (S := Finset.univ) (Finset.subset_univ (iRow (k0_off1 L) (k0_off1_inb L)).view.set)).1 $$ Hi
  icases Hi2 with ⟨Hi, Hir⟩
  iapply (Transfers.wp_dmaLocal countersEmb 𝒱₀ (thr d L) none (default : HIx 1) (lV.view.amount (.dma cc0_scoped0.sem))
      rfl (by decide) (Finset.subset_univ _)) $$ [Hi Hl Sc]
  · isplitl [Hi]; · iexact Hi
    isplitl [Hl]; · iexact Hl
    iexact Sc
  iintro Hfl
  rw [wp_ret]
  imodintro
  iapply (Transfers.wp_waitLocalO countersEmb 𝒱₀ (thr d L) none (default : HIx 1) (rfl : lV.view.dmaCredit = _)) $$ [Hfl HO]
  · isplitl [Hfl]; · iexact Hfl
    isplitl [HO]; · iexact HO
    iapply (Transfers.MayWaits.elim (SemLoc.dma cc0_scoped0.sem)) $$ Hmw
  iintro ⟨⟨Hl, Hi⟩, Sc, HO⟩
  rw [wp_ret]
  imodintro
  ihave Hi := (pointsTo_split_subset (ℓ := iLoc d) (q := qi) (f := ls) (S := Finset.univ) (Finset.subset_univ (iRow (k0_off1 L) (k0_off1_inb L)).view.set)).2 $$ [Hi Hir]
  · isplitl [Hi] <;> iassumption
  ihave Hl := (Entails.of_eq (congrArg (fun f => (lV.view.loc (thr d L) ↦{fullShare} f : sProp 𝕄))
    ((View.write_whole_univ _ _ _).trans (read_iRow (F := F) L ls (inb := k0_off1_inb L) (k0_off1_eq L))))) $$ Hl
  -- the four slots
  let qt : Fin 4 → PosShare TreeShare := fun b => pieceOf q 4 (by decide) b
  let ql : Fin 4 → PosShare TreeShare := fun b => pieceOf fullShare 4 (by decide) b
  ihave Hl4 := (Entails.of_eq (shares4 (ℓ := (thr d L).loc cc0_scratch0) (F := F) fl fullShare)) $$ Hl
  icases Hl4 with ⟨Hl0, Hl1, Hl2, Hl3⟩
  ihave Ht4 := (Entails.of_eq (shares4 (ℓ := tLoc d) (F := F) tbl q)) $$ Ht
  icases Ht4 with ⟨Ht0, Ht1, Ht2, Ht3⟩
  ihave Hr4 := (ring_split d L fr) $$ Hr
  icases Hr4 with ⟨Hr0, Hr1, Hr2, Hr3⟩
  ihave H0 : Idle d L tbl fl (slot0 qt ql) $$ [Hr0 Ht0 Hl0 Sg0 Sw0]
  · unfold Idle
    isplitl [Hr0]; · iapply (Entails.of_eq (memAny_bank d L 0 rfl _ _ _ _).symm) $$ Hr0
    isplitl [Ht0]; · iexact Ht0
    isplitl [Hl0]; · iexact Hl0
    isplitl [Sg0] <;> iassumption
  ihave H1 : Idle d L tbl fl (slot1 qt ql) $$ [Hr1 Ht1 Hl1 Sg1 Sw1]
  · unfold Idle
    isplitl [Hr1]; · iapply (Entails.of_eq (memAny_bank d L 1 rfl _ _ _ _).symm) $$ Hr1
    isplitl [Ht1]; · iexact Ht1
    isplitl [Hl1]; · iexact Hl1
    isplitl [Sg1] <;> iassumption
  ihave H2 : Idle d L tbl fl (slot2 qt ql) $$ [Hr2 Ht2 Hl2 Sg2 Sw2]
  · unfold Idle
    isplitl [Hr2]; · iapply (Entails.of_eq (memAny_bank d L 2 rfl _ _ _ _).symm) $$ Hr2
    isplitl [Ht2]; · iexact Ht2
    isplitl [Hl2]; · iexact Hl2
    isplitl [Sg2] <;> iassumption
  ihave H3 : Idle d L tbl fl (slot3 qt ql) $$ [Hr3 Ht3 Hl3 Sg3 Sw3]
  · unfold Idle
    isplitl [Hr3]; · iapply (Entails.of_eq (memAny_bank d L 3 rfl _ _ _ _).symm) $$ Hr3
    isplitl [Ht3]; · iexact Ht3
    isplitl [Hl3]; · iexact Hl3
    isplitl [Sg3] <;> iassumption
  ihave HO : Owes d L O W $$ [HO]
  · iexists _; isplitr
    swap; · iexact HO
    ipureintro; intro p hp
    rcases Finset.mem_insert.mp hp with hp | hp
    · exact .inr (hp ▸ rfl)
    · exact .inl hp
  -- up to the loop
  iapply (fetch d L tbl ls _ (slot0 qt ql) 0 rfl rfl rfl (by decide) hin) $$ H0
  iintro H0
  iapply (fetch d L tbl ls _ (slot1 qt ql) 1 rfl rfl rfl (by decide) hin) $$ H1
  iintro H1
  iapply (fill_wait d L tbl fl G (slot0 qt ql) (at' L 0) O W _ rfl rfl) $$ [H0 HO]
  · isplitr; · iexact Hmw
    isplitl [H0] <;> iassumption
  iintro ⟨H0, HO⟩
  iapply (send d L tbl ls (slot0 qt ql) _ 0 32 f₀ rfl rfl (off2_eq 0 L) (by decide) le_rfl) $$ [H0 Ho]
  · isplitl [H0] <;> iassumption
  iintro ⟨H0, Ho⟩
  iapply (fetch d L tbl ls _ (slot2 qt ql) 2 rfl rfl rfl (by decide) hin) $$ H2
  iintro H2
  iapply (fill_wait d L tbl fl G (slot1 qt ql) (at' L 1) O W _ rfl rfl) $$ [H1 HO]
  · isplitr; · iexact Hmw
    isplitl [H1] <;> iassumption
  iintro ⟨H1, HO⟩
  iapply (send d L tbl ls (slot1 qt ql) _ 1 32 f₀ rfl rfl (off2_eq 1 L) (by decide) le_rfl) $$ [H1 Ho]
  · isplitl [H1] <;> iassumption
  iintro ⟨H1, Ho⟩
  iapply (fetch d L tbl ls _ (slot3 qt ql) 3 rfl rfl rfl (by decide) hin) $$ H3
  iintro H3
  -- the loop
  iapply (Scf.wp_for frame (wpE (defs₀ (F := F)) 𝒱₀ (thr d L) none) Set.univ _ _ _ k0_t1_ok _ _
    (fun t _ => iprop(Transfers.MayWaits (thr d L) (default : HIx 1) O ∗ Inv qt ql d L tbl ls f₀ O W t))
    (fun t u => trip qt ql d L tbl ls f₀ O W hin _ t u))
  isplitl [H0 H1 H2 H3 Ho HO]
  · isplitr; · iexact Hmw
    unfold Inv
    isplitl [H0]; · iexact H0
    isplitl [H1]; · iexact H1
    isplitl [H2]; · iexact H2
    isplitl [H3]; · iexact H3
    isplitr [Ho HO]
    · rw [oPts_empty]; iempintro
    isplitl [Ho] <;> iassumption
  iintro %u ⟨-, HI⟩
  ihave HI := (Entails.of_eq (congrArg (Inv qt ql d L tbl ls f₀ O W) (show k0_t1_loop.trips = 7 by decide))) $$ HI
  unfold Inv
  icases HI with ⟨H0, H1, H2, H3, Hd, Ho, HO⟩
  -- after the loop
  iapply (fill_wait d L tbl fl G (slot2 qt ql) (at' L 30) O W _ rfl rfl) $$ [H2 HO]
  · isplitr; · iexact Hmw
    isplitl [H2] <;> iassumption
  iintro ⟨H2, HO⟩
  iapply (send d L tbl ls (slot2 qt ql) _ 30 32 f₀ rfl rfl (off2_eq 2 L) (by decide) le_rfl) $$ [H2 Ho]
  · isplitl [H2] <;> iassumption
  iintro ⟨H2, Ho⟩
  iapply (collect d L tbl ls (slot0 qt ql) O W _ 28 rfl) $$ [H0 Hd HO]
  · isplitr; · iexact Hmw
    isplitl [H0]; · iexact H0
    isplitl [Hd] <;> iassumption
  iintro ⟨H0, Hd, HO⟩
  iapply (fill_wait d L tbl fl G (slot3 qt ql) (at' L 31) O W _ rfl rfl) $$ [H3 HO]
  · isplitr; · iexact Hmw
    isplitl [H3] <;> iassumption
  iintro ⟨H3, HO⟩
  iapply (send d L tbl ls (slot3 qt ql) _ 31 32 f₀ rfl rfl (off2_eq 4 L) (by decide) le_rfl) $$ [H3 Ho]
  · isplitl [H3] <;> iassumption
  iintro ⟨H3, Ho⟩
  iapply (collect d L tbl ls (slot1 qt ql) O W _ 29 rfl) $$ [H1 Hd HO]
  · isplitr; · iexact Hmw
    isplitl [H1]; · iexact H1
    isplitl [Hd] <;> iassumption
  iintro ⟨H1, Hd, HO⟩
  iapply (collect d L tbl ls (slot2 qt ql) O W _ 30 rfl) $$ [H2 Hd HO]
  · isplitr; · iexact Hmw
    isplitl [H2]; · iexact H2
    isplitl [Hd] <;> iassumption
  iintro ⟨H2, Hd, HO⟩
  iapply (collect d L tbl ls (slot3 qt ql) O W _ 31 rfl) $$ [H3 Hd HO]
  · isplitr; · iexact Hmw
    isplitl [H3]; · iexact H3
    isplitl [Hd] <;> iassumption
  iintro ⟨H3, Hd, HO⟩
  rw [wp_pure]
  imodintro
  unfold Idle
  icases H0 with ⟨Hr0, Ht0, Hl0, Sg0, Sw0⟩
  icases H1 with ⟨Hr1, Ht1, Hl1, Sg1, Sw1⟩
  icases H2 with ⟨Hr2, Ht2, Hl2, Sg2, Sw2⟩
  icases H3 with ⟨Hr3, Ht3, Hl3, Sg3, Sw3⟩
  isplitl [Ht0 Ht1 Ht2 Ht3 Hi Hd]
  · isplitl [Ht0 Ht1 Ht2 Ht3]
    · iapply (Entails.of_eq (shares4 (ℓ := tLoc d) (F := F) tbl q).symm)
      isplitl [Ht0]; · iexact Ht0
      isplitl [Ht1]; · iexact Ht1
      isplitl [Ht2] <;> iassumption
    isplitl [Hi] <;> iassumption
  isplitl [Hl0 Hl1 Hl2 Hl3]
  · iexists fl
    iapply (Entails.of_eq (shares4 (ℓ := (thr d L).loc cc0_scratch0) (F := F) fl fullShare).symm)
    isplitl [Hl0]; · iexact Hl0
    isplitl [Hl1]; · iexact Hl1
    isplitl [Hl2] <;> iassumption
  isplitl [Hr0 Hr1 Hr2 Hr3]
  · iapply (ring_join d L fr)
    isplitl [Hr0]; · iapply (Entails.of_eq (memAny_bank d L (off := ![0, 0, 0, 0]) 0 rfl _ _ _ _)) $$ Hr0
    isplitl [Hr1]; · iapply (Entails.of_eq (memAny_bank d L (off := ![1, 0, 0, 0]) 1 rfl _ _ _ _)) $$ Hr1
    isplitl [Hr2]; · iapply (Entails.of_eq (memAny_bank d L (off := ![2, 0, 0, 0]) 2 rfl _ _ _ _)) $$ Hr2
    iapply (Entails.of_eq (memAny_bank d L (off := ![3, 0, 0, 0]) 3 rfl _ _ _ _)) $$ Hr3
  isplitr [HO]
  swap; · iexact HO
  isplitl [Sg0]; · iexact Sg0
  isplitl [Sg1]; · iexact Sg1
  isplitl [Sg2]; · iexact Sg2
  isplitl [Sg3]; · iexact Sg3
  isplitl [Sw0]; · iexact Sw0
  isplitl [Sw1]; · iexact Sw1
  isplitl [Sw2]; · iexact Sw2
  isplitl [Sw3] <;> iassumption

end Tile

end Cert.Proof.Launch

end
-- ==== Proof.Call.lean ====
/-
  The SparseCore call. What the call is given is dealt to the 32 tiles, each a share of the table, a share of the lists and its
  own 2048 pieces of the result; a tile's task is `tile_run` with the tile's own memory and semaphores taken out of what it
  owns; what the tiles bring back is the table, the lists, and the result whole, holding what the lists name.
-/
module

public import proofs.«01_k».proof.Proof.Tile

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the tiles get -/

/-- What the call finds in the three buffers, on each device. -/
structure Given (F : FTy → Type) where
  tbl : Dev nD → S131072x2x128.Idx → Elt F .f32
  ls : Dev nD → S32x32x64.Idx → BitVec 32
  out : Dev nD → S65536x2x128.Idx → Elt F .f32

/-- Tile `w`'s part: a share of the table, a share of the lists, its pieces of the result at `f`. -/
def part (X : Given F) (d : Dev nD) (w : Fin 32) (f : S65536x2x128.Idx → Elt F .f32) : sProp 𝕄 :=
  iprop((tLoc d ↦{pieceOf fullShare 32 (by decide) w} X.tbl d) ∗ (iLoc d ↦{pieceOf fullShare 32 (by decide) w} X.ls d)
    ∗ oPts d (2048 * w.val) (2048 * w.val + 2048) f)

/-- The tile of core `c` and subcore `i`. -/
def tileNo (c i : ℕ) : Fin 32 := ⟨(2 * i + c) % 32, Nat.mod_lt _ (by decide)⟩

/-- The numbers of the tiles, by core and subcore. -/
def tiles : Fin 2 × Fin 16 ≃ Fin 32 where
  toFun p := tileNo p.1.val p.2.val
  invFun w := (⟨w.val % 2, by omega⟩, ⟨w.val / 2, by omega⟩)
  left_inv p := by
    obtain ⟨⟨c, hc⟩, ⟨i, hi⟩⟩ := p
    simp only [tileNo, Prod.mk.injEq, Fin.mk.injEq]
    omega
  right_inv w := by
    simp only [tileNo, Fin.ext_iff]
    omega

theorem pieces_disjoint : ∀ w ∈ (Finset.univ : Finset (Fin 32)), ∀ w' ∈ (Finset.univ : Finset (Fin 32)), w ≠ w' →
    Disjoint (pieces (2048 * w.val) (2048 * w.val + 2048)) (pieces (2048 * w'.val) (2048 * w'.val + 2048)) := by
  intro w _ w' _ h
  rw [Finset.disjoint_left]
  intro x
  simp only [mem_pieces]
  intro hx hx'
  exact h (Fin.ext (by omega))

theorem pieces_cover : (Finset.univ : Finset (Fin 32)).biUnion (fun w => pieces (2048 * w.val) (2048 * w.val + 2048)) = Finset.univ := by
  ext x
  have hx : (x 0).val < 65536 := (x 0).isLt
  simp only [Finset.mem_biUnion, Finset.mem_univ, true_and, mem_pieces, iff_true]
  exact ⟨⟨(x 0).val / 2048, by omega⟩, by dsimp only; omega, by dsimp only; omega⟩

theorem out_tiles (d : Dev nD) (f : S65536x2x128.Idx → Elt F .f32) :
    (oLoc d ↦{fullShare} f : sProp 𝕄) = bigSep Finset.univ fun w : Fin 32 => oPts d (2048 * w.val) (2048 * w.val + 2048) f := by
  unfold oPts
  refine Eq.trans ?_ (pointsTo_biUnion Finset.univ (ℓ := oLoc d) (fun w : Fin 32 => pieces (2048 * w.val) (2048 * w.val + 2048)) pieces_disjoint)
  exact congrArg (fun I : Finset (Idx (oLoc d)) => (oLoc d ↦[I]{fullShare} f : sProp 𝕄)) pieces_cover.symm

/-- The three buffers whole are the 32 tiles' parts, core by core. -/
theorem whole_parts (X : Given F) (d : Dev nD) (f : S65536x2x128.Idx → Elt F .f32) :
    (iprop((tLoc d ↦{fullShare} X.tbl d) ∗ (iLoc d ↦{fullShare} X.ls d) ∗ oLoc d ↦{fullShare} f) : sProp 𝕄)
      = bigSep Finset.univ fun c : Fin 2 => bigSep Finset.univ fun i : Fin 16 => part X d (tileNo c.val i.val) f := by
  have ht := pointsTo_piecesOf (Val := Elt F) (Ix := HIx 1) (Name := ℕ) (U := UU) (Lvl := ℕ) (ℓ := tLoc d) Finset.univ (X.tbl d) (o := 32) (by decide) fullShare
  have hi := pointsTo_piecesOf (Val := Elt F) (Ix := HIx 1) (Name := ℕ) (U := UU) (Lvl := ℕ) (ℓ := iLoc d) Finset.univ (X.ls d) (o := 32) (by decide) fullShare
  refine (congr (congrArg _ ht) (congr (congrArg _ hi) (out_tiles d f))).trans ?_
  refine Eq.trans ?_ (bigSep_univ_prod (fun p : Fin 2 × Fin 16 => part X d (tileNo p.1.val p.2.val) f))
  refine Eq.trans ?_ (bigSep_univ_equiv tiles fun w => part X d w f)
  unfold part
  rw [bigSep_sep', bigSep_sep']

/-! ## What the handshakes carry -/

/-- Each core is given its sixteen tiles' parts, hands each tile its own, and gives them back with the result's pieces
    holding what the lists name. -/
def P (X : Given F) : (K (F := F)).Pay (nD := nD) (Val := Elt F) (Name := ℕ) (U := UU) where
  st := fun q d c => match q with | 0 => bigSep Finset.univ fun i : Fin 16 => part X d (tileNo c.val i.val) (X.out d)
  dn := fun q d c => match q with | 0 => bigSep Finset.univ fun i : Fin 16 => part X d (tileNo c.val i.val) (gathered (X.tbl d) (X.ls d))
  go := fun q d c i => match q with | 0 => part X d (tileNo c.val i.val) (X.out d)
  td := fun q d c i => match q with | 0 => part X d (tileNo c.val i.val) (gathered (X.tbl d) (X.ls d))
  x := fun _ _ => iprop(emp)

instance part_storable (X : Given F) (d : Dev nD) (w : Fin 32) (f : S65536x2x128.Idx → Elt F .f32) :
    BI.Storable (upEmb : UEmb _ 𝕄) (part X d w f) := by
  unfold part
  infer_instance

instance P_storable (X : Given F) : (P X).IsStorable where
  st q d c := match q with
    | 0 => (inferInstance : BI.Storable (upEmb : UEmb _ 𝕄) (bigSep Finset.univ fun i : Fin 16 => part X d (tileNo c.val i.val) (X.out d)))
  dn q d c := match q with
    | 0 => (inferInstance : BI.Storable (upEmb : UEmb _ 𝕄)
        (bigSep Finset.univ fun i : Fin 16 => part X d (tileNo c.val i.val) (gathered (X.tbl d) (X.ls d))))
  go q d c i := match q with | 0 => part_storable X d (tileNo c.val i.val) (X.out d)
  td q d c i := match q with | 0 => part_storable X d (tileNo c.val i.val) (gathered (X.tbl d) (X.ls d))

theorem vecSplit (X : Given F) : (K (F := F)).VecSplit' (P X) 0 := by
  intro d c
  show (bigSep Finset.univ fun i : Fin 16 => part X d (tileNo c.val i.val) (X.out d))
    ⊢ |={Set.univ}=> iprop((bigSep Finset.univ fun i : Fin 16 => part X d (tileNo c.val i.val) (X.out d))
      ∗ ((bigSep Finset.univ fun i : Fin 16 => part X d (tileNo c.val i.val) (gathered (X.tbl d) (X.ls d)))
        -∗ bigSep Finset.univ fun i : Fin 16 => part X d (tileNo c.val i.val) (gathered (X.tbl d) (X.ls d))))
  iintro H
  imodintro
  isplitl [H]; · iexact H
  iintro H
  iexact H

/-! ## A tile's own memory and semaphores -/

section Own

variable (d : Dev nD) (L : grid0.Coords)

/-- The nine semaphores of a tile's task. -/
def nine : Finset (SemLoc sig) :=
  {.dma cc0_scratch2.sem, .dma cc0_scratch3.sem, .dma cc0_scratch4.sem, .dma cc0_scratch5.sem, .dma cc0_scratch6.sem,
    .dma cc0_scratch7.sem, .dma cc0_scratch8.sem, .dma cc0_scratch9.sem, .dma cc0_scoped0.sem}

/-- A tile's semaphores, as cells of the mesh. -/
def cellOf (t : Thread nD τ) : SemLoc sig ↪ GSem nD τ sig := ⟨fun s => (t, s), fun _ _ h => (Prod.mk.inj h).2⟩

theorem nine_sub : nine.map (cellOf (thr d L)) ⊆ ownCells (thr d L) := by
  intro g hg
  obtain ⟨s, hs, rfl⟩ := Finset.mem_map.mp hg
  have h : ∀ s ∈ nine, s.isScoped .scVector = true := by decide
  exact mem_ownCells.mpr ⟨rfl, h s hs⟩

theorem sems_nine : (bigSep (nine.map (cellOf (thr d L))) fun g => semVal g 0 : sProp 𝕄) = sems d L := by
  rw [bigSep_map]
  unfold nine
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-- Of the semaphores a tile owns, the task's nine and the rest. -/
theorem ownSems0_nine :
    (ownSems0 (thr d L) : sProp 𝕄)
      = iprop(sems d L ∗ bigSep (ownCells (thr d L) \ nine.map (cellOf (thr d L))) fun g => semVal g 0) := by
  unfold SparseCore.Cfg.ownSems0
  rw [← sems_nine]
  conv_lhs => rw [← Finset.union_sdiff_of_subset (nine_sub d L)]
  exact bigSep_union Finset.disjoint_sdiff

set_option maxRecDepth 16384 in
/-- Of the buffers a tile owns, the task's two and the rest. -/
theorem ownBufs_two :
    (ownBufs (thr d L) : sProp 𝕄)
      = iprop((∃ f, lV.view.loc (thr d L) ↦{fullShare} f) ∗ (∃ f, rV.view.loc (thr d L) ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr
    ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩)]

end Own

/-! ## A tile's task -/

variable [FloatOps F]

theorem tileNo_wid (L : grid0.Coords) : (tileNo (L 0).val (L 1).val).val = wid L := Nat.mod_eq_of_lt (wid_lt L)

/-- A tile's part, as the tile names it. -/
theorem part_eq (X : Given F) (d : Dev nD) (L : grid0.Coords) (f : S65536x2x128.Idx → Elt F .f32) :
    (part X d (tileNo (L 0).val (L 1).val) f : sProp 𝕄)
      = iprop(tPts d L (X.tbl d) (pieceOf fullShare 32 (by decide) (tileNo (L 0).val (L 1).val))
        ∗ (iV.view.loc (thr d L) ↦{pieceOf fullShare 32 (by decide) (tileNo (L 0).val (L 1).val)} X.ls d) ∗ mine d L f) := by
  unfold part
  rw [show (oPts d (2048 * (tileNo (L 0).val (L 1).val).val) (2048 * (tileNo (L 0).val (L 1).val).val + 2048) f : sProp 𝕄) = mine d L f by
    rw [tileNo_wid]; rfl]

/-- The task of the tile at `L`, from the part it is handed to the part it hands back. -/
theorem tile_body (X : Given F) (hX : ∀ d j, (X.ls d j).toNat < 131072) (hF : (K (F := F)).Facts) (d : Dev nD) (L : grid0.Coords)
    (O : CellTallies nD τ sig (HIx 1)) (W : Waits sig (HIx 1)) (hO : ∀ g, O g none = 0) :
    iprop(levAts (K (F := F)).L (K (F := F)).lev ∗ emp ∗ part X d (tileNo (L 0).val (L 1).val) (X.out d)
        ∗ scopedBufs (thr d L) ∗ scopedSems0 (thr d L) ∗ owes (thr d L) O W)
      ⊢ wp frame (wpE (defs₀ (F := F)) 𝒱₀ (thr d L) none) Set.univ
          (cc0_gather_kernel L tV (Memref.isWhole_whole _) iV (Memref.isWhole_whole _) oV (Memref.isWhole_whole _)
            lV (Memref.isWhole_whole _) rV (Memref.isWhole_whole _) cc0_scratch2 cc0_scratch3 cc0_scratch4 cc0_scratch5
            cc0_scratch6 cc0_scratch7 cc0_scratch8 cc0_scratch9 cc0_scoped0)
          fun _ => iprop(part X d (tileNo (L 0).val (L 1).val) (gathered (X.tbl d) (X.ls d))
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_nine, ownBufs_two,
    part_eq, part_eq]
  iintro ⟨#Hlv, -, ⟨Ht, Hi, Ho⟩, ⟨Hl, Hr, Hbufs⟩, ⟨Hs, Hsems⟩, HO⟩
  ihave Hmw := (show levAts (K (F := F)).L (K (F := F)).lev ⊢ Transfers.MayWaits (thr d L) (default : HIx 1) O from
    (K (F := F)).mayWaits_none (thr := thr d L) hO) $$ Hlv
  ihave Hw := (tile_run d L (X.tbl d) (X.ls d) (X.out d) O W (pieceOf fullShare 32 (by decide) (tileNo (L 0).val (L 1).val))
    (pieceOf fullShare 32 (by decide) (tileNo (L 0).val (L 1).val)) (hX d)) $$ [Hmw Ht Hi Ho Hl Hr Hs HO]
  · isplitl [Hmw]; · iexact Hmw
    isplitl [Ht]; · iexact Ht
    isplitl [Hi]; · iexact Hi
    isplitl [Ho]; · iexact Ho
    isplitl [Hl]; · iexact Hl
    isplitl [Hr]; · iexact Hr
    isplitl [Hs]; · iexact Hs
    iexact HO
  iapply (wp_wand_r frame _ _)
  isplitl [Hw]; · iexact Hw
  iintro %_ ⟨Hp, Hl, Hr, Hs, %W', %hW', HO⟩
  isplitl [Hp]; · iexact Hp
  isplitl [Hl Hr Hbufs]
  · isplitl [Hl]; · iexact Hl
    isplitl [Hr]; · iexact Hr
    iexact Hbufs
  isplitl [Hs Hsems]
  · isplitl [Hs]; · iexact Hs
    iexact Hsems
  iexists W'
  isplitr
  · ipureintro
    exact fun p hp => (hW' p hp).imp_right Or.inl
  · iexact HO

/-! ## The obligation -/

/-- The grid's coordinates of a core and a subcore. -/
def coords (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0_gather_kernel (coords c s)
          tV (Memref.isWhole_whole _) iV (Memref.isWhole_whole _) oV (Memref.isWhole_whole _)
            lV (Memref.isWhole_whole _) rV (Memref.isWhole_whole _) cc0_scratch2 cc0_scratch3 cc0_scratch4 cc0_scratch5
            cc0_scratch6 cc0_scratch7 cc0_scratch8 cc0_scratch9 cc0_scoped0) ⟨⟩ c s := rfl

set_option maxRecDepth 16384 in
theorem tileObl (X : Given F) (hX : ∀ d j, (X.ls d j).toNat < 131072) (hF : (K (F := F)).Facts) :
    (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact tile_body X hX hF d (coords ⟨_, hci.1⟩ ⟨_, hci.2⟩) O W hO

end Cert.Proof.Launch

end
-- ==== Proof.Launch.lean ====
/-
  The kernel's run. @main is a line of host operations, the SparseCore call, and one reshape of what the call leaves. The
  line is any (`ops`), so long as the lists it leaves name pieces of the table; the call is `Call`'s; the reshape reads the
  gathered pieces. At the end the argument and the result hold what the line and the call say.
-/
module

public import proofs.«01_k».proof.Proof.Call
public import proofs.«01_k».proof.Proof.Sim

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held seq after launchContents wp_seq wp_hlo_within held_sub_split held_congr)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The launch's ghost state -/

def u₀ : UU := (initOf (K (F := F)).hsCells (K (F := F)).hsToks, 1)

theorem hu₀ (X : Given F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P X).x q t) := by
  have none {I : Type} (s : Finset I) : (bigSep s fun _ => iprop(emp)) = (iprop(emp) : sProp 𝕄) := bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [none]; iempintro
  rw [show (bigSep Finset.univ fun t : Thread nD τ => bigSep Finset.univ fun q : Fin 1 => (P X).x q t) = bigSep Finset.univ fun _ => iprop(emp) from
    bigSep_congr fun _ _ => bigSep_univ_of_subsingleton (0 : Fin 1), none]
  iempintro

/-! ## @main -/

variable [FloatOps F]

/-- @main's last operation: the result's shape. -/
abbrev lastOp : HloOp τ sig (Elt F) :=
  StableHlo.reshape main_v35 main_v36 (rfl : (.f32 : EltTy) = .f32) shapeCasts_S65536x2x128_S4x4096x1024

/-- @main from the call on. -/
abbrev rest (d : Dev nD) : Prog (TpuEff nD τ sig (Elt F) (SparseCore.Sig (ΛP (F := F)) 1) .tc) PUnit := do
  (K (F := F)).run d 0
  hlo rfl lastOp (fun _ => .ret (⟨⟩ : PUnit))
  pure ⟨⟩

/-- The three buffers the call works on, among the TensorCore's. -/
def three : Finset (DevRef τ sig) := {Proc.devRef .tc main_v34, Proc.devRef .tc main_v33, Proc.devRef .tc main_v35}

/-- The argument and the result. -/
def ends : Finset (DevRef τ sig) := {Proc.devRef .tc main_arg0, Proc.devRef .tc main_v36}

theorem mem_ucRefs (x : Ref sig .tc) (h : (Proc.devRef .tc x : DevRef τ sig).isScoped = false) : Proc.devRef .tc x ∈ Pipeline.ucRefs τ sig :=
  Finset.mem_filter.mpr ⟨Finset.mem_map.mpr ⟨x, Finset.mem_univ _, rfl⟩, by rw [h]; exact Bool.false_ne_true⟩

theorem three_sub : three ⊆ Pipeline.ucRefs τ sig := by
  intro b hb
  simp only [three, Finset.mem_insert, Finset.mem_singleton] at hb
  rcases hb with rfl | rfl | rfl <;> exact mem_ucRefs _ rfl

theorem ends_sub : ends ⊆ Pipeline.ucRefs τ sig := by
  intro b hb
  simp only [ends, Finset.mem_insert, Finset.mem_singleton] at hb
  rcases hb with rfl | rfl <;> exact mem_ucRefs _ rfl

theorem ref_ne {x y : Ref sig .tc} (h : x.idx.val ≠ y.idx.val) : (Proc.devRef .tc x : DevRef τ sig) ≠ Proc.devRef .tc y :=
  fun e => h (by rw [Proc.devRef_injective _ e])

theorem held_three (d : Dev nD) (V : Valuation τ sig (Elt F)) :
    (held (SparseCore.T d) three V : sProp 𝕄)
      = iprop((tLoc d ↦{fullShare} V (Proc.devRef .tc main_v34)) ∗ (iLoc d ↦{fullShare} V (Proc.devRef .tc main_v33))
        ∗ oLoc d ↦{fullShare} V (Proc.devRef .tc main_v35)) := by
  unfold held three
  rw [SparseCore.bigSep_insert' (by
      simp only [Finset.mem_insert, Finset.mem_singleton, not_or]
      exact ⟨ref_ne (by decide), ref_ne (by decide)⟩),
    SparseCore.bigSep_insert' (by
      simp only [Finset.mem_singleton]
      exact ref_ne (by decide)), bigSep_singleton]

theorem held_ends (d : Dev nD) (V : Valuation τ sig (Elt F)) :
    (held (SparseCore.T d) ends V : sProp 𝕄)
      = iprop(((SparseCore.T d).loc main_arg0 ↦{fullShare} V (Proc.devRef .tc main_arg0))
        ∗ (SparseCore.T d).loc main_v36 ↦{fullShare} V (Proc.devRef .tc main_v36)) := by
  unfold held ends
  rw [SparseCore.bigSep_insert' (by
      simp only [Finset.mem_singleton]
      exact ref_ne (by decide)), bigSep_singleton]

variable (m : (ℓ : Loc nD τ sig) → Buf (Elt F) ℓ) (ρ : Dev nD → PrngReg) (ops : Dev nD → List (HloOp τ sig (Elt F)))

/-- What the line leaves. -/
abbrev mid (d : Dev nD) : Valuation τ sig (Elt F) := after (ops d) (launchContents m d)

/-- What the call finds. -/
abbrev given : Given F where
  tbl d := mid m ops d (Proc.devRef .tc main_v34)
  ls d := mid m ops d (Proc.devRef .tc main_v33)
  out d := mid m ops d (Proc.devRef .tc main_v35)

/-- What the call leaves: the result gathered. -/
abbrev called (d : Dev nD) : Valuation τ sig (Elt F) :=
  Function.update (mid m ops d) (Proc.devRef .tc main_v35) (gathered ((given m ops).tbl d) ((given m ops).ls d))

/-- What @main leaves. -/
abbrev final (d : Dev nD) : Valuation τ sig (Elt F) := (lastOp (F := F)).result (called m ops d)

theorem st0_eq (X : Given F) (d : Dev nD) :
    (bigSep Finset.univ fun c : Fin ((K (F := F)).nCore 0) => (P X).st 0 d c)
      = (iprop((tLoc d ↦{fullShare} X.tbl d) ∗ (iLoc d ↦{fullShare} X.ls d) ∗ oLoc d ↦{fullShare} X.out d) : sProp 𝕄) :=
  (whole_parts X d (X.out d)).symm

theorem dn0_eq (X : Given F) (d : Dev nD) :
    (bigSep Finset.univ fun c : Fin ((K (F := F)).nCore 0) => (P X).dn 0 d c)
      = (iprop((tLoc d ↦{fullShare} X.tbl d) ∗ (iLoc d ↦{fullShare} X.ls d) ∗ oLoc d ↦{fullShare} gathered (X.tbl d) (X.ls d)) : sProp 𝕄) :=
  (whole_parts X d (gathered (X.tbl d) (X.ls d))).symm

/-- The buffers at `V'`, out of the three and the rest, where `V` says what the rest holds. -/
theorem held_join (d : Dev nD) (V V' : Valuation τ sig (Elt F)) (h : ∀ b, b ∉ three → V b = V' b) :
    (iprop(((tLoc d ↦{fullShare} V' (Proc.devRef .tc main_v34)) ∗ (iLoc d ↦{fullShare} V' (Proc.devRef .tc main_v33))
        ∗ oLoc d ↦{fullShare} V' (Proc.devRef .tc main_v35))
      ∗ held (SparseCore.T d) (Pipeline.ucRefs τ sig \ three) V) : sProp 𝕄)
      = held (SparseCore.T d) (Pipeline.ucRefs τ sig) V' := by
  rw [held_sub_split (SparseCore.T d) three_sub V', held_three, held_congr (SparseCore.T d) fun b hb => h b (Finset.mem_sdiff.mp hb).2]

/-- The buffers after the call, out of what it brings back and the rest. -/
theorem held_called (d : Dev nD) :
    (iprop(((tLoc d ↦{fullShare} (given m ops).tbl d) ∗ (iLoc d ↦{fullShare} (given m ops).ls d)
        ∗ oLoc d ↦{fullShare} gathered ((given m ops).tbl d) ((given m ops).ls d))
      ∗ held (SparseCore.T d) (Pipeline.ucRefs τ sig \ three) (mid m ops d)) : sProp 𝕄)
      = held (SparseCore.T d) (Pipeline.ucRefs τ sig) (called m ops d) := by
  have e1 : called m ops d (Proc.devRef .tc main_v34) = (given m ops).tbl d := Function.update_of_ne (ref_ne (by decide)) _ _
  have e2 : called m ops d (Proc.devRef .tc main_v33) = (given m ops).ls d := Function.update_of_ne (ref_ne (by decide)) _ _
  have e3 : called m ops d (Proc.devRef .tc main_v35) = gathered ((given m ops).tbl d) ((given m ops).ls d) := Function.update_self _ _ _
  have h := held_join d (mid m ops d) (called m ops d) fun b hb => (Function.update_of_ne (by rintro rfl; exact hb (by simp [three])) _ _).symm
  rw [e1, e2, e3] at h
  exact h

/-- @main leaves the argument and the result held. -/
abbrev FIN (d : Dev nD) : sProp 𝕄 := held (SparseCore.T d) ends (final m ops d)

theorem hmain (hops : ∀ d, main d = (seq (ops d) >>= fun _ => rest (F := F) d)) (hgood : ∀ d, Sim.Good (ops d))
    (κ : GSem nD τ sig → ℕ) (d : Dev nD) :
    iprop((K (F := F)).ctx EH (P (given m ops)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m ops d ∗ (K (F := F)).tcEnd d) := by
  unfold SparseCore.Cfg.tcRes SparseCore.Cfg.tcEnd
  rw [hops d, show (unscopedBufs d (fun b => m ((SparseCore.T d).loc b)) : sProp 𝕄)
    = held (SparseCore.T d) (Pipeline.ucRefs τ sig) (launchContents m d) from Pipeline.unscopedBufs_held d (launchContents m d)]
  iintro ⟨#Hctx, Hst, ⟨Hb, Hh, Hts, -⟩, -⟩
  iapply (wp_seq 𝒱 none Set.univ d (Pipeline.ucRefs τ sig) (fun _ => rest (F := F) d) (ops d)
    (fun op h => Pipeline.sub_ucRefs op (hgood d op h).1) (fun op h => (hgood d op h).2) (launchContents m d)) $$ [Hb Hh]
  · isplitl [Hb]; · iexact Hb
    iexact Hh
  iintro ⟨Hb, Hh⟩
  simp only [rest, wp_bind, wp_pure]
  ihave Hh := (Entails.of_eq (held_sub_split (SparseCore.T d) three_sub (mid m ops d))) $$ Hh
  icases Hh with ⟨H3, Hr⟩
  ihave H3 := (Entails.of_eq ((held_three d (mid m ops d)).trans (st0_eq (given m ops) d).symm)) $$ H3
  iapply ((K (F := F)).wp_run (D (F := F)) 𝒱 (EH := EH) (P := P (given m ops)) κ d 0) $$ [Hst H3 Hr Hb Hts]
  isplitr; · iexact Hctx
  isplitl [Hst]; · iexact Hst
  isplitl [H3]; · iexact H3
  iintro ⟨Hst, Hdn⟩
  ihave Hdn := (Entails.of_eq (dn0_eq (given m ops) d)) $$ Hdn
  ihave Hh := (Entails.of_eq (held_called m ops d)) $$ [Hdn Hr]
  · isplitl [Hdn]; · iexact Hdn
    iexact Hr
  iapply (wp_hlo_within 𝒱 (SparseCore.T d) none Set.univ (op := lastOp (F := F)) (S := Pipeline.ucRefs τ sig) (V := called m ops d)
    (Pipeline.sub_ucRefs _ (by simp only [StableHlo.reshape_bufs_sub]))) $$ [Hb Hh]
  · isplitl [Hb]; · iexact Hb
    iexact Hh
  iintro ⟨Hb, Hh⟩
  rw [wp_ret]
  imodintro
  ihave Hh := (Entails.of_eq (held_sub_split (SparseCore.T d) ends_sub (final m ops d))) $$ Hh
  icases Hh with ⟨He, -⟩
  imodintro
  isplitl [Hst]; · iexact Hst
  isplitl [He]; · iexact He
  isplitl [Hb]; · iexact Hb
  iexact Hts

def fq (d : Dev nD) (s' : Phys nD τ sig (Elt F)) : Prop :=
  s'.mem.mem ((SparseCore.T d).loc main_arg0) = final m ops d (Proc.devRef .tc main_arg0)
    ∧ s'.mem.mem ((SparseCore.T d).loc main_v36) = final m ops d (Proc.devRef .tc main_v36)

set_option maxRecDepth 16384 in
theorem hfin (d : Dev nD) (s' : Phys nD τ sig (Elt F)) : iprop(FIN m ops d ∗ SI s') ⊢ (⌜fq m ops d s'⌝ : sProp 𝕄) := by
  unfold FIN
  rw [held_ends]
  iintro ⟨⟨Ha, Hr⟩, HSI⟩
  ihave H := (persistent_entails_right (SI_pointsTo_agree (st := s') (ℓ := (SparseCore.T d).loc main_arg0) (I := Finset.univ) (q := fullShare)
    (f := final m ops d (Proc.devRef .tc main_arg0)))) $$ [HSI Ha]
  · isplitl [HSI] <;> iassumption
  icases H with ⟨%h1, HSI, -⟩
  ihave H := (SI_pointsTo_agree (st := s') (ℓ := (SparseCore.T d).loc main_v36) (I := Finset.univ) (q := fullShare)
    (f := final m ops d (Proc.devRef .tc main_v36))) $$ [HSI Hr]
  · isplitl [HSI] <;> iassumption
  icases H with %h2
  ipureintro
  exact ⟨funext fun i => h1 i (Finset.mem_univ i), funext fun i => h2 i (Finset.mem_univ i)⟩

/-- The argument is what the line leaves of it. -/
theorem final_arg (d : Dev nD) : final m ops d (Proc.devRef .tc main_arg0) = mid m ops d (Proc.devRef .tc main_arg0) := by
  unfold final
  rw [StableHlo.result_of_writes_ne _ _ main_v36 main_arg0 rfl (fun e => absurd (congrArg (fun x : Ref sig .tc => x.idx.val) e) (by decide))]
  exact Function.update_of_ne (ref_ne (by decide)) _ _

/-- The result is the gathered pieces, reshaped. -/
theorem final_out (d : Dev nD) :
    final m ops d (Proc.devRef .tc main_v36)
      = shapeCast S4x4096x1024 (gathered ((given m ops).tbl d) ((given m ops).ls d)) shapeCasts_S65536x2x128_S4x4096x1024 := by
  unfold final
  rw [StableHlo.reshape_result]
  have e : called m ops d (Proc.devRef .tc main_v35) = gathered ((given m ops).tbl d) ((given m ops).ls d) := Function.update_self _ _ _
  rw [e]
  rfl

/-- The kernel's run: the argument as the line leaves it, the result gathered, every semaphore at zero. -/
theorem run_main [∀ e, Nonempty (Elt F e)] (hops : ∀ d, main d = (seq (ops d) >>= fun _ => rest (F := F) d)) (hgood : ∀ d, Sim.Good (ops d))
    (hin : ∀ (d : Dev nD) (j : S32x32x64.Idx), ((given m ops).ls d j).toNat < 131072) :
    θ_run (Cert.KernelIdeal.defs (F := F)) (Cert.KernelIdeal.threads (F := F)) ⟨m, fun _ => 0, ρ⟩ fun r =>
      (∀ c : Dev nD, r.2.mem ((SparseCore.T c).loc main_arg0) = mid m ops c (Proc.devRef .tc main_arg0)
        ∧ r.2.mem ((SparseCore.T c).loc main_v36)
          = shapeCast S4x4096x1024 (gathered ((given m ops).tbl c) ((given m ops).ls c)) shapeCasts_S65536x2x128_S4x4096x1024)
      ∧ r.2.sem = fun _ => 0 :=
  SparseCore.Cfg.θ_run_sc_quiescent (K := K (F := F)) (D := D (F := F)) (𝒱 := 𝒱) (EH := EH) (P := P (given m ops)) (A := ∅) facts v₀
    (fun q hq => match q with | 0 => nomatch hq)
    (fun q _ => match q with | 0 => tileObl (given m ops) hin facts)
    (fun q _ => match q with | 0 => SparseCore.Cfg.VecSplit.of_plain (vecSplit (given m ops)))
    m ρ main (fun _ => iprop(emp)) (FIN m ops) (u₀ (F := F)) (sep_elim_left.trans (hu₀ (given m ops))) (hmain m ρ ops hops hgood)
    (fq m ops) (hfin m ops) _
    (fun _ h hz => ⟨fun c => ⟨(h c).1.trans (final_arg m ops c), (h c).2.trans (final_out m ops c)⟩, hz⟩)

end Cert.Proof.Launch

end
-- ==== Proof.Prefix.lean ====
/-
  The row numbers. @main of the kernel and @main of the reference begin with the same operations on buffers of the same
  numbers: they draw the offsets, sort each batch's, add each one's position and one, and put a zero in front. After them
  the two programs hold the same numbers, and a number is below the table's 8192 rows: an offset is at most 4096, its
  position at most 4094.
-/
module

public import proofs.«01_k».proof.Proof.Randint
public import proofs.«01_k».proof.Proof.Launch
public import Idealize.ShloMosaic.Lib.PointwiseCore

@[expose] public section

set_option maxRecDepth 4000
set_option maxHeartbeats 8000000

noncomputable section

namespace Cert.Proof.Prefix

open Idealize.ShloMosaic Idealize.ShloMosaic.StableHlo Idealize.SL.Sem Cert.Proof.Sim

variable {F : FTy → Type} [FloatOps F]

/-! ## The sort -/

/-- An element of a sorted array is an element of the array. -/
theorem sort_of_forall {s : Shape} {d : ℕ} {α : Type} {cmp : α → α → BitVec 1} {x : s.Idx → α} {p : α → Prop}
    (h : ∀ j, p (x j)) (j : s.Idx) : p (Host.sort s d cmp x j) := by
  unfold Host.sort
  split <;> exact h _

/-- The sorted offsets are below 4097. -/
def Sorted (Q : Pred F) : Pred F := fun V =>
  Q V ∧ ∀ j, (V (Proc.devRef .tc KernelIdeal.main_v8) j : BitVec 32).toNat < 4097

theorem Sorted.stable {Q : Pred F} (hQ : Stable 1 Q) : Stable 786 (Sorted Q) :=
  (hQ.mono (n' := 786) (by decide)).and
    (Stable.rd (n := 786) (k := 785)
      (x := (.of KernelIdeal.main_v8 : TRef KernelIdeal.sig ⟨KernelIdeal.S4x4095, .i32⟩)) ⟨rfl, rfl⟩ (by decide)
      fun w : BufTy.Contents (Elt F) ⟨KernelIdeal.S4x4095, .i32⟩ => ∀ j, (w j : BitVec 32).toNat < 4097)

theorem sim_sort (Q : Pred F) (hQ : Stable 1 Q) :
    Sim 785 (Offsets Q)
      (KernelIdeal.fn_sort.body (.of KernelIdeal.main_v7) KernelIdeal.main_call1)
      (ReferenceIdeal.fn_sort.body (.of ReferenceIdeal.main_v7) ReferenceIdeal.main_call1)
      786 (Sorted Q) (pure ⟨⟩) (pure ⟨⟩) := by
  unfold KernelIdeal.fn_sort.body ReferenceIdeal.fn_sort.body
  refine Sim.unary' ⟨rfl, rfl⟩ ⟨rfl, rfl⟩ ⟨rfl, rfl⟩ ⟨rfl, rfl⟩ (Nat.le_of_ble_eq_true rfl) ?_
  refine Sim.weaken (Sorted Q) (Sorted.stable hQ) ?_ Sim.stop
  rintro V ⟨⟨hq, hb⟩, h⟩
  refine ⟨hq, fun j => ?_⟩
  rw [show V (Proc.devRef .tc KernelIdeal.main_v8) = _ from h]
  exact sort_of_forall (p := fun w : BitVec 32 => w.toNat < 4097) hb j

/-! ## @main up to the row numbers -/

/-- The row numbers are below 8192. -/
def Indexed (Q : Pred F) : Pred F := fun V =>
  Q V ∧ ∀ j, (V (Proc.devRef .tc KernelIdeal.main_v16) j : BitVec 32).toNat < 8192

theorem Indexed.stable {Q : Pred F} (hQ : Stable 1 Q) : Stable 796 (Indexed Q) :=
  (hQ.mono (n' := 796) (by decide)).and
    (Stable.rd (n := 796) (k := 795)
      (x := (.of KernelIdeal.main_v16 : TRef KernelIdeal.sig ⟨KernelIdeal.S4x4096, .i32⟩)) ⟨rfl, rfl⟩ (by decide)
      fun w : BufTy.Contents (Elt F) ⟨KernelIdeal.S4x4096, .i32⟩ => ∀ j, (w j : BitVec 32).toNat < 8192)

theorem Bounds.stable {Q : Pred F} (hQ : Stable 1 Q) : Stable 13 (Bounds Q) :=
  ((hQ.mono (n' := 13) (by decide)).and
    (Stable.rd (n := 13) (k := 11) (x := (.of KernelIdeal.main_c_2 : TRef KernelIdeal.sig ⟨KernelIdeal.S_, .i32⟩))
      ⟨rfl, rfl⟩ (by decide)
      fun w : BufTy.Contents (Elt F) ⟨KernelIdeal.S_, .i32⟩ => w = constantI KernelIdeal.S_ 32 0#32)).and
    (Stable.rd (n := 13) (k := 12) (x := (.of KernelIdeal.main_c_3 : TRef KernelIdeal.sig ⟨KernelIdeal.S_, .i32⟩))
      ⟨rfl, rfl⟩ (by decide)
      fun w : BufTy.Contents (Elt F) ⟨KernelIdeal.S_, .i32⟩ => w = constantI KernelIdeal.S_ 32 4097#32)

section Rest

open Cert.KernelIdeal Cert.KernelIdeal.Gen

/-- What the kernel's @main does after the row numbers, up to the SparseCore call: the numbers are moved to the flat table
    of 32768 rows, each is made four, one for each piece of its row, and the lists and the table get the call's shapes. -/
def afterK (d : Dev nD) : HP nD τ sig (Elt F) (SparseCore.Sig (Pipeline.Sig Λ₀ (Fin 0) fun p => (pcfgs (F := F) p).Adm) 1) := do
  hlo rfl (StableHlo.nullary main_v17 (iotaInDim S4 32 0)) (fun _ => .ret ⟨⟩)
  hlo rfl (StableHlo.nullary main_c_6 (constantI S_ 32 8192#32)) (fun _ => .ret ⟨⟩)
  hlo rfl (StableHlo.unary main_c_6 main_v18 (broadcastInDim S4 ![] bcast_S_S4 : (⟨S_, .i32⟩ : BufTy).Contents (Elt F) → (⟨S4, .i32⟩ : BufTy).Contents (Elt F))) (fun _ => .ret ⟨⟩)
  hlo rfl (StableHlo.binary main_v17 main_v18 main_v19 (muli : (⟨S4, .i32⟩ : BufTy).Contents (Elt F) → (⟨S4, .i32⟩ : BufTy).Contents (Elt F) → (⟨S4, .i32⟩ : BufTy).Contents (Elt F))) (fun _ => .ret ⟨⟩)
  hlo rfl (StableHlo.unary main_v19 main_v20 (broadcastInDim S4x1 ![0] bcast_S4_S4x1_0 : (⟨S4, .i32⟩ : BufTy).Contents (Elt F) → (⟨S4x1, .i32⟩ : BufTy).Contents (Elt F))) (fun _ => .ret ⟨⟩)
  hlo rfl (StableHlo.unary main_v20 main_v21 (broadcastInDim S4x4096 ![0, 1] bcast_S4x1_S4x4096_0_1 : (⟨S4x1, .i32⟩ : BufTy).Contents (Elt F) → (⟨S4x4096, .i32⟩ : BufTy).Contents (Elt F))) (fun _ => .ret ⟨⟩)
  hlo rfl (StableHlo.binary main_v16 main_v21 main_v22 (addi : (⟨S4x4096, .i32⟩ : BufTy).Contents (Elt F) → (⟨S4x4096, .i32⟩ : BufTy).Contents (Elt F) → (⟨S4x4096, .i32⟩ : BufTy).Contents (Elt F))) (fun _ => .ret ⟨⟩)
  hlo rfl (StableHlo.reshape main_v22 main_v23 (rfl : (.i32 : EltTy) = .i32) shapeCasts_S4x4096_S16384) (fun _ => .ret ⟨⟩)
  hlo rfl (StableHlo.unary main_v23 main_v24 (broadcastInDim S16384x1 ![0] bcast_S16384_S16384x1_0 : (⟨S16384, .i32⟩ : BufTy).Contents (Elt F) → (⟨S16384x1, .i32⟩ : BufTy).Contents (Elt F))) (fun _ => .ret ⟨⟩)
  hlo rfl (StableHlo.nullary main_c_7 (constantI S_ 32 4#32)) (fun _ => .ret ⟨⟩)
  hlo rfl (StableHlo.unary main_c_7 main_v25 (broadcastInDim S16384x1 ![] bcast_S_S16384x1 : (⟨S_, .i32⟩ : BufTy).Contents (Elt F) → (⟨S16384x1, .i32⟩ : BufTy).Contents (Elt F))) (fun _ => .ret ⟨⟩)
  hlo rfl (StableHlo.binary main_v24 main_v25 main_v26 (muli : (⟨S16384x1, .i32⟩ : BufTy).Contents (Elt F) → (⟨S16384x1, .i32⟩ : BufTy).Contents (Elt F) → (⟨S16384x1, .i32⟩ : BufTy).Contents (Elt F))) (fun _ => .ret ⟨⟩)
  hlo rfl (StableHlo.nullary main_v27 (iotaInDim S4 32 0)) (fun _ => .ret ⟨⟩)
  hlo rfl (StableHlo.unary main_v27 main_v28 (broadcastInDim S1x4 ![1] bcast_S4_S1x4_1 : (⟨S4, .i32⟩ : BufTy).Contents (Elt F) → (⟨S1x4, .i32⟩ : BufTy).Contents (Elt F))) (fun _ => .ret ⟨⟩)
  hlo rfl (StableHlo.unary main_v26 main_v29 (broadcastInDim S16384x4 ![0, 1] bcast_S16384x1_S16384x4_0_1 : (⟨S16384x1, .i32⟩ : BufTy).Contents (Elt F) → (⟨S16384x4, .i32⟩ : BufTy).Contents (Elt F))) (fun _ => .ret ⟨⟩)
  hlo rfl (StableHlo.unary main_v28 main_v30 (broadcastInDim S16384x4 ![0, 1] bcast_S1x4_S16384x4_0_1 : (⟨S1x4, .i32⟩ : BufTy).Contents (Elt F) → (⟨S16384x4, .i32⟩ : BufTy).Contents (Elt F))) (fun _ => .ret ⟨⟩)
  hlo rfl (StableHlo.binary main_v29 main_v30 main_v31 (addi : (⟨S16384x4, .i32⟩ : BufTy).Contents (Elt F) → (⟨S16384x4, .i32⟩ : BufTy).Contents (Elt F) → (⟨S16384x4, .i32⟩ : BufTy).Contents (Elt F))) (fun _ => .ret ⟨⟩)
  hlo rfl (StableHlo.reshape main_v31 main_v32 (rfl : (.i32 : EltTy) = .i32) shapeCasts_S16384x4_S65536) (fun _ => .ret ⟨⟩)
  hlo rfl (StableHlo.reshape main_v32 main_v33 (rfl : (.i32 : EltTy) = .i32) shapeCasts_S65536_S32x32x64) (fun _ => .ret ⟨⟩)
  hlo rfl (StableHlo.reshape main_arg0 main_v34 (rfl : (.f32 : EltTy) = .f32) shapeCasts_S4x8192x1024_S131072x2x128) (fun _ => .ret ⟨⟩)
  Launch.rest (F := F) d

end Rest

/-- What the reference's @main does after the row numbers: it takes the rows. -/
def afterR : HP ReferenceIdeal.nD ReferenceIdeal.τ ReferenceIdeal.sig (Elt F)
    (Pipeline.Sig ReferenceIdeal.Λ₀ (Fin 0) fun p => (ReferenceIdeal.pcfgs (F := F) p).Adm) := do
  hlo rfl (StableHlo.unary ReferenceIdeal.main_v16 ReferenceIdeal.main_v17 (broadcastInDim ReferenceIdeal.S4x4096x1 ![0, 1] ReferenceIdeal.Gen.bcast_S4x4096_S4x4096x1_0_1 : (⟨ReferenceIdeal.S4x4096, .i32⟩ : BufTy).Contents (Elt F) → (⟨ReferenceIdeal.S4x4096x1, .i32⟩ : BufTy).Contents (Elt F))) (fun _ => .ret ⟨⟩)
  ReferenceIdeal.fn_take_along_axis.body (F := F) (.of ReferenceIdeal.main_arg0) (.of ReferenceIdeal.main_v17) ReferenceIdeal.main_call2
  pure ⟨⟩

/-- The largest number: an offset of 4096 at position 4094, and one. Zero in front. -/
theorem number_lt (s : IVec KernelIdeal.S4x4095 32) (hs : ∀ j, (s j).toNat < 4097) (j : KernelIdeal.S4x4096.Idx) :
    (concatenate KernelIdeal.S4x4096 1
      [⟨KernelIdeal.S4x1, broadcastInDim KernelIdeal.S4x1 ![] KernelIdeal.Gen.bcast_S_S4x1 (constantI KernelIdeal.S_ 32 0#32)⟩,
        ⟨KernelIdeal.S4x4095, addi (addi s (broadcastInDim KernelIdeal.S4x4095 ![0, 1] KernelIdeal.Gen.bcast_S1x4095_S4x4095_0_1
            (shapeCast KernelIdeal.S1x4095 (iotaInDim KernelIdeal.S4095 32 0) KernelIdeal.Gen.shapeCasts_S4095_S1x4095)))
          (broadcastInDim KernelIdeal.S4x4095 ![] KernelIdeal.Gen.bcast_S_S4x4095 (constantI KernelIdeal.S_ 32 1#32))⟩]
      KernelIdeal.Gen.concatenates_S4x1_S4x4095_S4x4096_d1 j).toNat < 8192 := by
  pointwise
  have hlt := hs (ix2 (j 0) ⟨(j 1).val - 1, by have := (j 1).isLt; simp at this ⊢; omega⟩)
  have hj : (j 1).val < 4096 := (j 1).isLt
  split
  · decide
  · simp only [IntOp.addi, BitVec.toNat_add, BitVec.toNat_ofNat]
    omega

/-- The two programs up to the row numbers, whatever is known of their argument. -/
theorem sim_main (Q : Pred F) (hQ : Stable 1 Q) (d : Dev KernelIdeal.nD) (d' : Dev ReferenceIdeal.nD) :
    Sim 1 Q (KernelIdeal.main (F := F) d) (ReferenceIdeal.main (F := F) d') 796 (Indexed Q) (afterK d) afterR := by
  unfold KernelIdeal.main ReferenceIdeal.main
  iterate 10 first
    | (with_reducible refine Sim.rawBinary ?_ ?_ ?_ ?_ ?_ ?_ ?_ ?_ ?_ ?_ ?_ ?_ ?_
       iterate 3 exact rfl
       exact HEq.rfl
       iterate 6 exact ⟨rfl, rfl⟩
       iterate 2 exact Nat.le_of_ble_eq_true rfl)
    | (with_reducible refine Sim.rawUnary ?_ ?_ ?_ ?_ ?_ ?_ ?_ ?_ ?_
       iterate 2 exact rfl
       exact HEq.rfl
       iterate 4 exact ⟨rfl, rfl⟩
       exact Nat.le_of_ble_eq_true rfl)
    | (with_reducible refine Sim.rawNullary ?_ ?_ ?_ ?_ ?_
       exact rfl
       exact HEq.rfl
       iterate 2 exact ⟨rfl, rfl⟩)
  refine Sim.weaken Q (hQ.mono (by decide)) (fun V h => h.1.1.1.1.1.1.1.1.1.1) ?_
  iterate 2
    with_reducible refine Sim.rawNullary ?_ ?_ ?_ ?_ ?_
    exact rfl
    exact HEq.rfl
    iterate 2 exact ⟨rfl, rfl⟩
  refine Sim.weaken (Bounds Q) (Bounds.stable hQ) (fun V h => h) ?_
  refine Sim.call (sim_randint Q hQ) (Sim.call (sim_sort Q hQ) ?_)
  iterate 10 first
    | (with_reducible refine Sim.rawBinary ?_ ?_ ?_ ?_ ?_ ?_ ?_ ?_ ?_ ?_ ?_ ?_ ?_
       iterate 3 exact rfl
       exact HEq.rfl
       iterate 6 exact ⟨rfl, rfl⟩
       iterate 2 exact Nat.le_of_ble_eq_true rfl)
    | (with_reducible refine Sim.rawReshape ?_ ?_ ?_ ?_ ?_ ?_ ?_ ?_
       iterate 2 exact rfl
       iterate 4 exact ⟨rfl, rfl⟩
       exact Nat.le_of_ble_eq_true rfl)
    | (with_reducible refine Sim.rawUnary ?_ ?_ ?_ ?_ ?_ ?_ ?_ ?_ ?_
       iterate 2 exact rfl
       exact HEq.rfl
       iterate 4 exact ⟨rfl, rfl⟩
       exact Nat.le_of_ble_eq_true rfl)
    | (with_reducible refine Sim.rawNullary ?_ ?_ ?_ ?_ ?_
       exact rfl
       exact HEq.rfl
       iterate 2 exact ⟨rfl, rfl⟩)
  refine Sim.weaken (Indexed Q) (Indexed.stable hQ) ?_ Sim.stop
  rintro V ⟨⟨⟨⟨⟨⟨⟨⟨⟨⟨⟨hq, hs⟩, h9⟩, h10⟩, h11⟩, h12⟩, hc4⟩, h13⟩, h14⟩, hc5⟩, h15⟩, h16⟩
  refine ⟨hq, fun j => ?_⟩
  rw [h16, h15, hc5, h14, h13, hc4, h12, h11, h10, h9]
  exact number_lt _ hs j

end Cert.Proof.Prefix

end
-- ==== Proof.Tails.lean ====
/-
  What each program does with the row numbers: the kernel makes them the call's lists of pieces, the reference takes the
  rows. Each is read off the program's operations, recorded one by one.
-/
module

public import proofs.«01_k».proof.Proof.Prefix

@[expose] public section

set_option maxRecDepth 4000
set_option maxHeartbeats 8000000

noncomputable section

namespace Cert.Proof.Tails

open Idealize.ShloMosaic Idealize.ShloMosaic.StableHlo Idealize.SL.Sem Cert.Proof.Sim Cert.Proof.Prefix

variable {F : FTy → Type} [FloatOps F]

/-! ## The kernel -/

section Kernel

open Cert.KernelIdeal Cert.KernelIdeal.Gen

/-- The rows' numbers in the table of all the batches' rows. -/
def rowsOf (i : IVec S4x4096 32) : IVec S4x4096 32 :=
  addi i (broadcastInDim S4x4096 ![0, 1] bcast_S4x1_S4x4096_0_1
    (broadcastInDim S4x1 ![0] bcast_S4_S4x1_0 (muli (iotaInDim S4 32 0) (broadcastInDim S4 ![] bcast_S_S4 (constantI S_ 32 8192#32)))))

/-- The pieces' numbers: four to a row. -/
def piecesOf (r : IVec S16384 32) : IVec S16384x4 32 :=
  addi
    (broadcastInDim S16384x4 ![0, 1] bcast_S16384x1_S16384x4_0_1
      (muli (broadcastInDim S16384x1 ![0] bcast_S16384_S16384x1_0 r)
        (broadcastInDim S16384x1 ![] bcast_S_S16384x1 (constantI S_ 32 4#32))))
    (broadcastInDim S16384x4 ![0, 1] bcast_S1x4_S16384x4_0_1 (broadcastInDim S1x4 ![1] bcast_S4_S1x4_1 (iotaInDim S4 32 0)))

/-- The call's lists. -/
def listsOf (i : IVec S4x4096 32) : IVec S32x32x64 32 :=
  shapeCast S32x32x64
    (shapeCast S65536 (piecesOf (shapeCast S16384 (rowsOf i) shapeCasts_S4x4096_S16384)) shapeCasts_S16384x4_S65536)
    shapeCasts_S65536_S32x32x64

/-- The argument and the row numbers, before. -/
def KnownK (x : S4x8192x1024.Idx → F .f32) (i : IVec S4x4096 32) : Pred F := fun V =>
  V (Proc.devRef .tc main_arg0) = x ∧ V (Proc.devRef .tc main_v16) = i

/-- The argument, the lists and the table, after. -/
def ReadyK (x : S4x8192x1024.Idx → F .f32) (i : IVec S4x4096 32) : Pred F := fun V =>
  (V (Proc.devRef .tc main_arg0) = x ∧ V (Proc.devRef .tc main_v33) = listsOf i)
    ∧ V (Proc.devRef .tc main_v34) = shapeCast S131072x2x128 x shapeCasts_S4x8192x1024_S131072x2x128

theorem ReadyK.stable (x : S4x8192x1024.Idx → F .f32) (i : IVec S4x4096 32) : Stable 816 (ReadyK x i) :=
  ((Stable.rd (n := 816) (k := 0) (x := (.of main_arg0 : TRef sig ⟨S4x8192x1024, .f32⟩)) ⟨rfl, rfl⟩ (by decide)
      fun w : BufTy.Contents (Elt F) ⟨S4x8192x1024, .f32⟩ => w = x).and
    (Stable.rd (n := 816) (k := 814) (x := (.of main_v33 : TRef sig ⟨S32x32x64, .i32⟩)) ⟨rfl, rfl⟩ (by decide)
      fun w : BufTy.Contents (Elt F) ⟨S32x32x64, .i32⟩ => w = listsOf i)).and
    (Stable.rd (n := 816) (k := 815) (x := (.of main_v34 : TRef sig ⟨S131072x2x128, .f32⟩)) ⟨rfl, rfl⟩ (by decide)
      fun w : BufTy.Contents (Elt F) ⟨S131072x2x128, .f32⟩ =>
        w = shapeCast S131072x2x128 x shapeCasts_S4x8192x1024_S131072x2x128)

/-- From the row numbers to the call. -/
theorem sim_afterK (d : Dev nD) (x : S4x8192x1024.Idx → F .f32) (i : IVec S4x4096 32) :
    Sim 796 (KnownK x i) (afterK d) (afterK d) 816 (ReadyK x i) (Launch.rest (F := F) d) (Launch.rest (F := F) d) := by
  unfold afterK
  iterate 20 first
    | (with_reducible refine Sim.rawBinary ?_ ?_ ?_ ?_ ?_ ?_ ?_ ?_ ?_ ?_ ?_ ?_ ?_
       iterate 3 exact rfl
       exact HEq.rfl
       iterate 6 exact ⟨rfl, rfl⟩
       iterate 2 exact Nat.le_of_ble_eq_true rfl)
    | (with_reducible refine Sim.rawReshape ?_ ?_ ?_ ?_ ?_ ?_ ?_ ?_
       iterate 2 exact rfl
       iterate 4 exact ⟨rfl, rfl⟩
       exact Nat.le_of_ble_eq_true rfl)
    | (with_reducible refine Sim.rawUnary ?_ ?_ ?_ ?_ ?_ ?_ ?_ ?_ ?_
       iterate 2 exact rfl
       exact HEq.rfl
       iterate 4 exact ⟨rfl, rfl⟩
       exact Nat.le_of_ble_eq_true rfl)
    | (with_reducible refine Sim.rawNullary ?_ ?_ ?_ ?_ ?_
       exact rfl
       exact HEq.rfl
       iterate 2 exact ⟨rfl, rfl⟩)
  refine Sim.weaken (ReadyK x i) (ReadyK.stable x i) ?_ Sim.stop
  rintro V ⟨⟨⟨⟨⟨⟨⟨⟨⟨⟨⟨⟨⟨⟨⟨⟨⟨⟨⟨⟨⟨hx, hi⟩, h17⟩, hc6⟩, h18⟩, h19⟩, h20⟩, h21⟩, h22⟩, h23⟩, h24⟩, hc7⟩, h25⟩, h26⟩, h27⟩, h28⟩, h29⟩, h30⟩, h31⟩, h32⟩, h33⟩, h34⟩
  refine ⟨⟨hx, ?_⟩, ?_⟩
  · rw [h33, h32, h31, h30, h29, h28, h27, h26, h25, hc7, h24, h23, h22, h21, h20, h19, h18, hc6, h17, hi]
    rfl
  · rw [h34, hx]
    rfl

end Kernel

/-! ## The reference -/

section Reference

open Cert.ReferenceIdeal Cert.ReferenceIdeal.Gen

/-- A number below zero counts from the end. -/
def wrapped (i : IVec S4x4096x1 32) : IVec S4x4096x1 32 :=
  select (cmpi .slt i (broadcastInDim S4x4096x1 ![] bcast_S_S4x4096x1 (constantI S_ 32 0#32)))
    (addi i (broadcastInDim S4x4096x1 ![] bcast_S_S4x4096x1 (constantI S_ 32 8192#32))) i

/-- Which numbers are numbers of rows. -/
def inside (i : IVec S4x4096x1 32) : IVec S4x4096x1 1 :=
  andi (cmpi .sge i (broadcastInDim S4x4096x1 ![] bcast_S_S4x4096x1 (constantI S_ 32 0#32)))
    (cmpi .sle i (broadcastInDim S4x4096x1 ![0, 1, 2] bcast_S1x1x1_S4x4096x1_0_1_2
      (broadcastInDim S1x1x1 ![2] bcast_S1_S1x1x1_2 (constantI S1 32 8191#32))))

/-- The rows taken, none where the number is no row's. -/
def takenOf (x : S4x8192x1024.Idx → F .f32) (i : IVec S4x4096x1 32) : S4x4096x1024.Idx → F .f32 :=
  select
    (broadcastInDim S4x4096x1024 ![0, 1] bcast_S4x4096_S4x4096x1024_0_1
      (Host.reduce IntOp.andi (inside i) (constantI S_ 1 1#1) reducesTo_S4x4096x1_S4x4096_d2 h_S_))
    (Host.gather gather_S4x8192x1024_S4x4096x1_S4x4096x1024_2_1_0_0_1_2_111024 x i)
    (broadcastInDim S4x4096x1024 ![] bcast_S_S4x4096x1024 (constant S_ .f32 0x7FC00000#32))

/-- The argument and the row numbers, before. -/
def KnownR (x : S4x8192x1024.Idx → F .f32) (i : IVec S4x4096 32) : Valuation τ sig (Elt F) → Prop := fun V =>
  V (Proc.devRef .tc main_arg0) = x ∧ V (Proc.devRef .tc main_v16) = i

/-- The argument and the rows taken, after. -/
def ReadyR (x : S4x8192x1024.Idx → F .f32) (i : IVec S4x4096 32) : Valuation τ sig (Elt F) → Prop := fun V =>
  V (Proc.devRef .tc main_arg0) = x ∧ V (Proc.devRef .tc main_v18)
    = takenOf x (wrapped (broadcastInDim S4x4096x1 ![0, 1] bcast_S4x4096_S4x4096x1_0_1 i))

theorem ReadyR.stable (x : S4x8192x1024.Idx → F .f32) (i : IVec S4x4096 32) : Stable 819 (ReadyR x i) :=
  (Stable.rd (n := 819) (k := 0) (x := (.of main_arg0 : TRef sig ⟨S4x8192x1024, .f32⟩)) ⟨rfl, rfl⟩ (by decide)
      fun w : BufTy.Contents (Elt F) ⟨S4x8192x1024, .f32⟩ => w = x).and
    (Stable.rd (n := 819) (k := 818) (x := (.of main_v18 : TRef sig ⟨S4x4096x1024, .f32⟩)) ⟨rfl, rfl⟩ (by decide)
      fun w : BufTy.Contents (Elt F) ⟨S4x4096x1024, .f32⟩ =>
        w = takenOf x (wrapped (broadcastInDim S4x4096x1 ![0, 1] bcast_S4x4096_S4x4096x1_0_1 i)))

/-- From the row numbers to the result. -/
theorem sim_afterR (x : S4x8192x1024.Idx → F .f32) (i : IVec S4x4096 32) :
    Sim 796 (KnownR x i) (afterR (F := F)) (afterR (F := F)) 819 (ReadyR x i) (pure ⟨⟩) (pure ⟨⟩) := by
  unfold afterR fn_take_along_axis.body
  simp only [bind_assoc, pure_bind]
  with_reducible refine Sim.rawUnary ?_ ?_ ?_ ?_ ?_ ?_ ?_ ?_ ?_
  iterate 2 exact rfl
  exact HEq.rfl
  iterate 4 exact ⟨rfl, rfl⟩
  exact Nat.le_of_ble_eq_true rfl
  iterate 22 first
    | (with_reducible refine Sim.binary' ?_ ?_ ?_ ?_ ?_ ?_ ?_ ?_ ?_
       iterate 6 exact ⟨rfl, rfl⟩
       iterate 2 exact Nat.le_of_ble_eq_true rfl)
    | (with_reducible refine Sim.unary' ?_ ?_ ?_ ?_ ?_ ?_
       iterate 4 exact ⟨rfl, rfl⟩
       exact Nat.le_of_ble_eq_true rfl)
    | (with_reducible refine Sim.ternary' ?_ ?_ ?_ ?_ ?_ ?_ ?_ ?_ ?_ ?_ ?_ ?_
       iterate 8 exact ⟨rfl, rfl⟩
       iterate 3 exact Nat.le_of_ble_eq_true rfl)
    | (with_reducible refine Sim.nullary' ?_ ?_ ?_
       iterate 2 exact ⟨rfl, rfl⟩)
  refine Sim.weaken (ReadyR x i) (ReadyR.stable x i) ?_ Sim.stop
  rintro V ⟨⟨⟨⟨⟨⟨⟨⟨⟨⟨⟨⟨⟨⟨⟨⟨⟨⟨⟨⟨⟨⟨⟨⟨hx, hi⟩, h17⟩, hc⟩, h0⟩, h1⟩, hc0⟩, h2⟩, h3⟩, h4⟩, hc1⟩, hc2⟩, h5⟩, h6⟩, h7⟩, h8⟩, h9⟩, h10⟩, hc3⟩, h11⟩, h12⟩, h13⟩, hcst⟩, h14⟩, h15⟩
  have ex : rd V (.of main_arg0 : TRef sig ⟨S4x8192x1024, .f32⟩) = x := hx
  have ei : rd V (.of main_v17 : TRef sig ⟨S4x4096x1, .i32⟩)
      = broadcastInDim S4x4096x1 ![0, 1] bcast_S4x4096_S4x4096x1_0_1 i :=
    (show V (Proc.devRef .tc main_v17) = _ from h17).trans (by rw [hi])
  have e4 : rd V main_call2.v4 = wrapped (broadcastInDim S4x4096x1 ![0, 1] bcast_S4x4096_S4x4096x1_0_1 i) := by
    rw [h4, h3, h2, hc0, h1, h0, hc, ei]
    rfl
  refine ⟨hx, (show V (Proc.devRef .tc main_v18) = _ from h15).trans ?_⟩
  rw [h14, hcst, h13, h12, h11, hc3, h10, h9, h8, h7, hc1, h6, h5, hc2, e4, ex]
  rfl

end Reference

end Cert.Proof.Tails

end
-- ==== Proof.Values.lean ====
/-
  The two results are the same rows. The kernel's lists name, for output row `r`, the four pieces of the row that the
  reference takes; a gathered piece is 256 of its 1024 numbers.
-/
module

public import proofs.«01_k».proof.Proof.Tails
public import Idealize.ShloMosaic.Lib.Pointwise

@[expose] public section

set_option maxRecDepth 4000

noncomputable section

namespace Cert.Proof.Values

open Idealize.ShloMosaic Cert.Proof Cert.Proof.Tails

/-! ## The kernel -/

section Kernel

open Cert.KernelIdeal Cert.KernelIdeal.Gen

/-- Entry `c` of row `b` of list `a` names a piece of the row that the numbers say. -/
theorem listsOf_toNat (i : IVec S4x4096 32) (hi : ∀ j, (i j).toNat < 8192) (a : Fin 32) (b : Fin 32) (c : Fin 64) :
    (listsOf i (ix3 a b c)).toNat
      = ((i (ix2 (n0 := 4) (n1 := 4096) ⟨(a.val * 512 + b.val * 16 + c.val / 4) / 4096, by omega⟩
          ⟨(a.val * 512 + b.val * 16 + c.val / 4) % 4096, by omega⟩)).toNat
          + (a.val * 512 + b.val * 16 + c.val / 4) / 4096 * 8192) * 4 + c.val % 4 := by
  pointwise [listsOf, piecesOf, rowsOf]
  have h := hi (ix2 (n0 := 4) (n1 := 4096) ⟨(a.val * 512 + b.val * 16 + c.val / 4) / 4096, by omega⟩
    ⟨(a.val * 512 + b.val * 16 + c.val / 4) % 4096, by omega⟩)
  simp only [IntOp.addi, IntOp.muli, BitVec.toNat_add, BitVec.toNat_mul, BitVec.toNat_ofNat]
  omega

/-- Every entry names a piece of the table. -/
theorem listsOf_lt (i : IVec S4x4096 32) (hi : ∀ j, (i j).toNat < 8192) (j : S32x32x64.Idx) : (listsOf i j).toNat < 131072 := by
  obtain ⟨a, b, c, rfl⟩ : ∃ (a : Fin 32) (b : Fin 32) (c : Fin 64), j = ix3 a b c := ⟨j 0, j 1, j 2, eq_ix3 j⟩
  have h := hi (ix2 (n0 := 4) (n1 := 4096) ⟨(a.val * 512 + b.val * 16 + c.val / 4) / 4096, by omega⟩
    ⟨(a.val * 512 + b.val * 16 + c.val / 4) % 4096, by omega⟩)
  rw [listsOf_toNat i hi]
  omega

variable {F : FTy → Type} [FloatOps F]

/-- The table's pieces: two lines of 128 numbers of the 1024 of a row. -/
theorem piece_at {α : Type} (x : S4x8192x1024.Idx → α) (q : Fin 131072) (a : Fin 2) (l : Fin 128) :
    shapeCast S131072x2x128 x shapeCasts_S4x8192x1024_S131072x2x128 (ix3 q a l)
      = x (ix3 ⟨q.val / 32768, by omega⟩ ⟨q.val / 4 % 8192, by omega⟩ ⟨q.val % 4 * 256 + a.val * 128 + l.val, by omega⟩) := by
  pointwise

/-- What is gathered, read by coordinates. -/
theorem gathered_at (T : S131072x2x128.Idx → F .f32) (ls : IVec S32x32x64 32) (k : Fin 65536) (a : Fin 2) (l : Fin 128) :
    Launch.gathered T ls (ix3 k a l)
      = T (ix3 ⟨(ls (ix3 ⟨k.val / 2048, by omega⟩ ⟨k.val / 64 % 32, by omega⟩ ⟨k.val % 64, by omega⟩)).toNat % 131072,
          Nat.mod_lt _ (by decide)⟩ a l) := rfl

/-- The result's numbers, piece by piece. -/
theorem result_at {α : Type} (y : S65536x2x128.Idx → α) (b : Fin 4) (p : Fin 4096) (f : Fin 1024) :
    shapeCast S4x4096x1024 y shapeCasts_S65536x2x128_S4x4096x1024 (ix3 b p f)
      = y (ix3 ⟨b.val * 16384 + p.val * 4 + f.val / 256, by omega⟩ ⟨f.val / 128 % 2, by omega⟩ ⟨f.val % 128, by omega⟩) := by
  pointwise

/-- The kernel's result: row `p` of batch `b` is the row its number names. -/
theorem kernel_value (x : S4x8192x1024.Idx → F .f32) (i : IVec S4x4096 32) (hi : ∀ j, (i j).toNat < 8192)
    (b : Fin 4) (p : Fin 4096) (f : Fin 1024) :
    shapeCast S4x4096x1024
        (Launch.gathered (shapeCast S131072x2x128 x shapeCasts_S4x8192x1024_S131072x2x128) (listsOf i))
        shapeCasts_S65536x2x128_S4x4096x1024 (ix3 b p f)
      = x (ix3 b ⟨(i (ix2 b p)).toNat, hi _⟩ f) := by
  rw [result_at]
  rw [gathered_at, piece_at]
  have h := hi (ix2 b p)
  have hq : b.val * 16384 + p.val * 4 + f.val / 256 < 65536 := by omega
  have e := listsOf_toNat i hi ⟨(b.val * 16384 + p.val * 4 + f.val / 256) / 2048, by omega⟩
    ⟨(b.val * 16384 + p.val * 4 + f.val / 256) / 64 % 32, by omega⟩ ⟨(b.val * 16384 + p.val * 4 + f.val / 256) % 64, by omega⟩
  generalize (listsOf i _).toNat = q at e ⊢
  dsimp only at e
  have e₁ : ((b.val * 16384 + p.val * 4 + f.val / 256) / 2048 * 512 + (b.val * 16384 + p.val * 4 + f.val / 256) / 64 % 32 * 16
      + (b.val * 16384 + p.val * 4 + f.val / 256) % 64 / 4) = b.val * 4096 + p.val := by omega
  have e₂ : (b.val * 4096 + p.val) / 4096 = b.val := by omega
  have e₃ : (b.val * 4096 + p.val) % 4096 = p.val := by omega
  have e₄ : (b.val * 16384 + p.val * 4 + f.val / 256) % 64 % 4 = f.val / 256 := by omega
  simp only [e₁, e₂, e₃, e₄, Fin.eta] at e
  congr 2 <;> apply Fin.ext <;> dsimp only <;> omega

end Kernel

/-! ## The reference -/

section Reference

open Cert.ReferenceIdeal Cert.ReferenceIdeal.Gen

variable {F : FTy → Type} [FloatOps F]

/-- The gather's dimension numbers. -/
abbrev dims : GatherDims S4x8192x1024 S4x4096x1 S4x4096x1024 :=
  gather_S4x8192x1024_S4x4096x1_S4x4096x1024_2_1_0_0_1_2_111024

/-- The start index read for an output element is its row's number. -/
theorem start_at (b : Fin 4) (p : Fin 4096) (f : Fin 1024) (c : Fin dims.startIndexMap.length) :
    dims.siIdx (ix3 b p f) c = ix3 b p 0 := by
  funext a
  match a with
  | ⟨0, _⟩ => rfl
  | ⟨1, _⟩ => rfl
  | ⟨2, _⟩ => exact Subsingleton.elim (α := Fin 1) _ _

/-- The row taken: the start index's, clamped. -/
theorem gather_row {α : Type} (x : S4x8192x1024.Idx → α) (i : IVec S4x4096x1 32) (b : Fin 4) (p : Fin 4096) (f : Fin 1024) :
    Host.gather dims x i (ix3 b p f) = x (ix3 b ⟨min (i (ix3 b p 0)).toInt.toNat 8191, by omega⟩ f) := by
  unfold Host.gather
  congr 1
  funext a
  apply Fin.ext
  match a with
  | ⟨0, _⟩ =>
    have h : dims.batchCoord (ix3 b p f) 0 = b.val := rfl
    have h' : dims.offCoord (ix3 b p f) 0 = 0 := rfl
    have h'' : dims.start (ix3 b p f) i 0 = 0 := rfl
    show dims.start (ix3 b p f) i 0 + dims.batchCoord (ix3 b p f) 0 + dims.offCoord (ix3 b p f) 0 = b.val
    rw [h, h', h'', Nat.zero_add, Nat.add_zero]
  | ⟨1, _⟩ =>
    have h : dims.batchCoord (ix3 b p f) 1 = 0 := rfl
    have h' : dims.offCoord (ix3 b p f) 1 = 0 := rfl
    have h'' : dims.start (ix3 b p f) i 1 = min (i (ix3 b p 0)).toInt.toNat 8191 := by
      rw [← start_at b p f ⟨0, by decide⟩]
      rfl
    show dims.start (ix3 b p f) i 1 + dims.batchCoord (ix3 b p f) 1 + dims.offCoord (ix3 b p f) 1 = _
    rw [h, h', h'']
    rfl
  | ⟨2, _⟩ =>
    have h : dims.batchCoord (ix3 b p f) 2 = 0 := rfl
    have h' : dims.offCoord (ix3 b p f) 2 = f.val := rfl
    have h'' : dims.start (ix3 b p f) i 2 = 0 := rfl
    show dims.start (ix3 b p f) i 2 + dims.batchCoord (ix3 b p f) 2 + dims.offCoord (ix3 b p f) 2 = f.val
    rw [h, h', h'', Nat.zero_add]

/-! A number below 8192 is not negative, and at most 8191. -/

theorem toInt_small (w : BitVec 32) (hw : w.toNat < 8192) : w.toInt = w.toNat := BitVec.toInt_eq_toNat_of_lt (by omega)

theorem not_negative (w : BitVec 32) (hw : w.toNat < 8192) : IntOp.cmpi .slt w 0#32 = 0#1 := by
  have h : w.slt 0#32 = false := by
    rw [BitVec.slt, toInt_small w hw]
    simp
  simp [IntOp.cmpi, h]

theorem at_least (w : BitVec 32) (hw : w.toNat < 8192) : IntOp.cmpi .sge w 0#32 = 1#1 := by
  have h : (0#32).sle w = true := by
    rw [BitVec.sle, toInt_small w hw]
    simp
  simp [IntOp.cmpi, h]

theorem at_most (w : BitVec 32) (hw : w.toNat < 8192) : IntOp.cmpi .sle w 8191#32 = 1#1 := by
  have h : w.sle 8191#32 = true := by
    rw [BitVec.sle, toInt_small w hw]
    simp
    omega
  simp [IntOp.cmpi, h]

/-- The reference's result. -/
theorem reference_value (x : S4x8192x1024.Idx → F .f32) (i : IVec S4x4096 32) (hi : ∀ j, (i j).toNat < 8192)
    (b : Fin 4) (p : Fin 4096) (f : Fin 1024) :
    takenOf x (wrapped (broadcastInDim S4x4096x1 ![0, 1] bcast_S4x4096_S4x4096x1_0_1 i)) (ix3 b p f)
      = x (ix3 b ⟨(i (ix2 b p)).toNat, hi _⟩ f) := by
  have h := hi (ix2 b p)
  have e : wrapped (broadcastInDim S4x4096x1 ![0, 1] bcast_S4x4096_S4x4096x1_0_1 i)
      = broadcastInDim S4x4096x1 ![0, 1] bcast_S4x4096_S4x4096x1_0_1 i := by
    funext j
    have hj := hi (ix2 (j 0) (j 1))
    pointwise [wrapped]
    rw [not_negative _ hj]
    rfl
  rw [e]
  unfold takenOf
  show Scalar.select _ (Host.gather dims x _ (ix3 b p f)) _ = _
  rw [gather_row]
  pointwise [inside]
  rw [at_least _ h, at_most _ h]
  have hm : Finset.fold IntOp.andi 1#1 (fun _ => IntOp.andi 1#1 1#1) (Finset.univ : Finset (Fin 1)) = 1#1 := by decide
  refine (congrArg (fun c => Scalar.select c _ _) hm).trans ?_
  refine congrArg (fun r => x (ix3 b r f)) (Fin.ext ?_)
  have hw := toInt_small _ h
  dsimp only
  omega

end Reference

end Cert.Proof.Values

end
-- ==== Proof.Runs.lean ====
/-
  The two runs. Both mains are lines of host operations as far as the row numbers, the reference's to its end and the
  kernel's to its SparseCore call; the lines are found by `Sim`, and what they leave is the row numbers (equal in both,
  each a row's) and, from these, the lists and the table of the kernel's call and the reference's result.
-/
module

public import proofs.«01_k».proof.Proof.Values
public import Idealize.ShloMosaic.Lib.Quiescent

@[expose] public section

noncomputable section

namespace Cert.Proof.Runs

open Idealize.ShloMosaic Idealize.ShloMosaic.StableHlo Idealize.SL.Sem
open Cert.Proof.Sim Cert.Proof.Prefix Cert.Proof.Tails

variable {F : FTy → Type} [FloatOps F]

/-- A program's buffers agree with themselves. -/
theorem agree_self {Val : EltTy → Type} {τ : Topo} {sig : RefSig} (n : ℕ) (V : Valuation τ sig Val) : Agree n V V := by
  intro T x₁ x₂ k h₁ h₂ _
  obtain ⟨e, q⟩ := tref_heq (h₁.ref_eq h₂)
  have q' : x₁ = x₂ := q
  rw [q']

/-- The table, at its type. -/
abbrev Table (F : FTy → Type) : Type := KernelIdeal.S4x8192x1024.Idx → F .f32

section Kernel

open Cert.KernelIdeal Cert.KernelIdeal.Gen

/-- The argument is `x`. -/
def HoldsK (x : Table F) : Pred F := fun V => V (Proc.devRef .tc main_arg0) = x

theorem HoldsK.stable (x : Table F) : Stable 1 (HoldsK x) :=
  Stable.rd (n := 1) (k := 0) (x := (.of main_arg0 : TRef sig ⟨S4x8192x1024, .f32⟩)) ⟨rfl, rfl⟩ (by decide)
    fun w : BufTy.Contents (Elt F) ⟨S4x8192x1024, .f32⟩ => w = x

theorem knownK_stable (x : Table F) (i : IVec S4x4096 32) : Stable 796 (KnownK x i) :=
  (Stable.rd (n := 796) (k := 0) (x := (.of main_arg0 : TRef sig ⟨S4x8192x1024, .f32⟩)) ⟨rfl, rfl⟩ (by decide)
      fun w : BufTy.Contents (Elt F) ⟨S4x8192x1024, .f32⟩ => w = x).and
    (Stable.rd (n := 796) (k := 795) (x := (.of main_v16 : TRef sig ⟨S4x4096, .i32⟩)) ⟨rfl, rfl⟩ (by decide)
      fun w : BufTy.Contents (Elt F) ⟨S4x4096, .i32⟩ => w = i)

end Kernel

section Reference

open Cert.ReferenceIdeal Cert.ReferenceIdeal.Gen

theorem knownR_stable (x : Table F) (i : IVec S4x4096 32) : Stable 796 (KnownR x i) :=
  (Stable.rd (n := 796) (k := 0) (x := (.of main_arg0 : TRef sig ⟨S4x8192x1024, .f32⟩)) ⟨rfl, rfl⟩ (by decide)
      fun w : BufTy.Contents (Elt F) ⟨S4x8192x1024, .f32⟩ => w = x).and
    (Stable.rd (n := 796) (k := 795) (x := (.of main_v16 : TRef sig ⟨S4x4096, .i32⟩)) ⟨rfl, rfl⟩ (by decide)
      fun w : BufTy.Contents (Elt F) ⟨S4x4096, .i32⟩ => w = i)

/-- Nothing of the reference's is scoped. -/
theorem no_scoped_ref : (Finset.univ.filter fun b : Ref sig .tc => b.isScoped) = ∅ := by
  refine Finset.filter_eq_empty_iff.mpr ?_
  rintro ⟨sp, ix, h⟩ _
  cases sp <;> first | exact Bool.false_ne_true | exact ix.elim0

theorem no_scoped_sem : (Finset.univ.filter fun sm : SemLoc sig => sm.isScoped .tc) = ∅ := by decide

end Reference

/-- Both lines, from the same table: the kernel's up to its call and the whole of the reference's, what they leave being
    told by one and the same array of row numbers. -/
theorem lines (d : Dev KernelIdeal.nD) (d' : Dev ReferenceIdeal.nD) (x : Table F)
    (V₁ : Valuation KernelIdeal.τ KernelIdeal.sig (Elt F)) (V₂ : Valuation ReferenceIdeal.τ ReferenceIdeal.sig (Elt F))
    (h₁ : V₁ (Proc.devRef .tc KernelIdeal.main_arg0) = x) (h₂ : V₂ (Proc.devRef .tc ReferenceIdeal.main_arg0) = x) :
    ∃ (opsK : List (HloOp KernelIdeal.τ KernelIdeal.sig (Elt F))) (opsR : List (HloOp ReferenceIdeal.τ ReferenceIdeal.sig (Elt F)))
      (i : IVec KernelIdeal.S4x4096 32),
      KernelIdeal.main (F := F) d = (seq opsK >>= fun _ => Launch.rest (F := F) d) ∧ ReferenceIdeal.main (F := F) d' = seq opsR
      ∧ Good opsK ∧ Good opsR ∧ (∀ j, (i j).toNat < 8192) ∧ ReadyK x i (after opsK V₁) ∧ ReadyR x i (after opsR V₂) := by
  obtain ⟨-, o₁, o₂, e₁, e₂, g₁, g₂, hv⟩ := sim_main (F := F) (HoldsK x) (HoldsK.stable x) d d' (HoldsK.stable x)
  have hA : Agree 1 V₁ V₂ := by
    intro T x₁ x₂ k a₁ a₂ hk
    obtain rfl : k = 0 := by omega
    obtain ⟨q₁, r₁⟩ := tref_heq (y := (.of KernelIdeal.main_arg0 : TRef KernelIdeal.sig ⟨KernelIdeal.S4x8192x1024, .f32⟩))
      (a₁.ref_eq (y := KernelIdeal.main_arg0) ⟨rfl, rfl⟩)
    obtain ⟨q₂, r₂⟩ := tref_heq (y := (.of ReferenceIdeal.main_arg0 : TRef ReferenceIdeal.sig ⟨KernelIdeal.S4x8192x1024, .f32⟩))
      (a₂.ref_eq (y := ReferenceIdeal.main_arg0) ⟨rfl, rfl⟩)
    subst q₁
    subst r₁ r₂
    exact h₁.trans h₂.symm
  obtain ⟨hA', hx, hi⟩ := hv V₁ V₂ hA h₁
  have hx' : after o₂ V₂ (Proc.devRef .tc ReferenceIdeal.main_arg0) = x :=
    (hA' (.of KernelIdeal.main_arg0 : TRef KernelIdeal.sig ⟨KernelIdeal.S4x8192x1024, .f32⟩)
      (.of ReferenceIdeal.main_arg0 : TRef ReferenceIdeal.sig ⟨KernelIdeal.S4x8192x1024, .f32⟩) 0 ⟨rfl, rfl⟩ ⟨rfl, rfl⟩ (by decide)).symm.trans hx
  have hi' : after o₂ V₂ (Proc.devRef .tc ReferenceIdeal.main_v16) = after o₁ V₁ (Proc.devRef .tc KernelIdeal.main_v16) :=
    (hA' (.of KernelIdeal.main_v16 : TRef KernelIdeal.sig ⟨KernelIdeal.S4x4096, .i32⟩)
      (.of ReferenceIdeal.main_v16 : TRef ReferenceIdeal.sig ⟨KernelIdeal.S4x4096, .i32⟩) 795 ⟨rfl, rfl⟩ ⟨rfl, rfl⟩ (by decide)).symm
  obtain ⟨-, oK, _, eK, _, gK, _, hvK⟩ := sim_afterK d x _ (knownK_stable x (after o₁ V₁ (Proc.devRef .tc KernelIdeal.main_v16)))
  obtain ⟨-, oR, _, eR, _, gR, _, hvR⟩ := sim_afterR x _ (knownR_stable x (after o₁ V₁ (Proc.devRef .tc KernelIdeal.main_v16)))
  refine ⟨o₁ ++ oK, o₂ ++ oR, after o₁ V₁ (Proc.devRef .tc KernelIdeal.main_v16), ?_, ?_, g₁.append gK, g₂.append gR, hi, ?_, ?_⟩
  · rw [e₁, eK, seq_append, bind_assoc]
  · rw [e₂, eR, seq_append]
    exact congrArg (fun k => seq o₂ >>= k) (funext fun _ => bind_pure _)
  · rw [after_append]
    exact (hvK _ _ (agree_self _ _) ⟨hx, rfl⟩).2
  · rw [after_append]
    exact (hvR _ _ (agree_self _ _) ⟨hx', hi'⟩).2

/-- The launch's contents of the two arguments being equal, both programs run to one and the same result, leave their
    arguments as they were, and leave the kernel's semaphores at zero. -/
theorem runs [∀ e, Nonempty (Elt F e)]
    (m : (ℓ : Loc KernelIdeal.nD KernelIdeal.τ KernelIdeal.sig) → Buf (Elt F) ℓ) (ρ : Dev KernelIdeal.nD → PrngReg)
    (m' : (ℓ : Loc ReferenceIdeal.nD ReferenceIdeal.τ ReferenceIdeal.sig) → Buf (Elt F) ℓ) (ρ' : Dev ReferenceIdeal.nD → PrngReg)
    (hm : ∀ c : Dev KernelIdeal.nD, m' ((c.tc : Thread ReferenceIdeal.nD ReferenceIdeal.τ).loc ReferenceIdeal.main_arg0)
      = m ((c.tc : Thread KernelIdeal.nD KernelIdeal.τ).loc KernelIdeal.main_arg0)) :
    ∃ v : (c : Dev KernelIdeal.nD) → Buf (Elt F) ((c.tc : Thread KernelIdeal.nD KernelIdeal.τ).loc KernelIdeal.main_v36),
      θ_run (KernelIdeal.defs (F := F)) (KernelIdeal.threads (F := F)) ⟨m, fun _ => 0, ρ⟩ (fun r =>
        (∀ c : Dev KernelIdeal.nD, r.2.mem ((c.tc : Thread KernelIdeal.nD KernelIdeal.τ).loc KernelIdeal.main_v36) = v c
          ∧ r.2.mem ((c.tc : Thread KernelIdeal.nD KernelIdeal.τ).loc KernelIdeal.main_arg0)
            = m ((c.tc : Thread KernelIdeal.nD KernelIdeal.τ).loc KernelIdeal.main_arg0))
        ∧ r.2.sem = fun _ => 0)
      ∧ θ_run (ReferenceIdeal.defs (F := F)) (onTc (τ := ReferenceIdeal.τ) (ReferenceIdeal.main (F := F))) ⟨m', fun _ => 0, ρ'⟩ (fun r =>
        ∀ c : Dev KernelIdeal.nD, r.2.mem ((c.tc : Thread ReferenceIdeal.nD ReferenceIdeal.τ).loc ReferenceIdeal.main_v18) = v c
          ∧ r.2.mem ((c.tc : Thread ReferenceIdeal.nD ReferenceIdeal.τ).loc ReferenceIdeal.main_arg0)
            = m' ((c.tc : Thread ReferenceIdeal.nD ReferenceIdeal.τ).loc ReferenceIdeal.main_arg0)) := by
  choose opsK opsR i eK eR gK gR hi hK hR using fun c : Dev KernelIdeal.nD =>
    lines c c (m ((c.tc : Thread KernelIdeal.nD KernelIdeal.τ).loc KernelIdeal.main_arg0)) (launchContents m c)
      (launchContents m' c) rfl (hm c)
  refine ⟨fun c => takenOf (F := F) (m ((c.tc : Thread KernelIdeal.nD KernelIdeal.τ).loc KernelIdeal.main_arg0))
    (wrapped (broadcastInDim ReferenceIdeal.S4x4096x1 ![0, 1] ReferenceIdeal.Gen.bcast_S4x4096_S4x4096x1_0_1 (i c))), ?_, ?_⟩
  · have hl : ∀ c, (Launch.given m opsK).ls c = listsOf (i c) := fun c => (hK c).1.2
    have ht : ∀ c, (Launch.given m opsK).tbl c
        = shapeCast KernelIdeal.S131072x2x128 (m ((c.tc : Thread KernelIdeal.nD KernelIdeal.τ).loc KernelIdeal.main_arg0))
          KernelIdeal.Gen.shapeCasts_S4x8192x1024_S131072x2x128 := fun c => (hK c).2
    refine (θ_run _ _ _).mono (fun r h => ⟨fun c => ⟨(h.1 c).2.trans ?_, (h.1 c).1.trans (hK c).1.1⟩, h.2⟩)
      (Launch.run_main m ρ opsK eK gK fun c j => ?_)
    · rw [hl]
      exact Values.listsOf_lt _ (hi c) j
    · rw [hl, ht]
      funext j
      rw [eq_ix3 j]
      exact (Values.kernel_value _ _ (hi c) _ _ _).trans (Values.reference_value _ _ (hi c) _ _ _).symm
  · refine (θ_run _ _ _).mono (fun r h c => ⟨(h c ReferenceIdeal.main_v18).trans (hR c).2,
      (h c ReferenceIdeal.main_arg0).trans ((hR c).1.trans (hm c).symm)⟩)
      (run_seq no_scoped_ref no_scoped_sem _ _ opsR eR (fun c => List.forall_iff_forall_mem.mpr fun o ho => (gR c o ho).1) m' ρ'
        fun c o ho => (gR c o ho).2)

end Cert.Proof.Runs

end
-- ==== Proof.lean ====
/-
  The claims: the kernel and its idealization run and leave their argument and every semaphore as they were, so does the
  reference, and from equal arguments the kernel and the reference end with equal results. All come from `Runs.runs`, which
  speaks of both programs at once and of floats of any kind; where a claim is of one program alone, the other is given a
  memory whose argument is the same.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Runs

@[expose] public section

noncomputable section

namespace Cert.Proof

open Idealize.ShloMosaic Idealize.SL.Sem

variable {F : FTy → Type} [FloatOps F]

/-- A memory of the reference with a given argument. -/
theorem reference_memory [∀ e, Nonempty (Elt F e)] (m : (ℓ : Loc KernelIdeal.nD KernelIdeal.τ KernelIdeal.sig) → Buf (Elt F) ℓ) :
    ∃ m' : (ℓ : Loc ReferenceIdeal.nD ReferenceIdeal.τ ReferenceIdeal.sig) → Buf (Elt F) ℓ, ∀ c : Dev KernelIdeal.nD,
      m' ((c.tc : Thread ReferenceIdeal.nD ReferenceIdeal.τ).loc ReferenceIdeal.main_arg0)
        = m ((c.tc : Thread KernelIdeal.nD KernelIdeal.τ).loc KernelIdeal.main_arg0) := by
  classical
  refine ⟨Function.update (fun ℓ _ => Classical.arbitrary _)
    (((0 : Dev 1).tc : Thread ReferenceIdeal.nD ReferenceIdeal.τ).loc ReferenceIdeal.main_arg0)
    (m (((0 : Dev 1).tc : Thread KernelIdeal.nD KernelIdeal.τ).loc KernelIdeal.main_arg0)), fun c => ?_⟩
  obtain rfl : c = (0 : Dev 1) := Subsingleton.elim _ _
  exact Function.update_self _ _ _

/-- A memory of the kernel with a given argument. -/
theorem kernel_memory [∀ e, Nonempty (Elt F e)] (m' : (ℓ : Loc ReferenceIdeal.nD ReferenceIdeal.τ ReferenceIdeal.sig) → Buf (Elt F) ℓ) :
    ∃ m : (ℓ : Loc KernelIdeal.nD KernelIdeal.τ KernelIdeal.sig) → Buf (Elt F) ℓ, ∀ c : Dev KernelIdeal.nD,
      m' ((c.tc : Thread ReferenceIdeal.nD ReferenceIdeal.τ).loc ReferenceIdeal.main_arg0)
        = m ((c.tc : Thread KernelIdeal.nD KernelIdeal.τ).loc KernelIdeal.main_arg0) := by
  classical
  refine ⟨Function.update (fun ℓ _ => Classical.arbitrary _)
    (((0 : Dev 1).tc : Thread KernelIdeal.nD KernelIdeal.τ).loc KernelIdeal.main_arg0)
    (m' (((0 : Dev 1).tc : Thread ReferenceIdeal.nD ReferenceIdeal.τ).loc ReferenceIdeal.main_arg0)), fun c => ?_⟩
  obtain rfl : c = (0 : Dev 1) := Subsingleton.elim _ _
  refine Eq.symm (Function.update_self (((0 : Dev 1).tc : Thread KernelIdeal.nD KernelIdeal.τ).loc KernelIdeal.main_arg0) _ _)

/-- The kernel's run at floats of any kind: its argument unchanged, every semaphore at zero. -/
theorem run_kernel [∀ e, Nonempty (Elt F e)] (m : (ℓ : Loc KernelIdeal.nD KernelIdeal.τ KernelIdeal.sig) → Buf (Elt F) ℓ)
    (ρ : Dev KernelIdeal.nD → PrngReg) :
    θ_run (KernelIdeal.defs (F := F)) (KernelIdeal.threads (F := F)) ⟨m, fun _ => 0, ρ⟩ (fun r =>
      (∀ c : Dev KernelIdeal.nD, r.2.mem ((c.tc : Thread KernelIdeal.nD KernelIdeal.τ).loc KernelIdeal.main_arg0)
        = m ((c.tc : Thread KernelIdeal.nD KernelIdeal.τ).loc KernelIdeal.main_arg0)) ∧ r.2.sem = fun _ => 0) := by
  obtain ⟨m', hm⟩ := reference_memory m
  obtain ⟨_, hK, _⟩ := Runs.runs m ρ m' ρ hm
  exact (θ_run _ _ _).mono (fun r h => ⟨fun c => (h.1 c).2, h.2⟩) hK

set_option maxHeartbeats 20000000 in
theorem frame_kernel : Cert.quiescent_Kernel := fun m ρ _ =>
  (θ_run Cert.KernelIdeal.defs _ _).mono (fun _ h => h) (run_kernel (F := Bits) m ρ)

theorem frame_kernel_ideal : Cert.quiescent_KernelIdeal := fun m ρ _ => run_kernel (F := Ideal) m ρ

theorem frame_reference : Cert.quiescent_ReferenceIdeal := fun m' ρ' _ => by
  obtain ⟨m, hm⟩ := kernel_memory (F := Ideal) m'
  obtain ⟨_, _, hR⟩ := Runs.runs m ρ' m' ρ' hm
  exact (θ_run _ _ _).mono (fun r h => ⟨fun c => (h c).2, sem_eq_zero_of_no_sems (by decide) r.2⟩) hR

/-- The result both end with is the rows taken by the reference's gather. -/
theorem algebraic : Cert.algebraic_KernelIdeal_ReferenceIdeal := fun m ρ m' ρ' _ hm => by
  obtain ⟨v, hK, hR⟩ := Runs.runs (F := Ideal) m ρ m' ρ' hm
  exact ⟨v, (θ_run _ _ _).mono (fun _ h => h.1) hK, hR⟩

theorem claim : Cert.Claim := ⟨Cert.Kernel.Gen.facts, Cert.KernelIdeal.Gen.facts, Cert.ReferenceIdeal.Gen.facts,
  frame_kernel, frame_kernel_ideal, frame_reference, trivial, algebraic⟩

end Cert.Proof

end
